-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v5_1)) (v3 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v5_1) = v2 c
          ∧ r.2.mem ((c.tc : Thread Cert.KernelIdeal.nD Cert.KernelIdeal.τ).loc Cert.KernelIdeal.main_v5_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34_0) = v0 c
          ∧ r.2.mem ((c.tc : Thread Cert.ReferenceIdeal.nD Cert.ReferenceIdeal.τ).loc Cert.ReferenceIdeal.main_v34_1) = v1 c
          ∧ r.2.mem ((c.tc : Thread Cert.ReferenceIdeal.nD Cert.ReferenceIdeal.τ).loc Cert.ReferenceIdeal.main_v34_2) = v2 c
          ∧ r.2.mem ((c.tc : Thread Cert.ReferenceIdeal.nD Cert.ReferenceIdeal.τ).loc Cert.ReferenceIdeal.main_v34_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x2048x4096 : Shape := ⟨3, ![8, 2048, 4096]⟩
abbrev S8x2048 : Shape := ⟨2, ![8, 2048]⟩
abbrev S1024x14336 : Shape := ⟨2, ![1024, 14336]⟩
abbrev S_ : Shape := ⟨0, ![]⟩
abbrev S8x2048x14336 : Shape := ⟨3, ![8, 2048, 14336]⟩

class Facts : Prop where
  bcast_S_S8x2048x14336 : S_.BroadcastsInDim S8x2048x14336 (![] : Fin 0 → Fin S8x2048x14336.rank)
  reducesTo_S8x2048x14336_S_d0_1_2 : S8x2048x14336.ReducesTo [0, 1, 2] S_
  h_S_ : 0 < S_.numel

variable [Facts]

def fn {F : FTy → Type} [FloatOps F] (main_arg0 : IVec S8x2048x4096 8) (main_arg1 : FVec F S8x2048 .f32) (main_arg2 : IVec S1024x14336 8) (main_arg3 : FVec F S_ .f32) (main_arg4 : FVec F S8x2048x14336 .bf16) : IVec S_ 1 :=
  let main_v0 : FVec F S8x2048x14336 .bf16 := Host.absf main_arg4
  let main_cst : FVec F S_ .bf16 := constant S_ .bf16 0x7F7F#16
  let main_v1 : FVec F S8x2048x14336 .bf16 := broadcastInDim S8x2048x14336 ![] bcast_S_S8x2048x14336 main_cst
  let main_v2 : IVec S8x2048x14336 1 := cmpf .ole main_v0 main_v1
  let main_c : IVec S_ 1 := constantI S_ 1 1#1
  let main_v3 : IVec S_ 1 := (fun x v => Host.reduce IntOp.andi x v reducesTo_S8x2048x14336_S_d0_1_2 h_S_) main_v2 main_c
  main_v3
-- ==== Kernel.lean ====
abbrev S8x2048x4096 : Shape := ⟨3, ![8, 2048, 4096]⟩
abbrev S8x2048 : Shape := ⟨2, ![8, 2048]⟩
abbrev S1024x14336 : Shape := ⟨2, ![1024, 14336]⟩
abbrev S_ : Shape := ⟨0, ![]⟩
abbrev S8x2048x14336 : Shape := ⟨3, ![8, 2048, 14336]⟩
abbrev S16384x14336 : Shape := ⟨2, ![16384, 14336]⟩
abbrev S16384x4096 : Shape := ⟨2, ![16384, 4096]⟩
abbrev S1x16384 : Shape := ⟨2, ![1, 16384]⟩
abbrev S4096x14336 : Shape := ⟨2, ![4096, 14336]⟩
abbrev S256x2048 : Shape := ⟨2, ![256, 2048]⟩
abbrev S1024x2048 : Shape := ⟨2, ![1024, 2048]⟩
abbrev S1x1 : Shape := ⟨2, ![1, 1]⟩
abbrev S16384x112 : Shape := ⟨2, ![16384, 112]⟩
abbrev S4096x16384 : Shape := ⟨2, ![4096, 16384]⟩
abbrev S512x1792 : Shape := ⟨2, ![512, 1792]⟩
abbrev S512x14336 : Shape := ⟨2, ![512, 14336]⟩
abbrev S512x512 : Shape := ⟨2, ![512, 512]⟩
abbrev S1x512 : Shape := ⟨2, ![1, 512]⟩
abbrev S512x112 : Shape := ⟨2, ![512, 112]⟩
abbrev S2x8x512x1792 : Shape := ⟨4, ![2, 8, 512, 1792]⟩
abbrev S128x112 : Shape := ⟨2, ![128, 112]⟩
abbrev S128x128 : Shape := ⟨2, ![128, 128]⟩
abbrev S128 : Shape := ⟨1, ![128]⟩
abbrev S128x1 : Shape := ⟨2, ![128, 1]⟩
abbrev S128x256 : Shape := ⟨2, ![128, 256]⟩
abbrev S1x1x128x128 : Shape := ⟨4, ![1, 1, 128, 128]⟩
abbrev S1x1x512x1792 : Shape := ⟨4, ![1, 1, 512, 1792]⟩
abbrev S2048x1024 : Shape := ⟨2, ![2048, 1024]⟩
abbrev S2048x2048 : Shape := ⟨2, ![2048, 2048]⟩

abbrev nBuf : Space → Nat
  | .hbm => 16
  | .vmem => 29
  | .smem => 1
  | _ => 0

abbrev bufTy : (tb : Table) → Fin (tcTables nBuf tb) → BufTy
  | .hbm, ⟨0, _⟩ => ⟨S8x2048x4096, .i8⟩
  | .hbm, ⟨1, _⟩ => ⟨S8x2048, .f32⟩
  | .hbm, ⟨2, _⟩ => ⟨S1024x14336, .i8⟩
  | .hbm, ⟨3, _⟩ => ⟨S_, .f32⟩
  | .hbm, ⟨4, _⟩ => ⟨S8x2048x14336, .bf16⟩
  | .hbm, ⟨5, _⟩ => ⟨S16384x14336, .bf16⟩
  | .hbm, ⟨6, _⟩ => ⟨S16384x4096, .i8⟩
  | .hbm, ⟨7, _⟩ => ⟨S1x16384, .f32⟩
  | .hbm, ⟨8, _⟩ => ⟨S4096x14336, .i8⟩
  | .hbm, ⟨9, _⟩ => ⟨S1x1, .f32⟩
  | .hbm, ⟨10, _⟩ => ⟨S16384x4096, .bf16⟩
  | .hbm, ⟨11, _⟩ => ⟨S16384x14336, .fp8e5m2⟩
  | .hbm, ⟨12, _⟩ => ⟨S16384x112, .f32⟩
  | .hbm, ⟨13, _⟩ => ⟨S16384x14336, .bf16⟩
  | .hbm, ⟨14, _⟩ => ⟨S4096x16384, .bf16⟩
  | .hbm, ⟨15, _⟩ => ⟨S4096x14336, .f32⟩
  | .local _ .vmem, ⟨0, _⟩ => ⟨S256x2048, .i8⟩
  | .local _ .vmem, ⟨1, _⟩ => ⟨S256x2048, .i8⟩
  | .local _ .vmem, ⟨2, _⟩ => ⟨S1024x2048, .i8⟩
  | .local _ .vmem, ⟨3, _⟩ => ⟨S1024x2048, .i8⟩
  | .local _ .vmem, ⟨4, _⟩ => ⟨S512x1792, .bf16⟩
  | .local _ .vmem, ⟨5, _⟩ => ⟨S512x1792, .bf16⟩
  | .local _ .vmem, ⟨6, _⟩ => ⟨S512x14336, .i8⟩
  | .local _ .vmem, ⟨7, _⟩ => ⟨S512x14336, .i8⟩
  | .local _ .vmem, ⟨8, _⟩ => ⟨S512x512, .i8⟩
  | .local _ .vmem, ⟨9, _⟩ => ⟨S512x512, .i8⟩
  | .local _ .vmem, ⟨10, _⟩ => ⟨S1x512, .f32⟩
  | .local _ .vmem, ⟨11, _⟩ => ⟨S1x512, .f32⟩
  | .local _ .vmem, ⟨12, _⟩ => ⟨S512x512, .bf16⟩
  | .local _ .vmem, ⟨13, _⟩ => ⟨S512x512, .bf16⟩
  | .local _ .vmem, ⟨14, _⟩ => ⟨S512x1792, .fp8e5m2⟩
  | .local _ .vmem, ⟨15, _⟩ => ⟨S512x1792, .fp8e5m2⟩
  | .local _ .vmem, ⟨16, _⟩ => ⟨S512x112, .f32⟩
  | .local _ .vmem, ⟨17, _⟩ => ⟨S512x112, .f32⟩
  | .local _ .vmem, ⟨18, _⟩ => ⟨S512x1792, .bf16⟩
  | .local _ .vmem, ⟨19, _⟩ => ⟨S512x1792, .bf16⟩
  | .local _ .vmem, ⟨20, _⟩ => ⟨S512x512, .bf16⟩
  | .local _ .vmem, ⟨21, _⟩ => ⟨S512x512, .bf16⟩
  | .local _ .vmem, ⟨22, _⟩ => ⟨S2x8x512x1792, .bf16⟩
  | .local _ .vmem, ⟨23, _⟩ => ⟨S2048x1024, .bf16⟩
  | .local _ .vmem, ⟨24, _⟩ => ⟨S2048x1024, .bf16⟩
  | .local _ .vmem, ⟨25, _⟩ => ⟨S1024x2048, .bf16⟩
  | .local _ .vmem, ⟨26, _⟩ => ⟨S1024x2048, .bf16⟩
  | .local _ .vmem, ⟨27, _⟩ => ⟨S2048x2048, .f32⟩
  | .local _ .vmem, ⟨28, _⟩ => ⟨S2048x2048, .f32⟩
  | .local _ .smem, ⟨0, _⟩ => ⟨S1x1, .f32⟩
  | _, _ => ⟨S8x2048x4096, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .smem, ⟨0, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v5_4 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg6_1 : Ref sig .tc := ⟨.vmem, 15, rfl⟩
abbrev cc1_stg7_0 : Ref sig .tc := ⟨.vmem, 16, rfl⟩
abbrev cc1_stg7_1 : Ref sig .tc := ⟨.vmem, 17, rfl⟩
abbrev cc1_stg8_0 : Ref sig .tc := ⟨.vmem, 18, rfl⟩
abbrev cc1_stg8_1 : Ref sig .tc := ⟨.vmem, 19, rfl⟩
abbrev cc1_stg9_0 : Ref sig .tc := ⟨.vmem, 20, rfl⟩
abbrev cc1_stg9_1 : Ref sig .tc := ⟨.vmem, 21, rfl⟩
abbrev cc1_scratch0 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc1_stg0_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem4_1 : DmaSem sig := 12
abbrev cc1_sem5_0 : DmaSem sig := 13
abbrev cc1_sem5_1 : DmaSem sig := 14
abbrev cc1_sem6_0 : DmaSem sig := 15
abbrev cc1_sem6_1 : DmaSem sig := 16
abbrev cc1_sem7_0 : DmaSem sig := 17
abbrev cc1_sem7_1 : DmaSem sig := 18
abbrev cc1_sem8_0 : DmaSem sig := 19
abbrev cc1_sem8_1 : DmaSem sig := 20
abbrev cc1_sem9_0 : DmaSem sig := 21
abbrev cc1_sem9_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem2_1 : DmaSem sig := 28

abbrev nD : Nat := 1
abbrev τ : Topo := Topo.v7x

variable {F : FTy → Type} [FloatOps F]

abbrev grid0 : Pipeline.Grid := ⟨2, ![4, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![33, 8], ![false, false]⟩

def k1_cond2 (i : grid1.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

def k1_off1 (i : grid1.Coords) : Fin 4 → Nat :=
  let arg0 : BitVec 32 := BitVec.ofNat 32 (i 0).val
  let c2_i32 : BitVec 32 := 2#32
  let v9 : BitVec 32 := Scalar.remsi arg0 c2_i32
  let v63 : Index := Scalar.indexCast v9
  let arg1 : BitVec 32 := BitVec.ofNat 32 (i 1).val
  let v64 : Index := Scalar.indexCast arg1
  let c0_20 : Index := 0#32
  let c0_21 : Index := 0#32
  ![v63.toNat, v64.toNat, 0, 0]
def k1_off2 (i : grid1.Coords) : Fin 4 → Nat :=
  let arg0 : BitVec 32 := BitVec.ofNat 32 (i 0).val
  let c2_i32 : BitVec 32 := 2#32
  let v9 : BitVec 32 := Scalar.remsi arg0 c2_i32
  let v125 : Index := Scalar.indexCast v9
  let arg1 : BitVec 32 := BitVec.ofNat 32 (i 1).val
  let v126 : Index := Scalar.indexCast arg1
  let c0_42 : Index := 0#32
  let c128_43 : Index := 128#32
  ![v125.toNat, v126.toNat, 0, 128]
def k1_off3 (i : grid1.Coords) : Fin 4 → Nat :=
  let arg0 : BitVec 32 := BitVec.ofNat 32 (i 0).val
  let c2_i32 : BitVec 32 := 2#32
  let v9 : BitVec 32 := Scalar.remsi arg0 c2_i32
  let v187 : Index := Scalar.indexCast v9
  let arg1 : BitVec 32 := BitVec.ofNat 32 (i 1).val
  let v188 : Index := Scalar.indexCast arg1
  let c0_65 : Index := 0#32
  let c256_66 : Index := 256#32
  ![v187.toNat, v188.toNat, 0, 256]
def k1_off4 (i : grid1.Coords) : Fin 4 → Nat :=
  let arg0 : BitVec 32 := BitVec.ofNat 32 (i 0).val
  let c2_i32 : BitVec 32 := 2#32
  let v9 : BitVec 32 := Scalar.remsi arg0 c2_i32
  let v249 : Index := Scalar.indexCast v9
  let arg1 : BitVec 32 := BitVec.ofNat 32 (i 1).val
  let v250 : Index := Scalar.indexCast arg1
  let c0_88 : Index := 0#32
  let c384_89 : Index := 384#32
  ![v249.toNat, v250.toNat, 0, 384]
def k1_off5 (i : grid1.Coords) : Fin 4 → Nat :=
  let arg0 : BitVec 32 := BitVec.ofNat 32 (i 0).val
  let c2_i32 : BitVec 32 := 2#32
  let v9 : BitVec 32 := Scalar.remsi arg0 c2_i32
  let v311 : Index := Scalar.indexCast v9
  let arg1 : BitVec 32 := BitVec.ofNat 32 (i 1).val
  let v312 : Index := Scalar.indexCast arg1
  let c0_110 : Index := 0#32
  let c512_111 : Index := 512#32
  ![v311.toNat, v312.toNat, 0, 512]
def k1_off6 (i : grid1.Coords) : Fin 4 → Nat :=
  let arg0 : BitVec 32 := BitVec.ofNat 32 (i 0).val
  let c2_i32 : BitVec 32 := 2#32
  let v9 : BitVec 32 := Scalar.remsi arg0 c2_i32
  let v373 : Index := Scalar.indexCast v9
  let arg1 : BitVec 32 := BitVec.ofNat 32 (i 1).val
  let v374 : Index := Scalar.indexCast arg1
  let c0_132 : Index := 0#32
  let c640_133 : Index := 640#32
  ![v373.toNat, v374.toNat, 0, 640]
def k1_off7 (i : grid1.Coords) : Fin 4 → Nat :=
  let arg0 : BitVec 32 := BitVec.ofNat 32 (i 0).val
  let c2_i32 : BitVec 32 := 2#32
  let v9 : BitVec 32 := Scalar.remsi arg0 c2_i32
  let v435 : Index := Scalar.indexCast v9
  let arg1 : BitVec 32 := BitVec.ofNat 32 (i 1).val
  let v436 : Index := Scalar.indexCast arg1
  let c0_154 : Index := 0#32
  let c768_155 : Index := 768#32
  ![v435.toNat, v436.toNat, 0, 768]
def k1_off8 (i : grid1.Coords) : Fin 4 → Nat :=
  let arg0 : BitVec 32 := BitVec.ofNat 32 (i 0).val
  let c2_i32 : BitVec 32 := 2#32
  let v9 : BitVec 32 := Scalar.remsi arg0 c2_i32
  let v497 : Index := Scalar.indexCast v9
  let arg1 : BitVec 32 := BitVec.ofNat 32 (i 1).val
  let v498 : Index := Scalar.indexCast arg1
  let c0_176 : Index := 0#32
  let c896_177 : Index := 896#32
  ![v497.toNat, v498.toNat, 0, 896]
def k1_off9 (i : grid1.Coords) : Fin 4 → Nat :=
  let arg0 : BitVec 32 := BitVec.ofNat 32 (i 0).val
  let c2_i32 : BitVec 32 := 2#32
  let v9 : BitVec 32 := Scalar.remsi arg0 c2_i32
  let v559 : Index := Scalar.indexCast v9
  let arg1 : BitVec 32 := BitVec.ofNat 32 (i 1).val
  let v560 : Index := Scalar.indexCast arg1
  let c0_198 : Index := 0#32
  let c1024_199 : Index := 1024#32
  ![v559.toNat, v560.toNat, 0, 1024]
def k1_off10 (i : grid1.Coords) : Fin 4 → Nat :=
  let arg0 : BitVec 32 := BitVec.ofNat 32 (i 0).val
  let c2_i32 : BitVec 32 := 2#32
  let v9 : BitVec 32 := Scalar.remsi arg0 c2_i32
  let v621 : Index := Scalar.indexCast v9
  let arg1 : BitVec 32 := BitVec.ofNat 32 (i 1).val
  let v622 : Index := Scalar.indexCast arg1
  let c0_220 : Index := 0#32
  let c1152_221 : Index := 1152#32
  ![v621.toNat, v622.toNat, 0, 1152]
def k1_off11 (i : grid1.Coords) : Fin 4 → Nat :=
  let arg0 : BitVec 32 := BitVec.ofNat 32 (i 0).val
  let c2_i32 : BitVec 32 := 2#32
  let v9 : BitVec 32 := Scalar.remsi arg0 c2_i32
  let v683 : Index := Scalar.indexCast v9
  let arg1 : BitVec 32 := BitVec.ofNat 32 (i 1).val
  let v684 : Index := Scalar.indexCast arg1
  let c0_242 : Index := 0#32
  let c1280_243 : Index := 1280#32
  ![v683.toNat, v684.toNat, 0, 1280]
def k1_off12 (i : grid1.Coords) : Fin 4 → Nat :=
  let arg0 : BitVec 32 := BitVec.ofNat 32 (i 0).val
  let c2_i32 : BitVec 32 := 2#32
  let v9 : BitVec 32 := Scalar.remsi arg0 c2_i32
  let v745 : Index := Scalar.indexCast v9
  let arg1 : BitVec 32 := BitVec.ofNat 32 (i 1).val
  let v746 : Index := Scalar.indexCast arg1
  let c0_264 : Index := 0#32
  let c1408_265 : Index := 1408#32
  ![v745.toNat, v746.toNat, 0, 1408]
def k1_off13 (i : grid1.Coords) : Fin 4 → Nat :=
  let arg0 : BitVec 32 := BitVec.ofNat 32 (i 0).val
  let c2_i32 : BitVec 32 := 2#32
  let v9 : BitVec 32 := Scalar.remsi arg0 c2_i32
  let v807 : Index := Scalar.indexCast v9
  let arg1 : BitVec 32 := BitVec.ofNat 32 (i 1).val
  let v808 : Index := Scalar.indexCast arg1
  let c0_286 : Index := 0#32
  let c1536_287 : Index := 1536#32
  ![v807.toNat, v808.toNat, 0, 1536]
def k1_off14 (i : grid1.Coords) : Fin 4 → Nat :=
  let arg0 : BitVec 32 := BitVec.ofNat 32 (i 0).val
  let c2_i32 : BitVec 32 := 2#32
  let v9 : BitVec 32 := Scalar.remsi arg0 c2_i32
  let v869 : Index := Scalar.indexCast v9
  let arg1 : BitVec 32 := BitVec.ofNat 32 (i 1).val
  let v870 : Index := Scalar.indexCast arg1
  let c0_308 : Index := 0#32
  let c1664_309 : Index := 1664#32
  ![v869.toNat, v870.toNat, 0, 1664]
def k1_off15 (i : grid1.Coords) : Fin 4 → Nat :=
  let arg0 : BitVec 32 := BitVec.ofNat 32 (i 0).val
  let c2_i32 : BitVec 32 := 2#32
  let v9 : BitVec 32 := Scalar.remsi arg0 c2_i32
  let v935 : Index := Scalar.indexCast v9
  let arg1 : BitVec 32 := BitVec.ofNat 32 (i 1).val
  let v936 : Index := Scalar.indexCast arg1
  let c128_335 : Index := 128#32
  let c0_336 : Index := 0#32
  ![v935.toNat, v936.toNat, 128, 0]
def k1_off16 (i : grid1.Coords) : Fin 4 → Nat :=
  let arg0 : BitVec 32 := BitVec.ofNat 32 (i 0).val
  let c2_i32 : BitVec 32 := 2#32
  let v9 : BitVec 32 := Scalar.remsi arg0 c2_i32
  let v997 : Index := Scalar.indexCast v9
  let arg1 : BitVec 32 := BitVec.ofNat 32 (i 1).val
  let v998 : Index := Scalar.indexCast arg1
  let c128_359 : Index := 128#32
  let c128_360 : Index := 128#32
  ![v997.toNat, v998.toNat, 128, 128]
def k1_off17 (i : grid1.Coords) : Fin 4 → Nat :=
  let arg0 : BitVec 32 := BitVec.ofNat 32 (i 0).val
  let c2_i32 : BitVec 32 := 2#32
  let v9 : BitVec 32 := Scalar.remsi arg0 c2_i32
  let v1059 : Index := Scalar.indexCast v9
  let arg1 : BitVec 32 := BitVec.ofNat 32 (i 1).val
  let v1060 : Index := Scalar.indexCast arg1
  let c128_383 : Index := 128#32
  let c256_384 : Index := 256#32
  ![v1059.toNat, v1060.toNat, 128, 256]
def k1_off18 (i : grid1.Coords) : Fin 4 → Nat :=
  let arg0 : BitVec 32 := BitVec.ofNat 32 (i 0).val
  let c2_i32 : BitVec 32 := 2#32
  let v9 : BitVec 32 := Scalar.remsi arg0 c2_i32
  let v1121 : Index := Scalar.indexCast v9
  let arg1 : BitVec 32 := BitVec.ofNat 32 (i 1).val
  let v1122 : Index := Scalar.indexCast arg1
  let c128_407 : Index := 128#32
  let c384_408 : Index := 384#32
  ![v1121.toNat, v1122.toNat, 128, 384]
def k1_off19 (i : grid1.Coords) : Fin 4 → Nat :=
  let arg0 : BitVec 32 := BitVec.ofNat 32 (i 0).val
  let c2_i32 : BitVec 32 := 2#32
  let v9 : BitVec 32 := Scalar.remsi arg0 c2_i32
  let v1183 : Index := Scalar.indexCast v9
  let arg1 : BitVec 32 := BitVec.ofNat 32 (i 1).val
  let v1184 : Index := Scalar.indexCast arg1
  let c128_431 : Index := 128#32
  let c512_432 : Index := 512#32
  ![v1183.toNat, v1184.toNat, 128, 512]
def k1_off20 (i : grid1.Coords) : Fin 4 → Nat :=
  let arg0 : BitVec 32 := BitVec.ofNat 32 (i 0).val
  let c2_i32 : BitVec 32 := 2#32
  let v9 : BitVec 32 := Scalar.remsi arg0 c2_i32
  let v1245 : Index := Scalar.indexCast v9
  let arg1 : BitVec 32 := BitVec.ofNat 32 (i 1).val
  let v1246 : Index := Scalar.indexCast arg1
  let c128_455 : Index := 128#32
  let c640_456 : Index := 640#32
  ![v1245.toNat, v1246.toNat, 128, 640]
def k1_off21 (i : grid1.Coords) : Fin 4 → Nat :=
  let arg0 : BitVec 32 := BitVec.ofNat 32 (i 0).val
  let c2_i32 : BitVec 32 := 2#32
  let v9 : BitVec 32 := Scalar.remsi arg0 c2_i32
  let v1307 : Index := Scalar.indexCast v9
  let arg1 : BitVec 32 := BitVec.ofNat 32 (i 1).val
  let v1308 : Index := Scalar.indexCast arg1
  let c128_479 : Index := 128#32
  let c768_480 : Index := 768#32
  ![v1307.toNat, v1308.toNat, 128, 768]
def k1_off22 (i : grid1.Coords) : Fin 4 → Nat :=
  let arg0 : BitVec 32 := BitVec.ofNat 32 (i 0).val
  let c2_i32 : BitVec 32 := 2#32
  let v9 : BitVec 32 := Scalar.remsi arg0 c2_i32
  let v1369 : Index := Scalar.indexCast v9
  let arg1 : BitVec 32 := BitVec.ofNat 32 (i 1).val
  let v1370 : Index := Scalar.indexCast arg1
  let c128_503 : Index := 128#32
  let c896_504 : Index := 896#32
  ![v1369.toNat, v1370.toNat, 128, 896]
def k1_off23 (i : grid1.Coords) : Fin 4 → Nat :=
  let arg0 : BitVec 32 := BitVec.ofNat 32 (i 0).val
  let c2_i32 : BitVec 32 := 2#32
  let v9 : BitVec 32 := Scalar.remsi arg0 c2_i32
  let v1431 : Index := Scalar.indexCast v9
  let arg1 : BitVec 32 := BitVec.ofNat 32 (i 1).val
  let v1432 : Index := Scalar.indexCast arg1
  let c128_527 : Index := 128#32
  let c1024_528 : Index := 1024#32
  ![v1431.toNat, v1432.toNat, 128, 1024]
def k1_off24 (i : grid1.Coords) : Fin 4 → Nat :=
  let arg0 : BitVec 32 := BitVec.ofNat 32 (i 0).val
  let c2_i32 : BitVec 32 := 2#32
  let v9 : BitVec 32 := Scalar.remsi arg0 c2_i32
  let v1493 : Index := Scalar.indexCast v9
  let arg1 : BitVec 32 := BitVec.ofNat 32 (i 1).val
  let v1494 : Index := Scalar.indexCast arg1
  let c128_551 : Index := 128#32
  let c1152_552 : Index := 1152#32
  ![v1493.toNat, v1494.toNat, 128, 1152]
def k1_off25 (i : grid1.Coords) : Fin 4 → Nat :=
  let arg0 : BitVec 32 := BitVec.ofNat 32 (i 0).val
  let c2_i32 : BitVec 32 := 2#32
  let v9 : BitVec 32 := Scalar.remsi arg0 c2_i32
  let v1555 : Index := Scalar.indexCast v9
  let arg1 : BitVec 32 := BitVec.ofNat 32 (i 1).val
  let v1556 : Index := Scalar.indexCast arg1
  let c128_575 : Index := 128#32
  let c1280_576 : Index := 1280#32
  ![v1555.toNat, v1556.toNat, 128, 1280]
def k1_off26 (i : grid1.Coords) : Fin 4 → Nat :=
  let arg0 : BitVec 32 := BitVec.ofNat 32 (i 0).val
  let c2_i32 : BitVec 32 := 2#32
  let v9 : BitVec 32 := Scalar.remsi arg0 c2_i32
  let v1617 : Index := Scalar.indexCast v9
  let arg1 : BitVec 32 := BitVec.ofNat 32 (i 1).val
  let v1618 : Index := Scalar.indexCast arg1
  let c128_599 : Index := 128#32
  let c1408_600 : Index := 1408#32
  ![v1617.toNat, v1618.toNat, 128, 1408]
def k1_off27 (i : grid1.Coords) : Fin 4 → Nat :=
  let arg0 : BitVec 32 := BitVec.ofNat 32 (i 0).val
  let c2_i32 : BitVec 32 := 2#32
  let v9 : BitVec 32 := Scalar.remsi arg0 c2_i32
  let v1679 : Index := Scalar.indexCast v9
  let arg1 : BitVec 32 := BitVec.ofNat 32 (i 1).val
  let v1680 : Index := Scalar.indexCast arg1
  let c128_623 : Index := 128#32
  let c1536_624 : Index := 1536#32
  ![v1679.toNat, v1680.toNat, 128, 1536]
def k1_off28 (i : grid1.Coords) : Fin 4 → Nat :=
  let arg0 : BitVec 32 := BitVec.ofNat 32 (i 0).val
  let c2_i32 : BitVec 32 := 2#32
  let v9 : BitVec 32 := Scalar.remsi arg0 c2_i32
  let v1741 : Index := Scalar.indexCast v9
  let arg1 : BitVec 32 := BitVec.ofNat 32 (i 1).val
  let v1742 : Index := Scalar.indexCast arg1
  let c128_647 : Index := 128#32
  let c1664_648 : Index := 1664#32
  ![v1741.toNat, v1742.toNat, 128, 1664]
def k1_off29 (i : grid1.Coords) : Fin 4 → Nat :=
  let arg0 : BitVec 32 := BitVec.ofNat 32 (i 0).val
  let c2_i32 : BitVec 32 := 2#32
  let v9 : BitVec 32 := Scalar.remsi arg0 c2_i32
  let v1807 : Index := Scalar.indexCast v9
  let arg1 : BitVec 32 := BitVec.ofNat 32 (i 1).val
  let v1808 : Index := Scalar.indexCast arg1
  let c256_675 : Index := 256#32
  let c0_676 : Index := 0#32
  ![v1807.toNat, v1808.toNat, 256, 0]
def k1_off30 (i : grid1.Coords) : Fin 4 → Nat :=
  let arg0 : BitVec 32 := BitVec.ofNat 32 (i 0).val
  let c2_i32 : BitVec 32 := 2#32
  let v9 : BitVec 32 := Scalar.remsi arg0 c2_i32
  let v1869 : Index := Scalar.indexCast v9
  let arg1 : BitVec 32 := BitVec.ofNat 32 (i 1).val
  let v1870 : Index := Scalar.indexCast arg1
  let c256_699 : Index := 256#32
  let c128_700 : Index := 128#32
  ![v1869.toNat, v1870.toNat, 256, 128]
def k1_off31 (i : grid1.Coords) : Fin 4 → Nat :=
  let arg0 : BitVec 32 := BitVec.ofNat 32 (i 0).val
  let c2_i32 : BitVec 32 := 2#32
  let v9 : BitVec 32 := Scalar.remsi arg0 c2_i32
  let v1931 : Index := Scalar.indexCast v9
  let arg1 : BitVec 32 := BitVec.ofNat 32 (i 1).val
  let v1932 : Index := Scalar.indexCast arg1
  let c256_723 : Index := 256#32
  let c256_724 : Index := 256#32
  ![v1931.toNat, v1932.toNat, 256, 256]
def k1_off32 (i : grid1.Coords) : Fin 4 → Nat :=
  let arg0 : BitVec 32 := BitVec.ofNat 32 (i 0).val
  let c2_i32 : BitVec 32 := 2#32
  let v9 : BitVec 32 := Scalar.remsi arg0 c2_i32
  let v1993 : Index := Scalar.indexCast v9
  let arg1 : BitVec 32 := BitVec.ofNat 32 (i 1).val
  let v1994 : Index := Scalar.indexCast arg1
  let c256_747 : Index := 256#32
  let c384_748 : Index := 384#32
  ![v1993.toNat, v1994.toNat, 256, 384]
def k1_off33 (i : grid1.Coords) : Fin 4 → Nat :=
  let arg0 : BitVec 32 := BitVec.ofNat 32 (i 0).val
  let c2_i32 : BitVec 32 := 2#32
  let v9 : BitVec 32 := Scalar.remsi arg0 c2_i32
  let v2055 : Index := Scalar.indexCast v9
  let arg1 : BitVec 32 := BitVec.ofNat 32 (i 1).val
  let v2056 : Index := Scalar.indexCast arg1
  let c256_771 : Index := 256#32
  let c512_772 : Index := 512#32
  ![v2055.toNat, v2056.toNat, 256, 512]
def k1_off34 (i : grid1.Coords) : Fin 4 → Nat :=
  let arg0 : BitVec 32 := BitVec.ofNat 32 (i 0).val
  let c2_i32 : BitVec 32 := 2#32
  let v9 : BitVec 32 := Scalar.remsi arg0 c2_i32
  let v2117 : Index := Scalar.indexCast v9
  let arg1 : BitVec 32 := BitVec.ofNat 32 (i 1).val
  let v2118 : Index := Scalar.indexCast arg1
  let c256_795 : Index := 256#32
  let c640_796 : Index := 640#32
  ![v2117.toNat, v2118.toNat, 256, 640]
def k1_off35 (i : grid1.Coords) : Fin 4 → Nat :=
  let arg0 : BitVec 32 := BitVec.ofNat 32 (i 0).val
  let c2_i32 : BitVec 32 := 2#32
  let v9 : BitVec 32 := Scalar.remsi arg0 c2_i32
  let v2179 : Index := Scalar.indexCast v9
  let arg1 : BitVec 32 := BitVec.ofNat 32 (i 1).val
  let v2180 : Index := Scalar.indexCast arg1
  let c256_819 : Index := 256#32
  let c768_820 : Index := 768#32
  ![v2179.toNat, v2180.toNat, 256, 768]
def k1_off36 (i : grid1.Coords) : Fin 4 → Nat :=
  let arg0 : BitVec 32 := BitVec.ofNat 32 (i 0).val
  let c2_i32 : BitVec 32 := 2#32
  let v9 : BitVec 32 := Scalar.remsi arg0 c2_i32
  let v2241 : Index := Scalar.indexCast v9
  let arg1 : BitVec 32 := BitVec.ofNat 32 (i 1).val
  let v2242 : Index := Scalar.indexCast arg1
  let c256_843 : Index := 256#32
  let c896_844 : Index := 896#32
  ![v2241.toNat, v2242.toNat, 256, 896]
def k1_off37 (i : grid1.Coords) : Fin 4 → Nat :=
  let arg0 : BitVec 32 := BitVec.ofNat 32 (i 0).val
  let c2_i32 : BitVec 32 := 2#32
  let v9 : BitVec 32 := Scalar.remsi arg0 c2_i32
  let v2303 : Index := Scalar.indexCast v9
  let arg1 : BitVec 32 := BitVec.ofNat 32 (i 1).val
  let v2304 : Index := Scalar.indexCast arg1
  let c256_867 : Index := 256#32
  let c1024_868 : Index := 1024#32
  ![v2303.toNat, v2304.toNat, 256, 1024]
def k1_off38 (i : grid1.Coords) : Fin 4 → Nat :=
  let arg0 : BitVec 32 := BitVec.ofNat 32 (i 0).val
  let c2_i32 : BitVec 32 := 2#32
  let v9 : BitVec 32 := Scalar.remsi arg0 c2_i32
  let v2365 : Index := Scalar.indexCast v9
  let arg1 : BitVec 32 := BitVec.ofNat 32 (i 1).val
  let v2366 : Index := Scalar.indexCast arg1
  let c256_891 : Index := 256#32
  let c1152_892 : Index := 1152#32
  ![v2365.toNat, v2366.toNat, 256, 1152]
def k1_off39 (i : grid1.Coords) : Fin 4 → Nat :=
  let arg0 : BitVec 32 := BitVec.ofNat 32 (i 0).val
  let c2_i32 : BitVec 32 := 2#32
  let v9 : BitVec 32 := Scalar.remsi arg0 c2_i32
  let v2427 : Index := Scalar.indexCast v9
  let arg1 : BitVec 32 := BitVec.ofNat 32 (i 1).val
  let v2428 : Index := Scalar.indexCast arg1
  let c256_915 : Index := 256#32
  let c1280_916 : Index := 1280#32
  ![v2427.toNat, v2428.toNat, 256, 1280]
def k1_off40 (i : grid1.Coords) : Fin 4 → Nat :=
  let arg0 : BitVec 32 := BitVec.ofNat 32 (i 0).val
  let c2_i32 : BitVec 32 := 2#32
  let v9 : BitVec 32 := Scalar.remsi arg0 c2_i32
  let v2489 : Index := Scalar.indexCast v9
  let arg1 : BitVec 32 := BitVec.ofNat 32 (i 1).val
  let v2490 : Index := Scalar.indexCast arg1
  let c256_939 : Index := 256#32
  let c1408_940 : Index := 1408#32
  ![v2489.toNat, v2490.toNat, 256, 1408]
def k1_off41 (i : grid1.Coords) : Fin 4 → Nat :=
  let arg0 : BitVec 32 := BitVec.ofNat 32 (i 0).val
  let c2_i32 : BitVec 32 := 2#32
  let v9 : BitVec 32 := Scalar.remsi arg0 c2_i32
  let v2551 : Index := Scalar.indexCast v9
  let arg1 : BitVec 32 := BitVec.ofNat 32 (i 1).val
  let v2552 : Index := Scalar.indexCast arg1
  let c256_963 : Index := 256#32
  let c1536_964 : Index := 1536#32
  ![v2551.toNat, v2552.toNat, 256, 1536]
def k1_off42 (i : grid1.Coords) : Fin 4 → Nat :=
  let arg0 : BitVec 32 := BitVec.ofNat 32 (i 0).val
  let c2_i32 : BitVec 32 := 2#32
  let v9 : BitVec 32 := Scalar.remsi arg0 c2_i32
  let v2613 : Index := Scalar.indexCast v9
  let arg1 : BitVec 32 := BitVec.ofNat 32 (i 1).val
  let v2614 : Index := Scalar.indexCast arg1
  let c256_987 : Index := 256#32
  let c1664_988 : Index := 1664#32
  ![v2613.toNat, v2614.toNat, 256, 1664]
def k1_off43 (i : grid1.Coords) : Fin 4 → Nat :=
  let arg0 : BitVec 32 := BitVec.ofNat 32 (i 0).val
  let c2_i32 : BitVec 32 := 2#32
  let v9 : BitVec 32 := Scalar.remsi arg0 c2_i32
  let v2679 : Index := Scalar.indexCast v9
  let arg1 : BitVec 32 := BitVec.ofNat 32 (i 1).val
  let v2680 : Index := Scalar.indexCast arg1
  let c384_1015 : Index := 384#32
  let c0_1016 : Index := 0#32
  ![v2679.toNat, v2680.toNat, 384, 0]
def k1_off44 (i : grid1.Coords) : Fin 4 → Nat :=
  let arg0 : BitVec 32 := BitVec.ofNat 32 (i 0).val
  let c2_i32 : BitVec 32 := 2#32
  let v9 : BitVec 32 := Scalar.remsi arg0 c2_i32
  let v2741 : Index := Scalar.indexCast v9
  let arg1 : BitVec 32 := BitVec.ofNat 32 (i 1).val
  let v2742 : Index := Scalar.indexCast arg1
  let c384_1039 : Index := 384#32
  let c128_1040 : Index := 128#32
  ![v2741.toNat, v2742.toNat, 384, 128]
def k1_off45 (i : grid1.Coords) : Fin 4 → Nat :=
  let arg0 : BitVec 32 := BitVec.ofNat 32 (i 0).val
  let c2_i32 : BitVec 32 := 2#32
  let v9 : BitVec 32 := Scalar.remsi arg0 c2_i32
  let v2803 : Index := Scalar.indexCast v9
  let arg1 : BitVec 32 := BitVec.ofNat 32 (i 1).val
  let v2804 : Index := Scalar.indexCast arg1
  let c384_1063 : Index := 384#32
  let c256_1064 : Index := 256#32
  ![v2803.toNat, v2804.toNat, 384, 256]
def k1_off46 (i : grid1.Coords) : Fin 4 → Nat :=
  let arg0 : BitVec 32 := BitVec.ofNat 32 (i 0).val
  let c2_i32 : BitVec 32 := 2#32
  let v9 : BitVec 32 := Scalar.remsi arg0 c2_i32
  let v2865 : Index := Scalar.indexCast v9
  let arg1 : BitVec 32 := BitVec.ofNat 32 (i 1).val
  let v2866 : Index := Scalar.indexCast arg1
  let c384_1087 : Index := 384#32
  let c384_1088 : Index := 384#32
  ![v2865.toNat, v2866.toNat, 384, 384]
def k1_off47 (i : grid1.Coords) : Fin 4 → Nat :=
  let arg0 : BitVec 32 := BitVec.ofNat 32 (i 0).val
  let c2_i32 : BitVec 32 := 2#32
  let v9 : BitVec 32 := Scalar.remsi arg0 c2_i32
  let v2927 : Index := Scalar.indexCast v9
  let arg1 : BitVec 32 := BitVec.ofNat 32 (i 1).val
  let v2928 : Index := Scalar.indexCast arg1
  let c384_1111 : Index := 384#32
  let c512_1112 : Index := 512#32
  ![v2927.toNat, v2928.toNat, 384, 512]
def k1_off48 (i : grid1.Coords) : Fin 4 → Nat :=
  let arg0 : BitVec 32 := BitVec.ofNat 32 (i 0).val
  let c2_i32 : BitVec 32 := 2#32
  let v9 : BitVec 32 := Scalar.remsi arg0 c2_i32
  let v2989 : Index := Scalar.indexCast v9
  let arg1 : BitVec 32 := BitVec.ofNat 32 (i 1).val
  let v2990 : Index := Scalar.indexCast arg1
  let c384_1135 : Index := 384#32
  let c640_1136 : Index := 640#32
  ![v2989.toNat, v2990.toNat, 384, 640]
def k1_off49 (i : grid1.Coords) : Fin 4 → Nat :=
  let arg0 : BitVec 32 := BitVec.ofNat 32 (i 0).val
  let c2_i32 : BitVec 32 := 2#32
  let v9 : BitVec 32 := Scalar.remsi arg0 c2_i32
  let v3051 : Index := Scalar.indexCast v9
  let arg1 : BitVec 32 := BitVec.ofNat 32 (i 1).val
  let v3052 : Index := Scalar.indexCast arg1
  let c384_1159 : Index := 384#32
  let c768_1160 : Index := 768#32
  ![v3051.toNat, v3052.toNat, 384, 768]
def k1_off50 (i : grid1.Coords) : Fin 4 → Nat :=
  let arg0 : BitVec 32 := BitVec.ofNat 32 (i 0).val
  let c2_i32 : BitVec 32 := 2#32
  let v9 : BitVec 32 := Scalar.remsi arg0 c2_i32
  let v3113 : Index := Scalar.indexCast v9
  let arg1 : BitVec 32 := BitVec.ofNat 32 (i 1).val
  let v3114 : Index := Scalar.indexCast arg1
  let c384_1183 : Index := 384#32
  let c896_1184 : Index := 896#32
  ![v3113.toNat, v3114.toNat, 384, 896]
def k1_off51 (i : grid1.Coords) : Fin 4 → Nat :=
  let arg0 : BitVec 32 := BitVec.ofNat 32 (i 0).val
  let c2_i32 : BitVec 32 := 2#32
  let v9 : BitVec 32 := Scalar.remsi arg0 c2_i32
  let v3175 : Index := Scalar.indexCast v9
  let arg1 : BitVec 32 := BitVec.ofNat 32 (i 1).val
  let v3176 : Index := Scalar.indexCast arg1
  let c384_1207 : Index := 384#32
  let c1024_1208 : Index := 1024#32
  ![v3175.toNat, v3176.toNat, 384, 1024]
def k1_off52 (i : grid1.Coords) : Fin 4 → Nat :=
  let arg0 : BitVec 32 := BitVec.ofNat 32 (i 0).val
  let c2_i32 : BitVec 32 := 2#32
  let v9 : BitVec 32 := Scalar.remsi arg0 c2_i32
  let v3237 : Index := Scalar.indexCast v9
  let arg1 : BitVec 32 := BitVec.ofNat 32 (i 1).val
  let v3238 : Index := Scalar.indexCast arg1
  let c384_1231 : Index := 384#32
  let c1152_1232 : Index := 1152#32
  ![v3237.toNat, v3238.toNat, 384, 1152]
def k1_off53 (i : grid1.Coords) : Fin 4 → Nat :=
  let arg0 : BitVec 32 := BitVec.ofNat 32 (i 0).val
  let c2_i32 : BitVec 32 := 2#32
  let v9 : BitVec 32 := Scalar.remsi arg0 c2_i32
  let v3299 : Index := Scalar.indexCast v9
  let arg1 : BitVec 32 := BitVec.ofNat 32 (i 1).val
  let v3300 : Index := Scalar.indexCast arg1
  let c384_1255 : Index := 384#32
  let c1280_1256 : Index := 1280#32
  ![v3299.toNat, v3300.toNat, 384, 1280]
def k1_off54 (i : grid1.Coords) : Fin 4 → Nat :=
  let arg0 : BitVec 32 := BitVec.ofNat 32 (i 0).val
  let c2_i32 : BitVec 32 := 2#32
  let v9 : BitVec 32 := Scalar.remsi arg0 c2_i32
  let v3361 : Index := Scalar.indexCast v9
  let arg1 : BitVec 32 := BitVec.ofNat 32 (i 1).val
  let v3362 : Index := Scalar.indexCast arg1
  let c384_1279 : Index := 384#32
  let c1408_1280 : Index := 1408#32
  ![v3361.toNat, v3362.toNat, 384, 1408]
def k1_off55 (i : grid1.Coords) : Fin 4 → Nat :=
  let arg0 : BitVec 32 := BitVec.ofNat 32 (i 0).val
  let c2_i32 : BitVec 32 := 2#32
  let v9 : BitVec 32 := Scalar.remsi arg0 c2_i32
  let v3423 : Index := Scalar.indexCast v9
  let arg1 : BitVec 32 := BitVec.ofNat 32 (i 1).val
  let v3424 : Index := Scalar.indexCast arg1
  let c384_1303 : Index := 384#32
  let c1536_1304 : Index := 1536#32
  ![v3423.toNat, v3424.toNat, 384, 1536]
def k1_off56 (i : grid1.Coords) : Fin 4 → Nat :=
  let arg0 : BitVec 32 := BitVec.ofNat 32 (i 0).val
  let c2_i32 : BitVec 32 := 2#32
  let v9 : BitVec 32 := Scalar.remsi arg0 c2_i32
  let v3485 : Index := Scalar.indexCast v9
  let arg1 : BitVec 32 := BitVec.ofNat 32 (i 1).val
  let v3486 : Index := Scalar.indexCast arg1
  let c384_1327 : Index := 384#32
  let c1664_1328 : Index := 1664#32
  ![v3485.toNat, v3486.toNat, 384, 1664]
def k1_cond3 (i : grid1.Coords) : BitVec 1 :=
  let arg0 : BitVec 32 := BitVec.ofNat 32 (i 0).val
  let c0_i32_3 : BitVec 32 := 0#32
  let v6 : BitVec 1 := Scalar.cmpi .sgt arg0 c0_i32_3
  let v7 : BitVec 32 := Scalar.extui v6
  let c0_i32_4 : BitVec 32 := 0#32
  let v8 : BitVec 1 := Scalar.cmpi .ne v7 c0_i32_4
  v8

def k1_off57 (i : grid1.Coords) : Fin 4 → Nat :=
  let arg0 : BitVec 32 := BitVec.ofNat 32 (i 0).val
  let c2_i32 : BitVec 32 := 2#32
  let v9 : BitVec 32 := Scalar.remsi arg0 c2_i32
  let v63 : Index := Scalar.indexCast v9
  let arg1 : BitVec 32 := BitVec.ofNat 32 (i 1).val
  let v64 : Index := Scalar.indexCast arg1
  let c0_20 : Index := 0#32
  let c0_21 : Index := 0#32
  ![v63.toNat, v64.toNat, 0, 0]
def k1_off58 (i : grid1.Coords) : Fin 4 → Nat :=
  let arg0 : BitVec 32 := BitVec.ofNat 32 (i 0).val
  let c2_i32 : BitVec 32 := 2#32
  let v9 : BitVec 32 := Scalar.remsi arg0 c2_i32
  let v125 : Index := Scalar.indexCast v9
  let arg1 : BitVec 32 := BitVec.ofNat 32 (i 1).val
  let v126 : Index := Scalar.indexCast arg1
  let c0_42 : Index := 0#32
  let c128_43 : Index := 128#32
  ![v125.toNat, v126.toNat, 0, 128]
def k1_off59 (i : grid1.Coords) : Fin 4 → Nat :=
  let arg0 : BitVec 32 := BitVec.ofNat 32 (i 0).val
  let c2_i32 : BitVec 32 := 2#32
  let v9 : BitVec 32 := Scalar.remsi arg0 c2_i32
  let v187 : Index := Scalar.indexCast v9
  let arg1 : BitVec 32 := BitVec.ofNat 32 (i 1).val
  let v188 : Index := Scalar.indexCast arg1
  let c0_65 : Index := 0#32
  let c256_66 : Index := 256#32
  ![v187.toNat, v188.toNat, 0, 256]
def k1_off60 (i : grid1.Coords) : Fin 4 → Nat :=
  let arg0 : BitVec 32 := BitVec.ofNat 32 (i 0).val
  let c2_i32 : BitVec 32 := 2#32
  let v9 : BitVec 32 := Scalar.remsi arg0 c2_i32
  let v249 : Index := Scalar.indexCast v9
  let arg1 : BitVec 32 := BitVec.ofNat 32 (i 1).val
  let v250 : Index := Scalar.indexCast arg1
  let c0_88 : Index := 0#32
  let c384_89 : Index := 384#32
  ![v249.toNat, v250.toNat, 0, 384]
def k1_off61 (i : grid1.Coords) : Fin 4 → Nat :=
  let arg0 : BitVec 32 := BitVec.ofNat 32 (i 0).val
  let c2_i32 : BitVec 32 := 2#32
  let v9 : BitVec 32 := Scalar.remsi arg0 c2_i32
  let v311 : Index := Scalar.indexCast v9
  let arg1 : BitVec 32 := BitVec.ofNat 32 (i 1).val
  let v312 : Index := Scalar.indexCast arg1
  let c0_110 : Index := 0#32
  let c512_111 : Index := 512#32
  ![v311.toNat, v312.toNat, 0, 512]
def k1_off62 (i : grid1.Coords) : Fin 4 → Nat :=
  let arg0 : BitVec 32 := BitVec.ofNat 32 (i 0).val
  let c2_i32 : BitVec 32 := 2#32
  let v9 : BitVec 32 := Scalar.remsi arg0 c2_i32
  let v373 : Index := Scalar.indexCast v9
  let arg1 : BitVec 32 := BitVec.ofNat 32 (i 1).val
  let v374 : Index := Scalar.indexCast arg1
  let c0_132 : Index := 0#32
  let c640_133 : Index := 640#32
  ![v373.toNat, v374.toNat, 0, 640]
def k1_off63 (i : grid1.Coords) : Fin 4 → Nat :=
  let arg0 : BitVec 32 := BitVec.ofNat 32 (i 0).val
  let c2_i32 : BitVec 32 := 2#32
  let v9 : BitVec 32 := Scalar.remsi arg0 c2_i32
  let v435 : Index := Scalar.indexCast v9
  let arg1 : BitVec 32 := BitVec.ofNat 32 (i 1).val
  let v436 : Index := Scalar.indexCast arg1
  let c0_154 : Index := 0#32
  let c768_155 : Index := 768#32
  ![v435.toNat, v436.toNat, 0, 768]
def k1_off64 (i : grid1.Coords) : Fin 4 → Nat :=
  let arg0 : BitVec 32 := BitVec.ofNat 32 (i 0).val
  let c2_i32 : BitVec 32 := 2#32
  let v9 : BitVec 32 := Scalar.remsi arg0 c2_i32
  let v497 : Index := Scalar.indexCast v9
  let arg1 : BitVec 32 := BitVec.ofNat 32 (i 1).val
  let v498 : Index := Scalar.indexCast arg1
  let c0_176 : Index := 0#32
  let c896_177 : Index := 896#32
  ![v497.toNat, v498.toNat, 0, 896]
def k1_off65 (i : grid1.Coords) : Fin 4 → Nat :=
  let arg0 : BitVec 32 := BitVec.ofNat 32 (i 0).val
  let c2_i32 : BitVec 32 := 2#32
  let v9 : BitVec 32 := Scalar.remsi arg0 c2_i32
  let v559 : Index := Scalar.indexCast v9
  let arg1 : BitVec 32 := BitVec.ofNat 32 (i 1).val
  let v560 : Index := Scalar.indexCast arg1
  let c0_198 : Index := 0#32
  let c1024_199 : Index := 1024#32
  ![v559.toNat, v560.toNat, 0, 1024]
def k1_off66 (i : grid1.Coords) : Fin 4 → Nat :=
  let arg0 : BitVec 32 := BitVec.ofNat 32 (i 0).val
  let c2_i32 : BitVec 32 := 2#32
  let v9 : BitVec 32 := Scalar.remsi arg0 c2_i32
  let v621 : Index := Scalar.indexCast v9
  let arg1 : BitVec 32 := BitVec.ofNat 32 (i 1).val
  let v622 : Index := Scalar.indexCast arg1
  let c0_220 : Index := 0#32
  let c1152_221 : Index := 1152#32
  ![v621.toNat, v622.toNat, 0, 1152]
def k1_off67 (i : grid1.Coords) : Fin 4 → Nat :=
  let arg0 : BitVec 32 := BitVec.ofNat 32 (i 0).val
  let c2_i32 : BitVec 32 := 2#32
  let v9 : BitVec 32 := Scalar.remsi arg0 c2_i32
  let v683 : Index := Scalar.indexCast v9
  let arg1 : BitVec 32 := BitVec.ofNat 32 (i 1).val
  let v684 : Index := Scalar.indexCast arg1
  let c0_242 : Index := 0#32
  let c1280_243 : Index := 1280#32
  ![v683.toNat, v684.toNat, 0, 1280]
def k1_off68 (i : grid1.Coords) : Fin 4 → Nat :=
  let arg0 : BitVec 32 := BitVec.ofNat 32 (i 0).val
  let c2_i32 : BitVec 32 := 2#32
  let v9 : BitVec 32 := Scalar.remsi arg0 c2_i32
  let v745 : Index := Scalar.indexCast v9
  let arg1 : BitVec 32 := BitVec.ofNat 32 (i 1).val
  let v746 : Index := Scalar.indexCast arg1
  let c0_264 : Index := 0#32
  let c1408_265 : Index := 1408#32
  ![v745.toNat, v746.toNat, 0, 1408]
def k1_off69 (i : grid1.Coords) : Fin 4 → Nat :=
  let arg0 : BitVec 32 := BitVec.ofNat 32 (i 0).val
  let c2_i32 : BitVec 32 := 2#32
  let v9 : BitVec 32 := Scalar.remsi arg0 c2_i32
  let v807 : Index := Scalar.indexCast v9
  let arg1 : BitVec 32 := BitVec.ofNat 32 (i 1).val
  let v808 : Index := Scalar.indexCast arg1
  let c0_286 : Index := 0#32
  let c1536_287 : Index := 1536#32
  ![v807.toNat, v808.toNat, 0, 1536]
def k1_off70 (i : grid1.Coords) : Fin 4 → Nat :=
  let arg0 : BitVec 32 := BitVec.ofNat 32 (i 0).val
  let c2_i32 : BitVec 32 := 2#32
  let v9 : BitVec 32 := Scalar.remsi arg0 c2_i32
  let v869 : Index := Scalar.indexCast v9
  let arg1 : BitVec 32 := BitVec.ofNat 32 (i 1).val
  let v870 : Index := Scalar.indexCast arg1
  let c0_308 : Index := 0#32
  let c1664_309 : Index := 1664#32
  ![v869.toNat, v870.toNat, 0, 1664]
def k1_off71 (i : grid1.Coords) : Fin 4 → Nat :=
  let arg0 : BitVec 32 := BitVec.ofNat 32 (i 0).val
  let c2_i32 : BitVec 32 := 2#32
  let v9 : BitVec 32 := Scalar.remsi arg0 c2_i32
  let v935 : Index := Scalar.indexCast v9
  let arg1 : BitVec 32 := BitVec.ofNat 32 (i 1).val
  let v936 : Index := Scalar.indexCast arg1
  let c128_335 : Index := 128#32
  let c0_336 : Index := 0#32
  ![v935.toNat, v936.toNat, 128, 0]
def k1_off72 (i : grid1.Coords) : Fin 4 → Nat :=
  let arg0 : BitVec 32 := BitVec.ofNat 32 (i 0).val
  let c2_i32 : BitVec 32 := 2#32
  let v9 : BitVec 32 := Scalar.remsi arg0 c2_i32
  let v997 : Index := Scalar.indexCast v9
  let arg1 : BitVec 32 := BitVec.ofNat 32 (i 1).val
  let v998 : Index := Scalar.indexCast arg1
  let c128_359 : Index := 128#32
  let c128_360 : Index := 128#32
  ![v997.toNat, v998.toNat, 128, 128]
def k1_off73 (i : grid1.Coords) : Fin 4 → Nat :=
  let arg0 : BitVec 32 := BitVec.ofNat 32 (i 0).val
  let c2_i32 : BitVec 32 := 2#32
  let v9 : BitVec 32 := Scalar.remsi arg0 c2_i32
  let v1059 : Index := Scalar.indexCast v9
  let arg1 : BitVec 32 := BitVec.ofNat 32 (i 1).val
  let v1060 : Index := Scalar.indexCast arg1
  let c128_383 : Index := 128#32
  let c256_384 : Index := 256#32
  ![v1059.toNat, v1060.toNat, 128, 256]
def k1_off74 (i : grid1.Coords) : Fin 4 → Nat :=
  let arg0 : BitVec 32 := BitVec.ofNat 32 (i 0).val
  let c2_i32 : BitVec 32 := 2#32
  let v9 : BitVec 32 := Scalar.remsi arg0 c2_i32
  let v1121 : Index := Scalar.indexCast v9
  let arg1 : BitVec 32 := BitVec.ofNat 32 (i 1).val
  let v1122 : Index := Scalar.indexCast arg1
  let c128_407 : Index := 128#32
  let c384_408 : Index := 384#32
  ![v1121.toNat, v1122.toNat, 128, 384]
def k1_off75 (i : grid1.Coords) : Fin 4 → Nat :=
  let arg0 : BitVec 32 := BitVec.ofNat 32 (i 0).val
  let c2_i32 : BitVec 32 := 2#32
  let v9 : BitVec 32 := Scalar.remsi arg0 c2_i32
  let v1183 : Index := Scalar.indexCast v9
  let arg1 : BitVec 32 := BitVec.ofNat 32 (i 1).val
  let v1184 : Index := Scalar.indexCast arg1
  let c128_431 : Index := 128#32
  let c512_432 : Index := 512#32
  ![v1183.toNat, v1184.toNat, 128, 512]
def k1_off76 (i : grid1.Coords) : Fin 4 → Nat :=
  let arg0 : BitVec 32 := BitVec.ofNat 32 (i 0).val
  let c2_i32 : BitVec 32 := 2#32
  let v9 : BitVec 32 := Scalar.remsi arg0 c2_i32
  let v1245 : Index := Scalar.indexCast v9
  let arg1 : BitVec 32 := BitVec.ofNat 32 (i 1).val
  let v1246 : Index := Scalar.indexCast arg1
  let c128_455 : Index := 128#32
  let c640_456 : Index := 640#32
  ![v1245.toNat, v1246.toNat, 128, 640]
def k1_off77 (i : grid1.Coords) : Fin 4 → Nat :=
  let arg0 : BitVec 32 := BitVec.ofNat 32 (i 0).val
  let c2_i32 : BitVec 32 := 2#32
  let v9 : BitVec 32 := Scalar.remsi arg0 c2_i32
  let v1307 : Index := Scalar.indexCast v9
  let arg1 : BitVec 32 := BitVec.ofNat 32 (i 1).val
  let v1308 : Index := Scalar.indexCast arg1
  let c128_479 : Index := 128#32
  let c768_480 : Index := 768#32
  ![v1307.toNat, v1308.toNat, 128, 768]
def k1_off78 (i : grid1.Coords) : Fin 4 → Nat :=
  let arg0 : BitVec 32 := BitVec.ofNat 32 (i 0).val
  let c2_i32 : BitVec 32 := 2#32
  let v9 : BitVec 32 := Scalar.remsi arg0 c2_i32
  let v1369 : Index := Scalar.indexCast v9
  let arg1 : BitVec 32 := BitVec.ofNat 32 (i 1).val
  let v1370 : Index := Scalar.indexCast arg1
  let c128_503 : Index := 128#32
  let c896_504 : Index := 896#32
  ![v1369.toNat, v1370.toNat, 128, 896]
def k1_off79 (i : grid1.Coords) : Fin 4 → Nat :=
  let arg0 : BitVec 32 := BitVec.ofNat 32 (i 0).val
  let c2_i32 : BitVec 32 := 2#32
  let v9 : BitVec 32 := Scalar.remsi arg0 c2_i32
  let v1431 : Index := Scalar.indexCast v9
  let arg1 : BitVec 32 := BitVec.ofNat 32 (i 1).val
  let v1432 : Index := Scalar.indexCast arg1
  let c128_527 : Index := 128#32
  let c1024_528 : Index := 1024#32
  ![v1431.toNat, v1432.toNat, 128, 1024]
def k1_off80 (i : grid1.Coords) : Fin 4 → Nat :=
  let arg0 : BitVec 32 := BitVec.ofNat 32 (i 0).val
  let c2_i32 : BitVec 32 := 2#32
  let v9 : BitVec 32 := Scalar.remsi arg0 c2_i32
  let v1493 : Index := Scalar.indexCast v9
  let arg1 : BitVec 32 := BitVec.ofNat 32 (i 1).val
  let v1494 : Index := Scalar.indexCast arg1
  let c128_551 : Index := 128#32
  let c1152_552 : Index := 1152#32
  ![v1493.toNat, v1494.toNat, 128, 1152]
def k1_off81 (i : grid1.Coords) : Fin 4 → Nat :=
  let arg0 : BitVec 32 := BitVec.ofNat 32 (i 0).val
  let c2_i32 : BitVec 32 := 2#32
  let v9 : BitVec 32 := Scalar.remsi arg0 c2_i32
  let v1555 : Index := Scalar.indexCast v9
  let arg1 : BitVec 32 := BitVec.ofNat 32 (i 1).val
  let v1556 : Index := Scalar.indexCast arg1
  let c128_575 : Index := 128#32
  let c1280_576 : Index := 1280#32
  ![v1555.toNat, v1556.toNat, 128, 1280]
def k1_off82 (i : grid1.Coords) : Fin 4 → Nat :=
  let arg0 : BitVec 32 := BitVec.ofNat 32 (i 0).val
  let c2_i32 : BitVec 32 := 2#32
  let v9 : BitVec 32 := Scalar.remsi arg0 c2_i32
  let v1617 : Index := Scalar.indexCast v9
  let arg1 : BitVec 32 := BitVec.ofNat 32 (i 1).val
  let v1618 : Index := Scalar.indexCast arg1
  let c128_599 : Index := 128#32
  let c1408_600 : Index := 1408#32
  ![v1617.toNat, v1618.toNat, 128, 1408]
def k1_off83 (i : grid1.Coords) : Fin 4 → Nat :=
  let arg0 : BitVec 32 := BitVec.ofNat 32 (i 0).val
  let c2_i32 : BitVec 32 := 2#32
  let v9 : BitVec 32 := Scalar.remsi arg0 c2_i32
  let v1679 : Index := Scalar.indexCast v9
  let arg1 : BitVec 32 := BitVec.ofNat 32 (i 1).val
  let v1680 : Index := Scalar.indexCast arg1
  let c128_623 : Index := 128#32
  let c1536_624 : Index := 1536#32
  ![v1679.toNat, v1680.toNat, 128, 1536]
def k1_off84 (i : grid1.Coords) : Fin 4 → Nat :=
  let arg0 : BitVec 32 := BitVec.ofNat 32 (i 0).val
  let c2_i32 : BitVec 32 := 2#32
  let v9 : BitVec 32 := Scalar.remsi arg0 c2_i32
  let v1741 : Index := Scalar.indexCast v9
  let arg1 : BitVec 32 := BitVec.ofNat 32 (i 1).val
  let v1742 : Index := Scalar.indexCast arg1
  let c128_647 : Index := 128#32
  let c1664_648 : Index := 1664#32
  ![v1741.toNat, v1742.toNat, 128, 1664]
def k1_off85 (i : grid1.Coords) : Fin 4 → Nat :=
  let arg0 : BitVec 32 := BitVec.ofNat 32 (i 0).val
  let c2_i32 : BitVec 32 := 2#32
  let v9 : BitVec 32 := Scalar.remsi arg0 c2_i32
  let v1807 : Index := Scalar.indexCast v9
  let arg1 : BitVec 32 := BitVec.ofNat 32 (i 1).val
  let v1808 : Index := Scalar.indexCast arg1
  let c256_675 : Index := 256#32
  let c0_676 : Index := 0#32
  ![v1807.toNat, v1808.toNat, 256, 0]
def k1_off86 (i : grid1.Coords) : Fin 4 → Nat :=
  let arg0 : BitVec 32 := BitVec.ofNat 32 (i 0).val
  let c2_i32 : BitVec 32 := 2#32
  let v9 : BitVec 32 := Scalar.remsi arg0 c2_i32
  let v1869 : Index := Scalar.indexCast v9
  let arg1 : BitVec 32 := BitVec.ofNat 32 (i 1).val
  let v1870 : Index := Scalar.indexCast arg1
  let c256_699 : Index := 256#32
  let c128_700 : Index := 128#32
  ![v1869.toNat, v1870.toNat, 256, 128]
def k1_off87 (i : grid1.Coords) : Fin 4 → Nat :=
  let arg0 : BitVec 32 := BitVec.ofNat 32 (i 0).val
  let c2_i32 : BitVec 32 := 2#32
  let v9 : BitVec 32 := Scalar.remsi arg0 c2_i32
  let v1931 : Index := Scalar.indexCast v9
  let arg1 : BitVec 32 := BitVec.ofNat 32 (i 1).val
  let v1932 : Index := Scalar.indexCast arg1
  let c256_723 : Index := 256#32
  let c256_724 : Index := 256#32
  ![v1931.toNat, v1932.toNat, 256, 256]
def k1_off88 (i : grid1.Coords) : Fin 4 → Nat :=
  let arg0 : BitVec 32 := BitVec.ofNat 32 (i 0).val
  let c2_i32 : BitVec 32 := 2#32
  let v9 : BitVec 32 := Scalar.remsi arg0 c2_i32
  let v1993 : Index := Scalar.indexCast v9
  let arg1 : BitVec 32 := BitVec.ofNat 32 (i 1).val
  let v1994 : Index := Scalar.indexCast arg1
  let c256_747 : Index := 256#32
  let c384_748 : Index := 384#32
  ![v1993.toNat, v1994.toNat, 256, 384]
def k1_off89 (i : grid1.Coords) : Fin 4 → Nat :=
  let arg0 : BitVec 32 := BitVec.ofNat 32 (i 0).val
  let c2_i32 : BitVec 32 := 2#32
  let v9 : BitVec 32 := Scalar.remsi arg0 c2_i32
  let v2055 : Index := Scalar.indexCast v9
  let arg1 : BitVec 32 := BitVec.ofNat 32 (i 1).val
  let v2056 : Index := Scalar.indexCast arg1
  let c256_771 : Index := 256#32
  let c512_772 : Index := 512#32
  ![v2055.toNat, v2056.toNat, 256, 512]
def k1_off90 (i : grid1.Coords) : Fin 4 → Nat :=
  let arg0 : BitVec 32 := BitVec.ofNat 32 (i 0).val
  let c2_i32 : BitVec 32 := 2#32
  let v9 : BitVec 32 := Scalar.remsi arg0 c2_i32
  let v2117 : Index := Scalar.indexCast v9
  let arg1 : BitVec 32 := BitVec.ofNat 32 (i 1).val
  let v2118 : Index := Scalar.indexCast arg1
  let c256_795 : Index := 256#32
  let c640_796 : Index := 640#32
  ![v2117.toNat, v2118.toNat, 256, 640]
def k1_off91 (i : grid1.Coords) : Fin 4 → Nat :=
  let arg0 : BitVec 32 := BitVec.ofNat 32 (i 0).val
  let c2_i32 : BitVec 32 := 2#32
  let v9 : BitVec 32 := Scalar.remsi arg0 c2_i32
  let v2179 : Index := Scalar.indexCast v9
  let arg1 : BitVec 32 := BitVec.ofNat 32 (i 1).val
  let v2180 : Index := Scalar.indexCast arg1
  let c256_819 : Index := 256#32
  let c768_820 : Index := 768#32
  ![v2179.toNat, v2180.toNat, 256, 768]
def k1_off92 (i : grid1.Coords) : Fin 4 → Nat :=
  let arg0 : BitVec 32 := BitVec.ofNat 32 (i 0).val
  let c2_i32 : BitVec 32 := 2#32
  let v9 : BitVec 32 := Scalar.remsi arg0 c2_i32
  let v2241 : Index := Scalar.indexCast v9
  let arg1 : BitVec 32 := BitVec.ofNat 32 (i 1).val
  let v2242 : Index := Scalar.indexCast arg1
  let c256_843 : Index := 256#32
  let c896_844 : Index := 896#32
  ![v2241.toNat, v2242.toNat, 256, 896]
def k1_off93 (i : grid1.Coords) : Fin 4 → Nat :=
  let arg0 : BitVec 32 := BitVec.ofNat 32 (i 0).val
  let c2_i32 : BitVec 32 := 2#32
  let v9 : BitVec 32 := Scalar.remsi arg0 c2_i32
  let v2303 : Index := Scalar.indexCast v9
  let arg1 : BitVec 32 := BitVec.ofNat 32 (i 1).val
  let v2304 : Index := Scalar.indexCast arg1
  let c256_867 : Index := 256#32
  let c1024_868 : Index := 1024#32
  ![v2303.toNat, v2304.toNat, 256, 1024]
def k1_off94 (i : grid1.Coords) : Fin 4 → Nat :=
  let arg0 : BitVec 32 := BitVec.ofNat 32 (i 0).val
  let c2_i32 : BitVec 32 := 2#32
  let v9 : BitVec 32 := Scalar.remsi arg0 c2_i32
  let v2365 : Index := Scalar.indexCast v9
  let arg1 : BitVec 32 := BitVec.ofNat 32 (i 1).val
  let v2366 : Index := Scalar.indexCast arg1
  let c256_891 : Index := 256#32
  let c1152_892 : Index := 1152#32
  ![v2365.toNat, v2366.toNat, 256, 1152]
def k1_off95 (i : grid1.Coords) : Fin 4 → Nat :=
  let arg0 : BitVec 32 := BitVec.ofNat 32 (i 0).val
  let c2_i32 : BitVec 32 := 2#32
  let v9 : BitVec 32 := Scalar.remsi arg0 c2_i32
  let v2427 : Index := Scalar.indexCast v9
  let arg1 : BitVec 32 := BitVec.ofNat 32 (i 1).val
  let v2428 : Index := Scalar.indexCast arg1
  let c256_915 : Index := 256#32
  let c1280_916 : Index := 1280#32
  ![v2427.toNat, v2428.toNat, 256, 1280]
def k1_off96 (i : grid1.Coords) : Fin 4 → Nat :=
  let arg0 : BitVec 32 := BitVec.ofNat 32 (i 0).val
  let c2_i32 : BitVec 32 := 2#32
  let v9 : BitVec 32 := Scalar.remsi arg0 c2_i32
  let v2489 : Index := Scalar.indexCast v9
  let arg1 : BitVec 32 := BitVec.ofNat 32 (i 1).val
  let v2490 : Index := Scalar.indexCast arg1
  let c256_939 : Index := 256#32
  let c1408_940 : Index := 1408#32
  ![v2489.toNat, v2490.toNat, 256, 1408]
def k1_off97 (i : grid1.Coords) : Fin 4 → Nat :=
  let arg0 : BitVec 32 := BitVec.ofNat 32 (i 0).val
  let c2_i32 : BitVec 32 := 2#32
  let v9 : BitVec 32 := Scalar.remsi arg0 c2_i32
  let v2551 : Index := Scalar.indexCast v9
  let arg1 : BitVec 32 := BitVec.ofNat 32 (i 1).val
  let v2552 : Index := Scalar.indexCast arg1
  let c256_963 : Index := 256#32
  let c1536_964 : Index := 1536#32
  ![v2551.toNat, v2552.toNat, 256, 1536]
def k1_off98 (i : grid1.Coords) : Fin 4 → Nat :=
  let arg0 : BitVec 32 := BitVec.ofNat 32 (i 0).val
  let c2_i32 : BitVec 32 := 2#32
  let v9 : BitVec 32 := Scalar.remsi arg0 c2_i32
  let v2613 : Index := Scalar.indexCast v9
  let arg1 : BitVec 32 := BitVec.ofNat 32 (i 1).val
  let v2614 : Index := Scalar.indexCast arg1
  let c256_987 : Index := 256#32
  let c1664_988 : Index := 1664#32
  ![v2613.toNat, v2614.toNat, 256, 1664]
def k1_off99 (i : grid1.Coords) : Fin 4 → Nat :=
  let arg0 : BitVec 32 := BitVec.ofNat 32 (i 0).val
  let c2_i32 : BitVec 32 := 2#32
  let v9 : BitVec 32 := Scalar.remsi arg0 c2_i32
  let v2679 : Index := Scalar.indexCast v9
  let arg1 : BitVec 32 := BitVec.ofNat 32 (i 1).val
  let v2680 : Index := Scalar.indexCast arg1
  let c384_1015 : Index := 384#32
  let c0_1016 : Index := 0#32
  ![v2679.toNat, v2680.toNat, 384, 0]
def k1_off100 (i : grid1.Coords) : Fin 4 → Nat :=
  let arg0 : BitVec 32 := BitVec.ofNat 32 (i 0).val
  let c2_i32 : BitVec 32 := 2#32
  let v9 : BitVec 32 := Scalar.remsi arg0 c2_i32
  let v2741 : Index := Scalar.indexCast v9
  let arg1 : BitVec 32 := BitVec.ofNat 32 (i 1).val
  let v2742 : Index := Scalar.indexCast arg1
  let c384_1039 : Index := 384#32
  let c128_1040 : Index := 128#32
  ![v2741.toNat, v2742.toNat, 384, 128]
def k1_off101 (i : grid1.Coords) : Fin 4 → Nat :=
  let arg0 : BitVec 32 := BitVec.ofNat 32 (i 0).val
  let c2_i32 : BitVec 32 := 2#32
  let v9 : BitVec 32 := Scalar.remsi arg0 c2_i32
  let v2803 : Index := Scalar.indexCast v9
  let arg1 : BitVec 32 := BitVec.ofNat 32 (i 1).val
  let v2804 : Index := Scalar.indexCast arg1
  let c384_1063 : Index := 384#32
  let c256_1064 : Index := 256#32
  ![v2803.toNat, v2804.toNat, 384, 256]
def k1_off102 (i : grid1.Coords) : Fin 4 → Nat :=
  let arg0 : BitVec 32 := BitVec.ofNat 32 (i 0).val
  let c2_i32 : BitVec 32 := 2#32
  let v9 : BitVec 32 := Scalar.remsi arg0 c2_i32
  let v2865 : Index := Scalar.indexCast v9
  let arg1 : BitVec 32 := BitVec.ofNat 32 (i 1).val
  let v2866 : Index := Scalar.indexCast arg1
  let c384_1087 : Index := 384#32
  let c384_1088 : Index := 384#32
  ![v2865.toNat, v2866.toNat, 384, 384]
def k1_off103 (i : grid1.Coords) : Fin 4 → Nat :=
  let arg0 : BitVec 32 := BitVec.ofNat 32 (i 0).val
  let c2_i32 : BitVec 32 := 2#32
  let v9 : BitVec 32 := Scalar.remsi arg0 c2_i32
  let v2927 : Index := Scalar.indexCast v9
  let arg1 : BitVec 32 := BitVec.ofNat 32 (i 1).val
  let v2928 : Index := Scalar.indexCast arg1
  let c384_1111 : Index := 384#32
  let c512_1112 : Index := 512#32
  ![v2927.toNat, v2928.toNat, 384, 512]
def k1_off104 (i : grid1.Coords) : Fin 4 → Nat :=
  let arg0 : BitVec 32 := BitVec.ofNat 32 (i 0).val
  let c2_i32 : BitVec 32 := 2#32
  let v9 : BitVec 32 := Scalar.remsi arg0 c2_i32
  let v2989 : Index := Scalar.indexCast v9
  let arg1 : BitVec 32 := BitVec.ofNat 32 (i 1).val
  let v2990 : Index := Scalar.indexCast arg1
  let c384_1135 : Index := 384#32
  let c640_1136 : Index := 640#32
  ![v2989.toNat, v2990.toNat, 384, 640]
def k1_off105 (i : grid1.Coords) : Fin 4 → Nat :=
  let arg0 : BitVec 32 := BitVec.ofNat 32 (i 0).val
  let c2_i32 : BitVec 32 := 2#32
  let v9 : BitVec 32 := Scalar.remsi arg0 c2_i32
  let v3051 : Index := Scalar.indexCast v9
  let arg1 : BitVec 32 := BitVec.ofNat 32 (i 1).val
  let v3052 : Index := Scalar.indexCast arg1
  let c384_1159 : Index := 384#32
  let c768_1160 : Index := 768#32
  ![v3051.toNat, v3052.toNat, 384, 768]
def k1_off106 (i : grid1.Coords) : Fin 4 → Nat :=
  let arg0 : BitVec 32 := BitVec.ofNat 32 (i 0).val
  let c2_i32 : BitVec 32 := 2#32
  let v9 : BitVec 32 := Scalar.remsi arg0 c2_i32
  let v3113 : Index := Scalar.indexCast v9
  let arg1 : BitVec 32 := BitVec.ofNat 32 (i 1).val
  let v3114 : Index := Scalar.indexCast arg1
  let c384_1183 : Index := 384#32
  let c896_1184 : Index := 896#32
  ![v3113.toNat, v3114.toNat, 384, 896]
def k1_off107 (i : grid1.Coords) : Fin 4 → Nat :=
  let arg0 : BitVec 32 := BitVec.ofNat 32 (i 0).val
  let c2_i32 : BitVec 32 := 2#32
  let v9 : BitVec 32 := Scalar.remsi arg0 c2_i32
  let v3175 : Index := Scalar.indexCast v9
  let arg1 : BitVec 32 := BitVec.ofNat 32 (i 1).val
  let v3176 : Index := Scalar.indexCast arg1
  let c384_1207 : Index := 384#32
  let c1024_1208 : Index := 1024#32
  ![v3175.toNat, v3176.toNat, 384, 1024]
def k1_off108 (i : grid1.Coords) : Fin 4 → Nat :=
  let arg0 : BitVec 32 := BitVec.ofNat 32 (i 0).val
  let c2_i32 : BitVec 32 := 2#32
  let v9 : BitVec 32 := Scalar.remsi arg0 c2_i32
  let v3237 : Index := Scalar.indexCast v9
  let arg1 : BitVec 32 := BitVec.ofNat 32 (i 1).val
  let v3238 : Index := Scalar.indexCast arg1
  let c384_1231 : Index := 384#32
  let c1152_1232 : Index := 1152#32
  ![v3237.toNat, v3238.toNat, 384, 1152]
def k1_off109 (i : grid1.Coords) : Fin 4 → Nat :=
  let arg0 : BitVec 32 := BitVec.ofNat 32 (i 0).val
  let c2_i32 : BitVec 32 := 2#32
  let v9 : BitVec 32 := Scalar.remsi arg0 c2_i32
  let v3299 : Index := Scalar.indexCast v9
  let arg1 : BitVec 32 := BitVec.ofNat 32 (i 1).val
  let v3300 : Index := Scalar.indexCast arg1
  let c384_1255 : Index := 384#32
  let c1280_1256 : Index := 1280#32
  ![v3299.toNat, v3300.toNat, 384, 1280]
def k1_off110 (i : grid1.Coords) : Fin 4 → Nat :=
  let arg0 : BitVec 32 := BitVec.ofNat 32 (i 0).val
  let c2_i32 : BitVec 32 := 2#32
  let v9 : BitVec 32 := Scalar.remsi arg0 c2_i32
  let v3361 : Index := Scalar.indexCast v9
  let arg1 : BitVec 32 := BitVec.ofNat 32 (i 1).val
  let v3362 : Index := Scalar.indexCast arg1
  let c384_1279 : Index := 384#32
  let c1408_1280 : Index := 1408#32
  ![v3361.toNat, v3362.toNat, 384, 1408]
def k1_off111 (i : grid1.Coords) : Fin 4 → Nat :=
  let arg0 : BitVec 32 := BitVec.ofNat 32 (i 0).val
  let c2_i32 : BitVec 32 := 2#32
  let v9 : BitVec 32 := Scalar.remsi arg0 c2_i32
  let v3423 : Index := Scalar.indexCast v9
  let arg1 : BitVec 32 := BitVec.ofNat 32 (i 1).val
  let v3424 : Index := Scalar.indexCast arg1
  let c384_1303 : Index := 384#32
  let c1536_1304 : Index := 1536#32
  ![v3423.toNat, v3424.toNat, 384, 1536]
def k1_off112 (i : grid1.Coords) : Fin 4 → Nat :=
  let arg0 : BitVec 32 := BitVec.ofNat 32 (i 0).val
  let c2_i32 : BitVec 32 := 2#32
  let v9 : BitVec 32 := Scalar.remsi arg0 c2_i32
  let v3485 : Index := Scalar.indexCast v9
  let arg1 : BitVec 32 := BitVec.ofNat 32 (i 1).val
  let v3486 : Index := Scalar.indexCast arg1
  let c384_1327 : Index := 384#32
  let c1664_1328 : Index := 1664#32
  ![v3485.toNat, v3486.toNat, 384, 1664]
def k1_off113 (i : grid1.Coords) : Fin 4 → Nat :=
  let arg0 : BitVec 32 := BitVec.ofNat 32 (i 0).val
  let c1_i32_1333 : BitVec 32 := 1#32
  let v3498 : BitVec 32 := Scalar.addi arg0 c1_i32_1333
  let c2_i32_1334 : BitVec 32 := 2#32
  let v3499 : BitVec 32 := Scalar.remsi v3498 c2_i32_1334
  let v3503 : Index := Scalar.indexCast v3499
  let c0_1337 : Index := 0#32
  let c0_1338 : Index := 0#32
  let c0_1339 : Index := 0#32
  ![v3503.toNat, 0, 0, 0]
def k1_off114 (i : grid1.Coords) : Fin 4 → Nat :=
  let arg0 : BitVec 32 := BitVec.ofNat 32 (i 0).val
  let c1_i32_1333 : BitVec 32 := 1#32
  let v3498 : BitVec 32 := Scalar.addi arg0 c1_i32_1333
  let c2_i32_1334 : BitVec 32 := 2#32
  let v3499 : BitVec 32 := Scalar.remsi v3498 c2_i32_1334
  let v3510 : Index := Scalar.indexCast v3499
  let c1 : Index := 1#32
  let c0_1342 : Index := 0#32
  let c0_1343 : Index := 0#32
  ![v3510.toNat, 1, 0, 0]
def k1_off115 (i : grid1.Coords) : Fin 4 → Nat :=
  let arg0 : BitVec 32 := BitVec.ofNat 32 (i 0).val
  let c1_i32_1333 : BitVec 32 := 1#32
  let v3498 : BitVec 32 := Scalar.addi arg0 c1_i32_1333
  let c2_i32_1334 : BitVec 32 := 2#32
  let v3499 : BitVec 32 := Scalar.remsi v3498 c2_i32_1334
  let v3518 : Index := Scalar.indexCast v3499
  let c2 : Index := 2#32
  let c0_1346 : Index := 0#32
  let c0_1347 : Index := 0#32
  ![v3518.toNat, 2, 0, 0]
def k1_off116 (i : grid1.Coords) : Fin 4 → Nat :=
  let arg0 : BitVec 32 := BitVec.ofNat 32 (i 0).val
  let c1_i32_1333 : BitVec 32 := 1#32
  let v3498 : BitVec 32 := Scalar.addi arg0 c1_i32_1333
  let c2_i32_1334 : BitVec 32 := 2#32
  let v3499 : BitVec 32 := Scalar.remsi v3498 c2_i32_1334
  let v3526 : Index := Scalar.indexCast v3499
  let c3 : Index := 3#32
  let c0_1350 : Index := 0#32
  let c0_1351 : Index := 0#32
  ![v3526.toNat, 3, 0, 0]
def k1_off117 (i : grid1.Coords) : Fin 4 → Nat :=
  let arg0 : BitVec 32 := BitVec.ofNat 32 (i 0).val
  let c1_i32_1333 : BitVec 32 := 1#32
  let v3498 : BitVec 32 := Scalar.addi arg0 c1_i32_1333
  let c2_i32_1334 : BitVec 32 := 2#32
  let v3499 : BitVec 32 := Scalar.remsi v3498 c2_i32_1334
  let v3534 : Index := Scalar.indexCast v3499
  let c4 : Index := 4#32
  let c0_1354 : Index := 0#32
  let c0_1355 : Index := 0#32
  ![v3534.toNat, 4, 0, 0]
def k1_off118 (i : grid1.Coords) : Fin 4 → Nat :=
  let arg0 : BitVec 32 := BitVec.ofNat 32 (i 0).val
  let c1_i32_1333 : BitVec 32 := 1#32
  let v3498 : BitVec 32 := Scalar.addi arg0 c1_i32_1333
  let c2_i32_1334 : BitVec 32 := 2#32
  let v3499 : BitVec 32 := Scalar.remsi v3498 c2_i32_1334
  let v3542 : Index := Scalar.indexCast v3499
  let c5 : Index := 5#32
  let c0_1358 : Index := 0#32
  let c0_1359 : Index := 0#32
  ![v3542.toNat, 5, 0, 0]
def k1_off119 (i : grid1.Coords) : Fin 4 → Nat :=
  let arg0 : BitVec 32 := BitVec.ofNat 32 (i 0).val
  let c1_i32_1333 : BitVec 32 := 1#32
  let v3498 : BitVec 32 := Scalar.addi arg0 c1_i32_1333
  let c2_i32_1334 : BitVec 32 := 2#32
  let v3499 : BitVec 32 := Scalar.remsi v3498 c2_i32_1334
  let v3550 : Index := Scalar.indexCast v3499
  let c6 : Index := 6#32
  let c0_1362 : Index := 0#32
  let c0_1363 : Index := 0#32
  ![v3550.toNat, 6, 0, 0]
def k1_off120 (i : grid1.Coords) : Fin 4 → Nat :=
  let arg0 : BitVec 32 := BitVec.ofNat 32 (i 0).val
  let c1_i32_1333 : BitVec 32 := 1#32
  let v3498 : BitVec 32 := Scalar.addi arg0 c1_i32_1333
  let c2_i32_1334 : BitVec 32 := 2#32
  let v3499 : BitVec 32 := Scalar.remsi v3498 c2_i32_1334
  let v3558 : Index := Scalar.indexCast v3499
  let c7 : Index := 7#32
  let c0_1366 : Index := 0#32
  let c0_1367 : Index := 0#32
  ![v3558.toNat, 7, 0, 0]
def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c0_i32 : BitVec 32 := 0#32
  ![v0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc1_transform_3 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c0_i32_1 : BitVec 32 := 0#32
  let v3 : BitVec 32 := Scalar.select v2 c0_i32_1 arg1
  let c0_i32_2 : BitVec 32 := 0#32
  ![v1.toNat, v3.toNat]

def cc1_transform_4 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc1_transform_5 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c0_i32_1 : BitVec 32 := 0#32
  let v3 : BitVec 32 := Scalar.select v2 c0_i32_1 arg1
  let c0_i32_2 : BitVec 32 := 0#32
  ![v1.toNat, v3.toNat]

def cc1_transform_6 (i : grid1.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c0_i32 : BitVec 32 := 0#32
  ![v0.toNat, arg1.toNat]

def cc1_transform_7 (i : grid1.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc1_transform_8 (i : grid1.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c0_i32 : BitVec 32 := 0#32
  ![v0.toNat, arg1.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

abbrev stage1_0 : Fin 1 → Memref sig .tc .smem S1x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S512x1792 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S512x14336 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x512 .i8 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S512x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S512x1792 .fp8e5m2 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S512x112 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S512x1792 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S512x512 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev grid2 : Pipeline.Grid := ⟨3, ![2, 7, 16], ![false, false, false]⟩

def k2_cond1 (i : grid2.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k2_cond2 (i : grid2.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S2048x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]
-- ==== ReferenceIdeal.lean ====
abbrev S8x2048x4096 : Shape := ⟨3, ![8, 2048, 4096]⟩
abbrev S8x2048 : Shape := ⟨2, ![8, 2048]⟩
abbrev S1024x14336 : Shape := ⟨2, ![1024, 14336]⟩
abbrev S_ : Shape := ⟨0, ![]⟩
abbrev S8x2048x14336 : Shape := ⟨3, ![8, 2048, 14336]⟩
abbrev S1024x1x14336 : Shape := ⟨3, ![1024, 1, 14336]⟩
abbrev S1024x4x14336 : Shape := ⟨3, ![1024, 4, 14336]⟩
abbrev S4096x14336 : Shape := ⟨2, ![4096, 14336]⟩
abbrev S16384x4096 : Shape := ⟨2, ![16384, 4096]⟩
abbrev S16384x1 : Shape := ⟨2, ![16384, 1]⟩
abbrev S1x1 : Shape := ⟨2, ![1, 1]⟩
abbrev S16384x14336 : Shape := ⟨2, ![16384, 14336]⟩
abbrev S16384x112 : Shape := ⟨2, ![16384, 112]⟩
abbrev S16384x112x128 : Shape := ⟨3, ![16384, 112, 128]⟩
abbrev S16384x112x1 : Shape := ⟨3, ![16384, 112, 1]⟩

abbrev nBuf : Space → Nat
  | .hbm => 59
  | .vmem => 9
  | .smem => 0
  | _ => 0

abbrev bufTy : (tb : Table) → Fin (tcTables nBuf tb) → BufTy
  | .hbm, ⟨0, _⟩ => ⟨S8x2048x4096, .i8⟩
  | .hbm, ⟨1, _⟩ => ⟨S8x2048, .f32⟩
  | .hbm, ⟨2, _⟩ => ⟨S1024x14336, .i8⟩
  | .hbm, ⟨3, _⟩ => ⟨S_, .f32⟩
  | .hbm, ⟨4, _⟩ => ⟨S8x2048x14336, .bf16⟩
  | .hbm, ⟨5, _⟩ => ⟨S1024x14336, .i32⟩
  | .hbm, ⟨6, _⟩ => ⟨S_, .i32⟩
  | .hbm, ⟨7, _⟩ => ⟨S1024x14336, .i32⟩
  | .hbm, ⟨8, _⟩ => ⟨S1024x14336, .i32⟩
  | .hbm, ⟨9, _⟩ => ⟨S_, .i32⟩
  | .hbm, ⟨10, _⟩ => ⟨S1024x14336, .i32⟩
  | .hbm, ⟨11, _⟩ => ⟨S1024x14336, .i32⟩
  | .hbm, ⟨12, _⟩ => ⟨S_, .i32⟩
  | .hbm, ⟨13, _⟩ => ⟨S1024x14336, .i32⟩
  | .hbm, ⟨14, _⟩ => ⟨S1024x14336, .i32⟩
  | .hbm, ⟨15, _⟩ => ⟨S_, .i32⟩
  | .hbm, ⟨16, _⟩ => ⟨S1024x14336, .i32⟩
  | .hbm, ⟨17, _⟩ => ⟨S1024x14336, .i32⟩
  | .hbm, ⟨18, _⟩ => ⟨S_, .i32⟩
  | .hbm, ⟨19, _⟩ => ⟨S1024x14336, .i32⟩
  | .hbm, ⟨20, _⟩ => ⟨S1024x14336, .i32⟩
  | .hbm, ⟨21, _⟩ => ⟨S_, .i32⟩
  | .hbm, ⟨22, _⟩ => ⟨S1024x14336, .i32⟩
  | .hbm, ⟨23, _⟩ => ⟨S1024x14336, .i32⟩
  | .hbm, ⟨24, _⟩ => ⟨S_, .i32⟩
  | .hbm, ⟨25, _⟩ => ⟨S1024x14336, .i32⟩
  | .hbm, ⟨26, _⟩ => ⟨S1024x14336, .i32⟩
  | .hbm, ⟨27, _⟩ => ⟨S_, .i32⟩
  | .hbm, ⟨28, _⟩ => ⟨S1024x14336, .i32⟩
  | .hbm, ⟨29, _⟩ => ⟨S1024x14336, .i32⟩
  | .hbm, ⟨30, _⟩ => ⟨S1024x1x14336, .i32⟩
  | .hbm, ⟨31, _⟩ => ⟨S1024x1x14336, .i32⟩
  | .hbm, ⟨32, _⟩ => ⟨S1024x1x14336, .i32⟩
  | .hbm, ⟨33, _⟩ => ⟨S1024x1x14336, .i32⟩
  | .hbm, ⟨34, _⟩ => ⟨S1024x4x14336, .i32⟩
  | .hbm, ⟨35, _⟩ => ⟨S4096x14336, .i32⟩
  | .hbm, ⟨36, _⟩ => ⟨S_, .i32⟩
  | .hbm, ⟨37, _⟩ => ⟨S4096x14336, .i32⟩
  | .hbm, ⟨38, _⟩ => ⟨S4096x14336, .i1⟩
  | .hbm, ⟨39, _⟩ => ⟨S_, .i32⟩
  | .hbm, ⟨40, _⟩ => ⟨S4096x14336, .i32⟩
  | .hbm, ⟨41, _⟩ => ⟨S4096x14336, .i1⟩
  | .hbm, ⟨42, _⟩ => ⟨S_, .i32⟩
  | .hbm, ⟨43, _⟩ => ⟨S_, .i32⟩
  | .hbm, ⟨44, _⟩ => ⟨S4096x14336, .i32⟩
  | .hbm, ⟨45, _⟩ => ⟨S4096x14336, .i32⟩
  | .hbm, ⟨46, _⟩ => ⟨S4096x14336, .i32⟩
  | .hbm, ⟨47, _⟩ => ⟨S_, .i32⟩
  | .hbm, ⟨48, _⟩ => ⟨S4096x14336, .i32⟩
  | .hbm, ⟨49, _⟩ => ⟨S4096x14336, .i32⟩
  | .hbm, ⟨50, _⟩ => ⟨S4096x14336, .bf16⟩
  | .hbm, ⟨51, _⟩ => ⟨S16384x4096, .i8⟩
  | .hbm, ⟨52, _⟩ => ⟨S16384x1, .f32⟩
  | .hbm, ⟨53, _⟩ => ⟨S1x1, .f32⟩
  | .hbm, ⟨54, _⟩ => ⟨S16384x14336, .bf16⟩
  | .hbm, ⟨55, _⟩ => ⟨S16384x4096, .bf16⟩
  | .hbm, ⟨56, _⟩ => ⟨S4096x14336, .f32⟩
  | .hbm, ⟨57, _⟩ => ⟨S16384x14336, .fp8e5m2⟩
  | .hbm, ⟨58, _⟩ => ⟨S16384x112, .f32⟩
  | .local _ .vmem, ⟨0, _⟩ => ⟨S16384x4096, .i8⟩
  | .local _ .vmem, ⟨1, _⟩ => ⟨S16384x1, .f32⟩
  | .local _ .vmem, ⟨2, _⟩ => ⟨S4096x14336, .bf16⟩
  | .local _ .vmem, ⟨3, _⟩ => ⟨S1x1, .f32⟩
  | .local _ .vmem, ⟨4, _⟩ => ⟨S16384x14336, .bf16⟩
  | .local _ .vmem, ⟨5, _⟩ => ⟨S16384x4096, .bf16⟩
  | .local _ .vmem, ⟨6, _⟩ => ⟨S4096x14336, .f32⟩
  | .local _ .vmem, ⟨7, _⟩ => ⟨S16384x14336, .fp8e5m2⟩
  | .local _ .vmem, ⟨8, _⟩ => ⟨S16384x112, .f32⟩
  | _, _ => ⟨S8x2048x4096, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_c_2 : Ref sig .tc := ⟨.hbm, 15, rfl⟩
abbrev main_v7 : Ref sig .tc := ⟨.hbm, 16, rfl⟩
abbrev main_v8 : Ref sig .tc := ⟨.hbm, 17, rfl⟩
abbrev main_c_3 : Ref sig .tc := ⟨.hbm, 18, rfl⟩
abbrev main_v9 : Ref sig .tc := ⟨.hbm, 19, rfl⟩
abbrev main_v10 : Ref sig .tc := ⟨.hbm, 20, rfl⟩
abbrev main_c_4 : Ref sig .tc := ⟨.hbm, 21, rfl⟩
abbrev main_v11 : Ref sig .tc := ⟨.hbm, 22, rfl⟩
abbrev main_v12 : Ref sig .tc := ⟨.hbm, 23, rfl⟩
abbrev main_c_5 : Ref sig .tc := ⟨.hbm, 24, rfl⟩
abbrev main_v13 : Ref sig .tc := ⟨.hbm, 25, rfl⟩
abbrev main_v14 : Ref sig .tc := ⟨.hbm, 26, rfl⟩
abbrev main_c_6 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_7 : Ref sig .tc := ⟨.hbm, 36, rfl⟩
abbrev main_v23 : Ref sig .tc := ⟨.hbm, 37, rfl⟩
abbrev main_v24 : Ref sig .tc := ⟨.hbm, 38, rfl⟩
abbrev main_c_8 : Ref sig .tc := ⟨.hbm, 39, rfl⟩
abbrev main_v25 : Ref sig .tc := ⟨.hbm, 40, rfl⟩
abbrev main_v26 : Ref sig .tc := ⟨.hbm, 41, rfl⟩
abbrev main_c_9 : Ref sig .tc := ⟨.hbm, 42, rfl⟩
abbrev main_c_10 : Ref sig .tc := ⟨.hbm, 43, rfl⟩
abbrev main_call0_v0 : Ref sig .tc := ⟨.hbm, 44, rfl⟩
abbrev main_call0_v1 : Ref sig .tc := ⟨.hbm, 45, rfl⟩
abbrev main_v27 : Ref sig .tc := ⟨.hbm, 46, rfl⟩
abbrev main_c_11 : Ref sig .tc := ⟨.hbm, 47, rfl⟩
abbrev main_call1_v0 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34_0 : Ref sig .tc := ⟨.hbm, 55, rfl⟩
abbrev main_v34_1 : Ref sig .tc := ⟨.hbm, 56, rfl⟩
abbrev main_v34_2 : Ref sig .tc := ⟨.hbm, 57, rfl⟩
abbrev main_v34_3 : Ref sig .tc := ⟨.hbm, 58, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S16384x4096 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x14336 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x14336 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x14336 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16384x14336 .fp8e5m2 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16384x112 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.DecodeRegion.lean ====
/- The decoder's region: what its body leaves at every grid point, from the array as the region finds it. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Gen.Decode

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r0_0 : Rect S256x2048 := Rect.unit (s := S256x2048) ![0, 0] S256x2048.size inb_S256x2048_S256x2048_0_0
abbrev r0_1 : Rect S1024x2048 := Rect.unit (s := S1024x2048) ![0, 0] S1024x2048.size inb_S1024x2048_S1024x2048_0_0

/-! ## What the body leaves in each output window's buffer -/

/-- Window 1's staging buffer after the body, from the input windows' blocks: its 1 store as pieces, LAST
    FIRST (Lib/Pipeline/FrameBody.lean `View.canon`; the payloads are the skeleton's). -/
def out0_1 (x0 : Vec F S256x2048 .i8) : Vec F S1024x2048 .i8 :=
  View.canon [⟨r0_1, k0_pay1 (View.ld x0 r0_0)⟩]

/-- Its stores tile the buffer (checked by evaluation), so they cover it. -/
theorem cover0_1 (p0 : Vec F S1024x2048 .i8) (y : S1024x2048.Idx) :
    ∃ pc ∈ ([⟨r0_1, p0⟩] : List (View.Piece (Elt F) S1024x2048 .i8)), y ∈ pc.1.set :=
  View.cover_of_tiled [⟨r0_1, p0⟩] S1024x2048.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg2 : Memref sig .tc .vmem S256x2048 .i8) (harg2 : arg2.IsWhole) (arg3 : Memref sig .tc .vmem S1024x2048 .i8) (harg3 : arg3.IsWhole)
    (x0 : Vec F S256x2048 .i8) (K : PUnit → sProp (MT nD τ sig Unit (Elt F) ℕ (UR sig nD τ) ℕ)) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out0_1 x0)) -∗ K ⟨⟩))
      ⊢ wp frame (wpE (defs₀ (F := F)) Variants.none c none) E (cc0_decode_w i arg2 harg2 arg3 harg3) K := by
  simp only [cc0_decode_w_eq_skeleton]; unfold cc0_decode_w_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => out0_1 (iblk V c 0 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dat V c).A w = V c (Pipeline.arrRef spec0 w) := by
  dsimp only [dat]

/-- What the body leaves, window by window (the proof data's `match` reduced by `dsimp`, never `rfl`: Lib/Pipeline.lean `Dat`). -/
theorem after0_0 (c : Dev nD) (t : Fin cfg0.N) : (dat V c).after 0 t = iblk V c 0 t := by dsimp only [dat]
theorem after0_1 (c : Dev nD) (t : Fin cfg0.N) : (dat V c).after 1 t = out0_1 (iblk V c 0 t) := by dsimp only [dat]

/-- Each input's current staging buffer holds its block at every point, fetched there or not (`beforeK_W_of`). -/
theorem before0_0 (c : Dev nD) (t : Fin cfg0.N) (d) : (dat V c).before 0 t d = iblk V c 0 t :=
  before0_0_of V (dat V c) (A_eq V c 0) (after0_0 V c) t d

/-! ## The body obligation, at a generic point -/

/-- What the body is called with at point `t` (Lib/Pipeline.lean `BodyObligation`'s precondition, the windows one by one), -/
def bodyPre (c : Dev nD) (t : Fin cfg0.N) : sProp (MT nD τ sig Unit (Elt F) ℕ (UR sig nD τ) ℕ) :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d)))

/-- and what it returns. -/
def bodyPost (c : Dev nD) (t : Fin cfg0.N) : sProp (MT nD τ sig Unit (Elt F) ℕ (UR sig nD τ) ℕ) :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t))

/-- The body at any point: the inputs' memrefs hold their blocks (`before0_W`), so `sound_kernel` applies; the invariant and
    the core's `owes` pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0]
  rw [show (dat V c).Φ t.succ = (dat V c).Φ t.castSucc from rfl,
    show (dat V c).owesAt () t.succ = (dat V c).owesAt () t.castSucc from rfl,
    after0_0, after0_1]
  iintro ⟨HΦ, Ho, ⟨%d0, H0⟩, ⟨%d1, H1⟩⟩
  iapply (sound_kernel c Set.univ (grid0.coords t) _ _ _ _ (iblk V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

end Cert.KernelIdeal.Gen.Decode

end
-- ==== Proof.QuantBlk.lean ====
/- What one pass of the quantiser's body computes, as functions of the arrays it reads: the codes and the dequantised
   gradient of a 512×1792 tile (each 128×128 block on its own), the scale rows with the pass's fourteen columns set, and
   the two-slot scratch with the pass's slot rewritten. Each comes with a lemma saying that the piece a store writes is
   that function over the store's rectangle. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.ReadBack
public import Idealize.ShloMosaic.Lib.Pipeline.Value
public import Idealize.ShloMosaic.Lib.Ring
public import Idealize.ShloMosaic.Lib.Tactic
public import Idealize.ShloMosaic.Lib.WordCmp
public import Idealize.ShloMosaic.Lib.ValueLayout

@[expose] public section

noncomputable section

namespace Cert.KernelIdeal.Gen

open Idealize.ShloMosaic Idealize.ShloMosaic.TcCoe Idealize.ShloMosaic.Tactic Idealize.ShloMosaic.ValueIdx

variable {F : FTy → Type} [FloatOps F]

theorem off2_zero : (![0, 0] : Fin 2 → ℕ) = fun _ => 0 := by
  funext a; fin_cases a <;> rfl

/-- Block `(r, c)` of a 512×1792 tile: 128 rows and 128 columns. -/
def blockAt (r c : ℕ) : Rect S512x1792 :=
  Rect.unit ![128 * (r % 4), 128 * (c % 14)] S128x128.size (by
    intro a; fin_cases a
    · show 128 * (r % 4) + 128 ≤ 512; omega
    · show 128 * (c % 14) + 128 ≤ 1792; omega)

/-- The 128×128 index at `(a, b)`. -/
def at2 (a b : ℕ) : S128x128.Idx := ix2 ⟨a % 128, Nat.mod_lt _ (by decide)⟩ ⟨b % 128, Nat.mod_lt _ (by decide)⟩

/-- The contents of a block. -/
def blockLd (x : Vec F S512x1792 .bf16) (r c : ℕ) : Vec F S128x128 .bf16 := View.ld x (blockAt r c)

theorem blockLd_congr (x : Vec F S512x1792 .bf16) {r r' c c' : ℕ} (hr : r % 4 = r' % 4) (hc : c % 14 = c' % 14) :
    blockLd x r c = blockLd x r' c' := by
  funext z
  show x _ = x _
  congr 1
  funext a
  fin_cases a
  · apply Fin.ext; show 128 * (r % 4) + 1 * (z 0).val = 128 * (r' % 4) + 1 * (z 0).val; omega
  · apply Fin.ext; show 128 * (c % 14) + 1 * (z 1).val = 128 * (c' % 14) + 1 * (z 1).val; omega

/-- The scale of a 128×128 block, one per row. -/
def qScale (x : Vec F S128x128 .bf16) : FVec F S128x1 .f32 := k1_pay7 x
/-- The codes of a 128×128 block. -/
def qCodes (x : Vec F S128x128 .bf16) : FVec F S128x128 .fp8e5m2 := k1_pay9 (k1_pay8 x)
/-- The block dequantised: the codes times the scale. -/
def qDeq (x : Vec F S128x128 .bf16) : FVec F S128x128 .bf16 := k1_pay10 (k1_pay7 x) (k1_pay8 x)

/-- A function of 128×128 blocks applied to every block of a tile. -/
def blockwise {α : Type} (q : Vec F S128x128 .bf16 → S128x128.Idx → α) (x : Vec F S512x1792 .bf16) : S512x1792.Idx → α :=
  fun y => q (blockLd x ((y 0).val / 128) ((y 1).val / 128)) (at2 (y 0).val (y 1).val)

/-- A store of a block's result is a piece of the blockwise function. -/
theorem blockwise_piece {α : Type} (q : Vec F S128x128 .bf16 → S128x128.Idx → α) (x : Vec F S512x1792 .bf16) (r c : ℕ)
    (z : S128x128.Idx) : q (blockLd x r c) z = blockwise q x ((blockAt r c).emb z) := by
  have h0 : (((blockAt r c).emb z) 0).val = 128 * (r % 4) + (z 0).val := by
    show 128 * (r % 4) + 1 * (z 0).val = _; omega
  have h1 : (((blockAt r c).emb z) 1).val = 128 * (c % 14) + (z 1).val := by
    show 128 * (c % 14) + 1 * (z 1).val = _; omega
  have z0 : (z 0).val < 128 := (z 0).isLt
  have z1 : (z 1).val < 128 := (z 1).isLt
  unfold blockwise
  rw [h0, h1]
  have e : blockLd x ((128 * (r % 4) + (z 0).val) / 128) ((128 * (c % 14) + (z 1).val) / 128) = blockLd x r c :=
    blockLd_congr x (by omega) (by omega)
  rw [e]
  congr 1
  funext a
  fin_cases a
  · apply Fin.ext; show (z 0).val = (128 * (r % 4) + (z 0).val) % 128; omega
  · apply Fin.ext; show (z 1).val = (128 * (c % 14) + (z 1).val) % 128; omega

/-- The tile's codes. -/
def codesF (x : Vec F S512x1792 .bf16) : Vec F S512x1792 .fp8e5m2 := blockwise qCodes x
/-- The tile dequantised. -/
def deqF (x : Vec F S512x1792 .bf16) : Vec F S512x1792 .bf16 := blockwise qDeq x

/-- Rows `128 r … 128 r + 127` of the scales. -/
def rowsAt (r : ℕ) : Rect S512x112 :=
  Rect.unit ![128 * (r % 4), 0] S128x112.size (by
    intro a; fin_cases a
    · show 128 * (r % 4) + 128 ≤ 512; omega
    · show 0 + 112 ≤ 112; omega)

/-- The first `n` column updates of a row group that held `l`: column `14 p + c` becomes the scale of block `(r, c)`. -/
def rowScales (p : BitVec 32) (x : Vec F S512x1792 .bf16) (l : Vec F S128x112 .f32) (r : ℕ) : ℕ → FVec F S128x112 .f32
  | 0 => k1_pay4 l
  | n + 1 =>
    select (cmpi .eq (iota .tc S128x112 32 [1] iota_S128x112_d1_w32) (broadcast S128x112 (Scalar.addi (Scalar.muli p 14#32) (BitVec.ofNat 32 n))))
      (broadcastTo S128x112 (shapeCast S128x1 (qScale (blockLd x r n)) shapeCasts_S128x1_S128x1) broadcasts_S128x1_S128x112)
      (rowScales p x l r n)

/-- The contents of a row group. -/
def rowsLd (s : Vec F S512x112 .f32) (r : ℕ) : Vec F S128x112 .f32 := View.ld s (rowsAt r)

/-- The scales with the pass's fourteen columns set, one block row of 128 at a time. -/
def scalesF (p : BitVec 32) (x : Vec F S512x1792 .bf16) (s : Vec F S512x112 .f32) : Vec F S512x112 .f32 :=
  fun y => rowScales p x (rowsLd s ((y 0).val / 128)) ((y 0).val / 128) 14 (ix2 ⟨(y 0).val % 128, Nat.mod_lt _ (by decide)⟩ (y 1))

/-- A store of a row group is a piece of the scales. -/
theorem scales_piece (p : BitVec 32) (x : Vec F S512x1792 .bf16) (s : Vec F S512x112 .f32) (r : ℕ) (hr : r < 4) (z : S128x112.Idx) :
    rowScales p x (rowsLd s r) r 14 z = scalesF p x s ((rowsAt r).emb z) := by
  have h0 : (((rowsAt r).emb z) 0).val = 128 * (r % 4) + (z 0).val := by
    show 128 * (r % 4) + 1 * (z 0).val = _; omega
  have h1 : ((rowsAt r).emb z) 1 = z 1 := by
    apply Fin.ext; show 0 + 1 * (z 1).val = _; omega
  have z0 : (z 0).val < 128 := (z 0).isLt
  have er : (((rowsAt r).emb z) 0).val / 128 = r := by omega
  unfold scalesF
  rw [er]
  congr 1
  funext a
  fin_cases a
  · apply Fin.ext; show (z 0).val = (((rowsAt r).emb z) 0).val % 128; omega
  · exact h1.symm

/-- Slot `(b, p)` of the scratch rewritten by the tile `x` dequantised. -/
def slotPut (b p : ℕ) (x : Vec F S512x1792 .bf16) (G : Vec F S2x8x512x1792 .bf16) : Vec F S2x8x512x1792 .bf16 :=
  fun y => if (y 0).val = b ∧ (y 1).val = p then deqF x (ix2 (y 2) (y 3)) else G y

/-- A store of a dequantised block into its place of slot `(b, p)` is a piece of the rewritten scratch. -/
theorem slot_piece (b p : ℕ) (x : Vec F S512x1792 .bf16) (G : Vec F S2x8x512x1792 .bf16) (r c : ℕ)
    (hr : r < 4) (hc : c < 14) (off : Fin 4 → ℕ) (h : off = ![b, p, 128 * r, 128 * c])
    (inb : ∀ a, off a + S1x1x128x128.size a ≤ S2x8x512x1792.size a) (z : S1x1x128x128.Idx) :
    shapeCast S1x1x128x128 (qDeq (blockLd x r c)) shapeCasts_S128x128_S1x1x128x128 z
      = slotPut b p x G ((Rect.unit (s := S2x8x512x1792) off S1x1x128x128.size inb).emb z) := by
  subst h
  have h0 : (((Rect.unit (s := S2x8x512x1792) ![b, p, 128 * r, 128 * c] S1x1x128x128.size inb).emb z) 0).val = b := by
    show b + 1 * (z 0).val = _; have : (z 0).val < 1 := (z 0).isLt; omega
  have h1 : (((Rect.unit (s := S2x8x512x1792) ![b, p, 128 * r, 128 * c] S1x1x128x128.size inb).emb z) 1).val = p := by
    show p + 1 * (z 1).val = _; have : (z 1).val < 1 := (z 1).isLt; omega
  unfold slotPut
  rw [if_pos ⟨h0, h1⟩]
  have e := blockwise_piece qDeq x r c (ix2 (z 2) (z 3))
  have e2 : (blockAt r c).emb (ix2 (z 2) (z 3)) = ix2 (((Rect.unit (s := S2x8x512x1792) ![b, p, 128 * r, 128 * c] S1x1x128x128.size inb).emb z) 2) (((Rect.unit (s := S2x8x512x1792) ![b, p, 128 * r, 128 * c] S1x1x128x128.size inb).emb z) 3) := by
    funext a
    fin_cases a
    · apply Fin.ext; show 128 * (r % 4) + 1 * (z 2).val = 128 * r + 1 * (z 2).val; omega
    · apply Fin.ext; show 128 * (c % 14) + 1 * (z 3).val = 128 * c + 1 * (z 3).val; omega
  rw [e2] at e
  refine Eq.trans ?_ e
  apply shapeCast_apply
  rw [Shape.rowMajor_val_two, Shape.rowMajor_val_four]
  have : (z 0).val < 1 := (z 0).isLt
  have : (z 1).val < 1 := (z 1).isLt
  show (z 2).val * 128 + (z 3).val = (((z 0).val * 1 + (z 1).val) * 128 + (z 2).val) * 128 + (z 3).val
  omega

/-- The stores of the dequantised blocks into slot `(b, p)`, the last first: block `n - 1` in row-major order, then the
    earlier ones. -/
def SlotPieces (b p : ℕ) (x : Vec F S512x1792 .bf16) : ℕ → List (View.Piece (Elt F) S2x8x512x1792 .bf16) → Prop
  | 0, L => L = []
  | _ + 1, [] => False
  | n + 1, q :: L => (∃ (off : Fin 4 → ℕ) (inb : ∀ a, off a + S1x1x128x128.size a ≤ S2x8x512x1792.size a),
      q = ⟨Rect.unit (s := S2x8x512x1792) off S1x1x128x128.size inb,
        shapeCast S1x1x128x128 (qDeq (blockLd x (n / 14) (n % 14))) shapeCasts_S128x128_S1x1x128x128⟩
      ∧ off = ![b, p, 128 * (n / 14), 128 * (n % 14)]) ∧ SlotPieces b p x n L

theorem SlotPieces.piece {b p : ℕ} {x : Vec F S512x1792 .bf16} (G : Vec F S2x8x512x1792 .bf16) :
    ∀ {n : ℕ} {L : List (View.Piece (Elt F) S2x8x512x1792 .bf16)}, n ≤ 56 → SlotPieces b p x n L →
      ∀ q ∈ L, ∀ z : q.1.shape.Idx, q.2 z = slotPut b p x G (q.1.emb z)
  | 0, L, _, h, q, hq => by
    have : L = [] := h
    subst this; exact absurd hq List.not_mem_nil
  | n + 1, [], _, h, _, _ => h.elim
  | n + 1, q' :: L, hn, ⟨⟨off, inb, e, eo⟩, hL⟩, q, hq => by
    intro z
    rcases List.mem_cons.mp hq with rfl | hq
    · subst e
      exact slot_piece b p x G (n / 14) (n % 14) (by omega) (by omega) off eo inb z
    · exact SlotPieces.piece G (by omega) hL q hq z

theorem SlotPieces.cover {b p : ℕ} {x : Vec F S512x1792 .bf16} :
    ∀ {n : ℕ} {L : List (View.Piece (Elt F) S2x8x512x1792 .bf16)}, SlotPieces b p x n L →
      ∀ y : S2x8x512x1792.Idx, (y 0).val = b → (y 1).val = p → (y 2).val / 128 * 14 + (y 3).val / 128 < n →
        ∃ q ∈ L, y ∈ q.1.set
  | 0, _, _, _, _, _, h => absurd h (by omega)
  | n + 1, [], h, _, _, _, _ => h.elim
  | n + 1, q' :: L, ⟨⟨off, inb, e, eo⟩, hL⟩, y, h0, h1, hlt => by
    by_cases hn : (y 2).val / 128 * 14 + (y 3).val / 128 = n
    · refine ⟨q', List.mem_cons_self, ?_⟩
      subst e eo
      have y2 : (y 2).val < 512 := (y 2).isLt
      have y3 : (y 3).val < 1792 := (y 3).isLt
      rw [Rect.mem_set_unit]
      intro a
      fin_cases a
      · show b ≤ (y 0).val ∧ (y 0).val < b + 1; omega
      · show p ≤ (y 1).val ∧ (y 1).val < p + 1; omega
      · show 128 * (n / 14) ≤ (y 2).val ∧ (y 2).val < 128 * (n / 14) + 128; omega
      · show 128 * (n % 14) ≤ (y 3).val ∧ (y 3).val < 128 * (n % 14) + 128; omega
    · obtain ⟨q, hq, hy⟩ := SlotPieces.cover hL y h0 h1 (by omega)
      exact ⟨q, List.mem_cons_of_mem _ hq, hy⟩

theorem SlotPieces.not_mem {b p : ℕ} {x : Vec F S512x1792 .bf16} :
    ∀ {n : ℕ} {L : List (View.Piece (Elt F) S2x8x512x1792 .bf16)}, SlotPieces b p x n L →
      ∀ y : S2x8x512x1792.Idx, ¬((y 0).val = b ∧ (y 1).val = p) → ∀ q ∈ L, y ∉ q.1.set
  | 0, L, h, _, _, q, hq => by
    have : L = [] := h
    subst this; exact absurd hq List.not_mem_nil
  | n + 1, [], h, _, _, _, _ => h.elim
  | n + 1, q' :: L, ⟨⟨off, inb, e, eo⟩, hL⟩, y, hy, q, hq => by
    rcases List.mem_cons.mp hq with rfl | hq
    · subst e eo
      rw [Rect.mem_set_unit]
      intro h
      have a0 : b ≤ (y 0).val ∧ (y 0).val < b + 1 := h 0
      have a1 : p ≤ (y 1).val ∧ (y 1).val < p + 1 := h 1
      exact hy ⟨by omega, by omega⟩
    · exact SlotPieces.not_mem hL y hy q hq

/-- What the 56 stores leave in the scratch. -/
theorem SlotPieces.read_writes {κ : Kind} {sp : Space} (v : View sig κ sp S2x8x512x1792 .bf16) (f : v.ty.Contents (Elt F)) {b p : ℕ}
    {x : Vec F S512x1792 .bf16} {L : List (View.Piece (Elt F) S2x8x512x1792 .bf16)} (h : SlotPieces b p x 56 L) :
    v.read (Elt F) (v.writes (Elt F) f L) = slotPut b p x (v.read (Elt F) f) := by
  funext y
  by_cases hy : (y 0).val = b ∧ (y 1).val = p
  · have y2 : (y 2).val < 512 := (y 2).isLt
    have y3 : (y 3).val < 1792 := (y 3).isLt
    exact View.read_writes_apply_of_pieces v f _ L (SlotPieces.piece _ le_rfl h) y
      (SlotPieces.cover h y hy.1 hy.2 (by omega))
  · rw [View.read_writes_apply_of_forall_not_mem v f y L (SlotPieces.not_mem h y hy)]
    unfold slotPut
    rw [if_neg hy]

/-- The stores of one result per block of a tile, the last first. -/
def BlockPieces {e : EltTy} (q : Vec F S128x128 .bf16 → Vec F S128x128 e) (x : Vec F S512x1792 .bf16) :
    ℕ → List (View.Piece (Elt F) S512x1792 e) → Prop
  | 0, L => L = []
  | _ + 1, [] => False
  | n + 1, q' :: L => q' = ⟨blockAt (n / 14) (n % 14), q (blockLd x (n / 14) (n % 14))⟩ ∧ BlockPieces q x n L

theorem BlockPieces.piece {e : EltTy} {q : Vec F S128x128 .bf16 → Vec F S128x128 e} {x : Vec F S512x1792 .bf16} :
    ∀ {n : ℕ} {L : List (View.Piece (Elt F) S512x1792 e)}, BlockPieces q x n L →
      ∀ q' ∈ L, ∀ z : q'.1.shape.Idx, q'.2 z = blockwise q x (q'.1.emb z)
  | 0, L, h, q', hq => by
    have : L = [] := h
    subst this; exact absurd hq List.not_mem_nil
  | n + 1, [], h, _, _ => h.elim
  | n + 1, q'' :: L, ⟨he, hL⟩, q', hq => by
    intro z
    rcases List.mem_cons.mp hq with rfl | hq
    · subst he
      exact blockwise_piece q x (n / 14) (n % 14) z
    · exact BlockPieces.piece hL q' hq z

theorem BlockPieces.cover {e : EltTy} {q : Vec F S128x128 .bf16 → Vec F S128x128 e} {x : Vec F S512x1792 .bf16} :
    ∀ {n : ℕ} {L : List (View.Piece (Elt F) S512x1792 e)}, BlockPieces q x n L →
      ∀ y : S512x1792.Idx, (y 0).val / 128 * 14 + (y 1).val / 128 < n → ∃ q' ∈ L, y ∈ q'.1.set
  | 0, _, _, _, h => absurd h (by omega)
  | n + 1, [], h, _, _ => h.elim
  | n + 1, q'' :: L, ⟨he, hL⟩, y, hlt => by
    by_cases hn : (y 0).val / 128 * 14 + (y 1).val / 128 = n
    · refine ⟨q'', List.mem_cons_self, ?_⟩
      subst he
      have y0 : (y 0).val < 512 := (y 0).isLt
      have y1 : (y 1).val < 1792 := (y 1).isLt
      unfold blockAt
      rw [Rect.mem_set_unit]
      intro a
      fin_cases a
      · show 128 * (n / 14 % 4) ≤ (y 0).val ∧ (y 0).val < 128 * (n / 14 % 4) + 128; omega
      · show 128 * (n % 14 % 14) ≤ (y 1).val ∧ (y 1).val < 128 * (n % 14 % 14) + 128; omega
    · obtain ⟨q', hq, hy⟩ := BlockPieces.cover hL y (by omega)
      exact ⟨q', List.mem_cons_of_mem _ hq, hy⟩

/-- What the 56 stores leave in a tile. -/
theorem BlockPieces.read_writes {κ : Kind} {sp : Space} {e : EltTy} (v : View sig κ sp S512x1792 e) (f : v.ty.Contents (Elt F))
    {q : Vec F S128x128 .bf16 → Vec F S128x128 e} {x : Vec F S512x1792 .bf16} {L : List (View.Piece (Elt F) S512x1792 e)}
    (h : BlockPieces q x 56 L) : v.read (Elt F) (v.writes (Elt F) f L) = blockwise q x := by
  funext y
  have y0 : (y 0).val < 512 := (y 0).isLt
  have y1 : (y 1).val < 1792 := (y 1).isLt
  exact View.read_writes_apply_of_pieces v f _ L (BlockPieces.piece h) y (BlockPieces.cover h y (by omega))

/-- What the four stores of row groups leave in the scales, over any earlier stores. -/
theorem scales_read_writes {κ : Kind} {sp : Space} (v : View sig κ sp S512x112 .f32) (f : v.ty.Contents (Elt F)) (p : BitVec 32)
    (x : Vec F S512x1792 .bf16) (s : Vec F S512x112 .f32) {l0 l1 l2 l3 : Vec F S128x112 .f32} (L : List (View.Piece (Elt F) S512x112 .f32))
    (h0 : l0 = rowsLd s 0) (h1 : l1 = rowsLd s 1) (h2 : l2 = rowsLd s 2) (h3 : l3 = rowsLd s 3) :
    v.read (Elt F) (v.writes (Elt F) f (⟨rowsAt 3, rowScales p x l3 3 14⟩ :: ⟨rowsAt 2, rowScales p x l2 2 14⟩ ::
      ⟨rowsAt 1, rowScales p x l1 1 14⟩ :: ⟨rowsAt 0, rowScales p x l0 0 14⟩ :: L)) = scalesF p x s := by
  subst h0 h1 h2 h3
  funext y
  have y0 : (y 0).val < 512 := (y 0).isLt
  have y1 : (y 1).val < 112 := (y 1).isLt
  rw [show (⟨rowsAt 3, rowScales p x (rowsLd s 3) 3 14⟩ :: ⟨rowsAt 2, rowScales p x (rowsLd s 2) 2 14⟩ ::
      ⟨rowsAt 1, rowScales p x (rowsLd s 1) 1 14⟩ :: ⟨rowsAt 0, rowScales p x (rowsLd s 0) 0 14⟩ :: L : List (View.Piece (Elt F) S512x112 .f32))
    = [⟨rowsAt 3, rowScales p x (rowsLd s 3) 3 14⟩, ⟨rowsAt 2, rowScales p x (rowsLd s 2) 2 14⟩,
      ⟨rowsAt 1, rowScales p x (rowsLd s 1) 1 14⟩, ⟨rowsAt 0, rowScales p x (rowsLd s 0) 0 14⟩] ++ L from rfl, View.writes_append]
  refine View.read_writes_apply_of_pieces v _ _ _ ?_ y ?_
  · exact View.PiecesOf.mem ⟨scales_piece p x s 3 (by omega), scales_piece p x s 2 (by omega),
      scales_piece p x s 1 (by omega), scales_piece p x s 0 (by omega), trivial⟩
  · have key : ∀ r, (y 0).val / 128 = r → y ∈ (rowsAt r).set := by
      intro r hr
      unfold rowsAt
      rw [Rect.mem_set_unit]
      intro a
      fin_cases a
      · show 128 * (r % 4) ≤ (y 0).val ∧ (y 0).val < 128 * (r % 4) + 128; omega
      · show 0 ≤ (y 1).val ∧ (y 1).val < 0 + 112; omega
    have hc : (y 0).val / 128 = 3 ∨ (y 0).val / 128 = 2 ∨ (y 0).val / 128 = 1 ∨ (y 0).val / 128 = 0 := by omega
    rcases hc with h | h | h | h
    · exact ⟨_, List.mem_cons_self, key 3 h⟩
    · exact ⟨_, List.mem_cons_of_mem _ List.mem_cons_self, key 2 h⟩
    · exact ⟨_, List.mem_cons_of_mem _ (List.mem_cons_of_mem _ List.mem_cons_self), key 1 h⟩
    · exact ⟨_, List.mem_cons_of_mem _ (List.mem_cons_of_mem _ (List.mem_cons_of_mem _ List.mem_cons_self)), key 0 h⟩

/-- A row group loaded after a fill of the whole buffer, with nothing stored in between. -/
theorem rows_fill0 {κ : Kind} {sp : Space} (v : View sig κ sp S512x112 .f32) (Z : Vec F S512x112 .f32)
    (inb : ∀ a, (![0, 0] : Fin 2 → ℕ) a + S512x112.size a ≤ S512x112.size a) (r : ℕ) :
    v.readCov [⟨Rect.unit (s := S512x112) ![0, 0] S512x112.size inb, Z⟩] (rowsAt r).toLoadRect = rowsLd Z r :=
  View.readCov_fill v inb Z [] (rowsAt r) (fun a => congrFun off2_zero a)

/-- A store of another row group changes nothing for a later load. -/
theorem rows_skip {κ : Kind} {sp : Space} (v : View sig κ sp S512x112 .f32) (Z : Vec F S512x112 .f32) (r r' : ℕ) (hr : r < 4) (hr' : r' < 4) (hne : r ≠ r')
    (w : Vec F S128x112 .f32) (L : List (View.Piece (Elt F) S512x112 .f32)) (h : v.readCov L (rowsAt r').toLoadRect = rowsLd Z r') :
    v.readCov (⟨rowsAt r, w⟩ :: L) (rowsAt r').toLoadRect = rowsLd Z r' := by
  rw [← h, View.readCov_eq_canon', View.readCov_eq_canon']
  funext j
  refine View.canon_cons_of_not_mem _ L ?_
  unfold rowsAt
  rw [Rect.mem_set_unit]
  intro hm
  have h0 : 128 * (r % 4) ≤ 128 * (r' % 4) + 1 * (j 0).val ∧ 128 * (r' % 4) + 1 * (j 0).val < 128 * (r % 4) + 128 := hm 0
  have hj : (j 0).val < 128 := (j 0).isLt
  omega

theorem rows_fill1 {κ : Kind} {sp : Space} (v : View sig κ sp S512x112 .f32) (Z : Vec F S512x112 .f32)
    (inb : ∀ a, (![0, 0] : Fin 2 → ℕ) a + S512x112.size a ≤ S512x112.size a) (w0 : Vec F S128x112 .f32) :
    v.readCov [⟨rowsAt 0, w0⟩, ⟨Rect.unit (s := S512x112) ![0, 0] S512x112.size inb, Z⟩] (rowsAt 1).toLoadRect = rowsLd Z 1 :=
  rows_skip v Z 0 1 (by decide) (by decide) (by decide) w0 _ (rows_fill0 v Z inb 1)

theorem rows_fill2 {κ : Kind} {sp : Space} (v : View sig κ sp S512x112 .f32) (Z : Vec F S512x112 .f32)
    (inb : ∀ a, (![0, 0] : Fin 2 → ℕ) a + S512x112.size a ≤ S512x112.size a) (w0 w1 : Vec F S128x112 .f32) :
    v.readCov [⟨rowsAt 1, w1⟩, ⟨rowsAt 0, w0⟩, ⟨Rect.unit (s := S512x112) ![0, 0] S512x112.size inb, Z⟩] (rowsAt 2).toLoadRect = rowsLd Z 2 :=
  rows_skip v Z 1 2 (by decide) (by decide) (by decide) w1 _
    (rows_skip v Z 0 2 (by decide) (by decide) (by decide) w0 _ (rows_fill0 v Z inb 2))

theorem rows_fill3 {κ : Kind} {sp : Space} (v : View sig κ sp S512x112 .f32) (Z : Vec F S512x112 .f32)
    (inb : ∀ a, (![0, 0] : Fin 2 → ℕ) a + S512x112.size a ≤ S512x112.size a) (w0 w1 w2 : Vec F S128x112 .f32) :
    v.readCov [⟨rowsAt 2, w2⟩, ⟨rowsAt 1, w1⟩, ⟨rowsAt 0, w0⟩, ⟨Rect.unit (s := S512x112) ![0, 0] S512x112.size inb, Z⟩] (rowsAt 3).toLoadRect
      = rowsLd Z 3 :=
  rows_skip v Z 2 3 (by decide) (by decide) (by decide) w2 _
    (rows_skip v Z 1 3 (by decide) (by decide) (by decide) w1 _
      (rows_skip v Z 0 3 (by decide) (by decide) (by decide) w0 _ (rows_fill0 v Z inb 3)))

/-- Slot `(b, k)` of the scratch. -/
def slotLd (b k : ℕ) (G : Vec F S2x8x512x1792 .bf16) : Vec F S1x1x512x1792 .bf16 :=
  fun z => G (ix4 ⟨b % 2, Nat.mod_lt _ (by decide)⟩ ⟨k % 8, Nat.mod_lt _ (by decide)⟩ (z 2) (z 3))

theorem slotLd_read {κ : Kind} {sp : Space} (v : View sig κ sp S2x8x512x1792 .bf16) (f : v.ty.Contents (Elt F)) (b k : ℕ) (hb : b < 2) (hk : k < 8)
    (off : Fin 4 → ℕ) (h : off = ![b, k, 0, 0]) (inb : ∀ a, off a + S1x1x512x1792.size a ≤ S2x8x512x1792.size a) :
    v.readAt (Elt F) (Rect.unit (s := S2x8x512x1792) off S1x1x512x1792.size inb).toLoadRect f = slotLd b k (v.read (Elt F) f) := by
  subst h
  rw [View.readAt_eq_ld]
  funext z
  show v.read (Elt F) f _ = v.read (Elt F) f _
  congr 1
  funext a
  have : (z 0).val < 1 := (z 0).isLt
  have : (z 1).val < 1 := (z 1).isLt
  fin_cases a
  · apply Fin.ext; show b + 1 * (z 0).val = b % 2; omega
  · apply Fin.ext; show k + 1 * (z 1).val = k % 8; omega
  · apply Fin.ext; show 0 + 1 * (z 2).val = (z 2).val; omega
  · apply Fin.ext; show 0 + 1 * (z 3).val = (z 3).val; omega

/-- A slot of the other half is untouched by the pass. -/
theorem slotLd_slotPut {b b' k p : ℕ} (hb' : b' < 2) (hne : b' ≠ b) (x : Vec F S512x1792 .bf16) (G : Vec F S2x8x512x1792 .bf16) :
    slotLd b' k (slotPut b p x G) = slotLd b' k G := by
  funext z
  unfold slotLd slotPut
  rw [if_neg]
  rintro ⟨h, -⟩
  apply hne
  have : b' % 2 = b := h
  omega

/-- Columns `1792 k … 1792 k + 1791` of the decoded weights. -/
def wLd (w : Vec F S512x14336 .i8) (k : ℕ) : Vec F S512x1792 .i8 :=
  View.ld w (Rect.unit (s := S512x14336) ![0, 1792 * (k % 8)] S512x1792.size (by
    intro a; fin_cases a
    · show 0 + 512 ≤ 512; omega
    · show 1792 * (k % 8) + 1792 ≤ 14336; omega))

/-- The input gradient of one tile of tokens and one tile of features: the eight partial products added up, times the
    layer's scale, zero where the activation was clipped. -/
def dxOf (g : Elt F .f32) (w : Vec F S512x14336 .i8) (x : Vec F S512x512 .i8) (d : ℕ → Vec F S1x1x512x1792 .bf16) : Vec F S512x512 .bf16 :=
  k1_pay950 (k1_pay948 (k1_pay947 (wLd w 0) (d 0)) (wLd w 1) (d 1) (wLd w 2) (d 2) (wLd w 3) (d 3) (wLd w 4) (d 4))
    (k1_pay949 (wLd w 5)) (d 5) (wLd w 6) (d 6) (wLd w 7) (d 7) x g

/-- The stored value of `dxOf`, from its operands however they were read. -/
theorem dxOf_eq {gg g : Elt F .f32} {w : Vec F S512x14336 .i8} {xx x : Vec F S512x512 .i8} {d : ℕ → Vec F S1x1x512x1792 .bf16}
    {w0 w1 w2 w3 w4 w5 w6 w7 : Vec F S512x1792 .i8} {d0 d1 d2 d3 d4 d5 d6 d7 : Vec F S1x1x512x1792 .bf16}
    (hg : gg = g) (hx : xx = x) (hw0 : w0 = wLd w 0) (hw1 : w1 = wLd w 1) (hw2 : w2 = wLd w 2) (hw3 : w3 = wLd w 3)
    (hw4 : w4 = wLd w 4) (hw5 : w5 = wLd w 5) (hw6 : w6 = wLd w 6) (hw7 : w7 = wLd w 7)
    (hd0 : d0 = d 0) (hd1 : d1 = d 1) (hd2 : d2 = d 2) (hd3 : d3 = d 3) (hd4 : d4 = d 4) (hd5 : d5 = d 5) (hd6 : d6 = d 6) (hd7 : d7 = d 7) :
    k1_pay950 (k1_pay948 (k1_pay947 w0 d0) w1 d1 w2 d2 w3 d3 w4 d4) (k1_pay949 w5) d5 w6 d6 w7 d7 xx gg = dxOf g w x d := by
  subst hg hx hw0 hw1 hw2 hw3 hw4 hw5 hw6 hw7 hd0 hd1 hd2 hd3 hd4 hd5 hd6 hd7
  rfl

/-- A store of a whole buffer leaves what it wrote. -/
theorem read_whole_store {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e) :
    v.read (Elt F) (v.writes (Elt F) f [⟨Rect.unit off S.size inb, w⟩]) = w := by
  subst h
  funext y
  have e := View.read_writes_cons_emb v f (Rect.whole S) w [] y
  rw [Rect.emb_whole_apply] at e
  exact e

/-- A load of a whole buffer. -/
theorem readAt_whole {κ : Kind} {sp : Space} {S : Shape} {e : EltTy} (v : View sig κ sp S e) (f : v.ty.Contents (Elt F))
    {off : Fin S.rank → ℕ} (h : off = fun _ => 0) (inb : ∀ a, off a + S.size a ≤ S.size a) :
    v.readAt (Elt F) (Rect.unit off S.size inb).toLoadRect f = v.read (Elt F) f := by
  rw [View.readAt_eq_ld]; exact View.ld_unit_zero h inb _

/-- A load of the one entry of a 1×1 buffer. -/
theorem readAt_first {κ : Kind} {sp : Space} {e : EltTy} (v : View sig κ sp S1x1 e) (f : v.ty.Contents (Elt F))
    (inb : ∀ a, (![0, 0] : Fin 2 → ℕ) a + S1x1.size a ≤ S1x1.size a) (i : S1x1.Idx) :
    v.readAt (Elt F) (Rect.unit (s := S1x1) ![0, 0] S1x1.size inb).toLoadRect f i = v.read (Elt F) f (ix2 0 0) := by
  rw [readAt_whole v f off2_zero inb]
  congr 1
  funext a
  apply Fin.ext
  fin_cases a
  · have : (i 0).val < 1 := (i 0).isLt
    show (i 0).val = 0; omega
  · have : (i 1).val < 1 := (i 1).isLt
    show (i 1).val = 0; omega

end Cert.KernelIdeal.Gen
-- ==== Proof.QuantRunA.lean ====
/- The run of the quantiser's body in one of its four cases: the first column of the first row of tiles. -/
module

public import proofs.«01_k».proof.Proof.QuantBlk
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 8000000 in
/-- The body at the first column of the first row of tiles: what each buffer holds afterwards, from what the operands held before. -/
theorem quantRunA (c : Dev nD) (i : grid1.Coords) (arg2 : Memref sig .tc .smem S1x1 .f32) (harg2 : arg2.IsWhole) (arg3 : Memref sig .tc .vmem S512x1792 .bf16) (harg3 : arg3.IsWhole) (arg4 : Memref sig .tc .vmem S512x14336 .i8) (harg4 : arg4.IsWhole) (arg5 : Memref sig .tc .vmem S512x512 .i8) (harg5 : arg5.IsWhole) (arg6 : Memref sig .tc .vmem S1x512 .f32) (harg6 : arg6.IsWhole) (arg7 : Memref sig .tc .vmem S512x512 .bf16) (harg7 : arg7.IsWhole) (arg8 : Memref sig .tc .vmem S512x1792 .fp8e5m2) (harg8 : arg8.IsWhole) (arg9 : Memref sig .tc .vmem S512x112 .f32) (harg9 : arg9.IsWhole) (arg10 : Memref sig .tc .vmem S512x1792 .bf16) (harg10 : arg10.IsWhole) (arg11 : Memref sig .tc .vmem S512x512 .bf16) (harg11 : arg11.IsWhole) (arg12 : Memref sig .tc .vmem S2x8x512x1792 .bf16) (harg12 : arg12.IsWhole) (hc0 : k1_cond1 i = 1#1) (hc1 : k1_cond2 i = 1#1) (hc2 : ¬k1_cond3 i = 1#1)
    (x0 : Vec F S1x1 .f32) (x1 : Vec F S512x1792 .bf16) (x2 : Vec F S512x14336 .i8) (x3 : Vec F S512x512 .i8) (x4 : Vec F S1x512 .f32)
    (y5 : Vec F S512x512 .bf16) (y9 : Vec F S512x512 .bf16) (G : Vec F S2x8x512x1792 .bf16) :
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare y9 ∗ owns (c : Thread nD τ) arg12 fullShare G
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare (codesF x1) ∗ owns (c : Thread nD τ) arg9 fullShare (scalesF (BitVec.ofNat 32 (i 1).val) x1 k1_pay1) ∗ owns (c : Thread nD τ) arg10 fullShare (deqF x1) ∗ owns (c : Thread nD τ) arg11 fullShare y9 ∗ owns (c : Thread nD τ) arg12 fullShare (slotPut ((i 0).val % 2) (i 1).val x1 G)) -∗ K ⟨⟩))
          ⊢ wp frame (wpE (defs₀ (F := F)) Variants.none c none) E (cc1_quant_dx i arg2 harg2 arg3 harg3 arg4 harg4 arg5 harg5 arg6 harg6 arg7 harg7 arg8 harg8 arg9 harg9 arg10 harg10 arg11 harg11 arg12 harg12) K := by
    intro E K
    simp only [cc1_quant_dx_eq_skeleton]; unfold cc1_quant_dx_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton, k1_part48_eq_skeleton, k1_part49_eq_skeleton, k1_part50_eq_skeleton, k1_part51_eq_skeleton, k1_part52_eq_skeleton, k1_part53_eq_skeleton, k1_part54_eq_skeleton, k1_part55_eq_skeleton, k1_part56_eq_skeleton, k1_part57_eq_skeleton, k1_part58_eq_skeleton, k1_part59_eq_skeleton, k1_part60_eq_skeleton, k1_part61_eq_skeleton, k1_part62_eq_skeleton, k1_part63_eq_skeleton, k1_part64_eq_skeleton, k1_part65_eq_skeleton, k1_part66_eq_skeleton, k1_part67_eq_skeleton, k1_part68_eq_skeleton, k1_part69_eq_skeleton, k1_part70_eq_skeleton, k1_part71_eq_skeleton, k1_part72_eq_skeleton, k1_part73_eq_skeleton, k1_part74_eq_skeleton, k1_part75_eq_skeleton, k1_part76_eq_skeleton, k1_part77_eq_skeleton, k1_part78_eq_skeleton, k1_part79_eq_skeleton, k1_part80_eq_skeleton, k1_part81_eq_skeleton, k1_part82_eq_skeleton, k1_part83_eq_skeleton, k1_part84_eq_skeleton, k1_part85_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg12.eq_unread hfs0; obtain rfl := harg7.eq_unread hf5; obtain rfl := harg11.eq_unread hf9
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; iexact H6
      ipureintro
      refine (BlockPieces.read_writes (q := qCodes) (x := arg3.view.read (Elt F) (harg3.unread x1)) _ _ ?_).trans (by rw [harg3.read_unread]; rfl)
      repeat' first | exact rfl | refine ⟨rfl, ?_⟩
    isplitl [H7]
    · iexists _; isplitr; swap; iexact H7
      ipureintro
      refine (scales_read_writes _ _ (BitVec.ofNat 32 (i 1).val) (arg3.view.read (Elt F) (harg3.unread x1)) k1_pay1 _ ?_ ?_ ?_ ?_).trans (by rw [harg3.read_unread])
      · exact rows_fill0 arg9.view k1_pay1 inb_S512x112_S512x112_0_0 0
      · exact rows_fill1 arg9.view k1_pay1 inb_S512x112_S512x112_0_0 _
      · exact rows_fill2 arg9.view k1_pay1 inb_S512x112_S512x112_0_0 _ _
      · exact rows_fill3 arg9.view k1_pay1 inb_S512x112_S512x112_0_0 _ _ _
    isplitl [H8]
    · iexists _; isplitr; swap; iexact H8
      ipureintro
      refine (BlockPieces.read_writes (q := qDeq) (x := arg3.view.read (Elt F) (harg3.unread x1)) _ _ ?_).trans (by rw [harg3.read_unread]; rfl)
      repeat' first | exact rfl | refine ⟨rfl, ?_⟩
    isplitl [H9]
    · iexists _; isplitr; · ipureintro; exact harg11.read_unread _
      iexact H9
    · iexists _; isplitr; swap; iexact HS0
      ipureintro
      refine (SlotPieces.read_writes (b := (i 0).val % 2) (p := (i 1).val) (x := arg3.view.read (Elt F) (harg3.unread x1)) _ _ ?_).trans (by rw [harg3.read_unread, harg12.read_unread])
      repeat' first | exact rfl | refine ⟨⟨_, _, rfl, (ClosedOff.eq).trans rfl⟩, ?_⟩

end Cert.KernelIdeal.Gen
-- ==== Proof.QuantRunB.lean ====
/- The run of the quantiser's body in one of its four cases: a later column of the first row of tiles. -/
module

public import proofs.«01_k».proof.Proof.QuantRunA
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 8000000 in
/-- The body at a later column of the first row of tiles: what each buffer holds afterwards, from what the operands held before. -/
theorem quantRunB (c : Dev nD) (i : grid1.Coords) (arg2 : Memref sig .tc .smem S1x1 .f32) (harg2 : arg2.IsWhole) (arg3 : Memref sig .tc .vmem S512x1792 .bf16) (harg3 : arg3.IsWhole) (arg4 : Memref sig .tc .vmem S512x14336 .i8) (harg4 : arg4.IsWhole) (arg5 : Memref sig .tc .vmem S512x512 .i8) (harg5 : arg5.IsWhole) (arg6 : Memref sig .tc .vmem S1x512 .f32) (harg6 : arg6.IsWhole) (arg7 : Memref sig .tc .vmem S512x512 .bf16) (harg7 : arg7.IsWhole) (arg8 : Memref sig .tc .vmem S512x1792 .fp8e5m2) (harg8 : arg8.IsWhole) (arg9 : Memref sig .tc .vmem S512x112 .f32) (harg9 : arg9.IsWhole) (arg10 : Memref sig .tc .vmem S512x1792 .bf16) (harg10 : arg10.IsWhole) (arg11 : Memref sig .tc .vmem S512x512 .bf16) (harg11 : arg11.IsWhole) (arg12 : Memref sig .tc .vmem S2x8x512x1792 .bf16) (harg12 : arg12.IsWhole) (hc0 : ¬k1_cond1 i = 1#1) (hc1 : k1_cond2 i = 1#1) (hc2 : ¬k1_cond3 i = 1#1)
    (x0 : Vec F S1x1 .f32) (x1 : Vec F S512x1792 .bf16) (x2 : Vec F S512x14336 .i8) (x3 : Vec F S512x512 .i8) (x4 : Vec F S1x512 .f32)
    (s : Vec F S512x112 .f32) (y5 : Vec F S512x512 .bf16) (y9 : Vec F S512x512 .bf16) (G : Vec F S2x8x512x1792 .bf16) :
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ (∃ d, owns (c : Thread nD τ) arg8 fullShare d) ∗ owns (c : Thread nD τ) arg9 fullShare s ∗ (∃ d, owns (c : Thread nD τ) arg10 fullShare d) ∗ owns (c : Thread nD τ) arg11 fullShare y9 ∗ owns (c : Thread nD τ) arg12 fullShare G
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare (codesF x1) ∗ owns (c : Thread nD τ) arg9 fullShare (scalesF (BitVec.ofNat 32 (i 1).val) x1 s) ∗ owns (c : Thread nD τ) arg10 fullShare (deqF x1) ∗ owns (c : Thread nD τ) arg11 fullShare y9 ∗ owns (c : Thread nD τ) arg12 fullShare (slotPut ((i 0).val % 2) (i 1).val x1 G)) -∗ K ⟨⟩))
          ⊢ wp frame (wpE (defs₀ (F := F)) Variants.none c none) E (cc1_quant_dx i arg2 harg2 arg3 harg3 arg4 harg4 arg5 harg5 arg6 harg6 arg7 harg7 arg8 harg8 arg9 harg9 arg10 harg10 arg11 harg11 arg12 harg12) K := by
    intro E K
    simp only [cc1_quant_dx_eq_skeleton]; unfold cc1_quant_dx_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton, k1_part48_eq_skeleton, k1_part49_eq_skeleton, k1_part50_eq_skeleton, k1_part51_eq_skeleton, k1_part52_eq_skeleton, k1_part53_eq_skeleton, k1_part54_eq_skeleton, k1_part55_eq_skeleton, k1_part56_eq_skeleton, k1_part57_eq_skeleton, k1_part58_eq_skeleton, k1_part59_eq_skeleton, k1_part60_eq_skeleton, k1_part61_eq_skeleton, k1_part62_eq_skeleton, k1_part63_eq_skeleton, k1_part64_eq_skeleton, k1_part65_eq_skeleton, k1_part66_eq_skeleton, k1_part67_eq_skeleton, k1_part68_eq_skeleton, k1_part69_eq_skeleton, k1_part70_eq_skeleton, k1_part71_eq_skeleton, k1_part72_eq_skeleton, k1_part73_eq_skeleton, k1_part74_eq_skeleton, k1_part75_eq_skeleton, k1_part76_eq_skeleton, k1_part77_eq_skeleton, k1_part78_eq_skeleton, k1_part79_eq_skeleton, k1_part80_eq_skeleton, k1_part81_eq_skeleton, k1_part82_eq_skeleton, k1_part83_eq_skeleton, k1_part84_eq_skeleton, k1_part85_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, ⟨%f9, %hf9, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg12.eq_unread hfs0; obtain rfl := harg9.eq_unread hf7; obtain rfl := harg7.eq_unread hf5; obtain rfl := harg11.eq_unread hf9
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; iexact H6
      ipureintro
      refine (BlockPieces.read_writes (q := qCodes) (x := arg3.view.read (Elt F) (harg3.unread x1)) _ _ ?_).trans (by rw [harg3.read_unread]; rfl)
      repeat' first | exact rfl | refine ⟨rfl, ?_⟩
    isplitl [H7]
    · iexists _; isplitr; swap; iexact H7
      ipureintro
      exact (scales_read_writes _ _ (BitVec.ofNat 32 (i 1).val) (arg3.view.read (Elt F) (harg3.unread x1)) (arg9.view.read (Elt F) (harg9.unread s)) []
        rfl rfl rfl rfl).trans (by rw [harg3.read_unread, harg9.read_unread])
    isplitl [H8]
    · iexists _; isplitr; swap; iexact H8
      ipureintro
      refine (BlockPieces.read_writes (q := qDeq) (x := arg3.view.read (Elt F) (harg3.unread x1)) _ _ ?_).trans (by rw [harg3.read_unread]; rfl)
      repeat' first | exact rfl | refine ⟨rfl, ?_⟩
    isplitl [H9]
    · iexists _; isplitr; · ipureintro; exact harg11.read_unread _
      iexact H9
    · iexists _; isplitr; swap; iexact HS0
      ipureintro
      refine (SlotPieces.read_writes (b := (i 0).val % 2) (p := (i 1).val) (x := arg3.view.read (Elt F) (harg3.unread x1)) _ _ ?_).trans (by rw [harg3.read_unread, harg12.read_unread])
      repeat' first | exact rfl | refine ⟨⟨_, _, rfl, (ClosedOff.eq).trans rfl⟩, ?_⟩

end Cert.KernelIdeal.Gen
-- ==== Proof.QuantRunC.lean ====
/- The run of the quantiser's body in one of its four cases: the first column of a later row of tiles. -/
module

public import proofs.«01_k».proof.Proof.QuantBlk
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 8000000 in
/-- The body at the first column of a later row of tiles: what each buffer holds afterwards, from what the operands held before. -/
theorem quantRunC (c : Dev nD) (i : grid1.Coords) (arg2 : Memref sig .tc .smem S1x1 .f32) (harg2 : arg2.IsWhole) (arg3 : Memref sig .tc .vmem S512x1792 .bf16) (harg3 : arg3.IsWhole) (arg4 : Memref sig .tc .vmem S512x14336 .i8) (harg4 : arg4.IsWhole) (arg5 : Memref sig .tc .vmem S512x512 .i8) (harg5 : arg5.IsWhole) (arg6 : Memref sig .tc .vmem S1x512 .f32) (harg6 : arg6.IsWhole) (arg7 : Memref sig .tc .vmem S512x512 .bf16) (harg7 : arg7.IsWhole) (arg8 : Memref sig .tc .vmem S512x1792 .fp8e5m2) (harg8 : arg8.IsWhole) (arg9 : Memref sig .tc .vmem S512x112 .f32) (harg9 : arg9.IsWhole) (arg10 : Memref sig .tc .vmem S512x1792 .bf16) (harg10 : arg10.IsWhole) (arg11 : Memref sig .tc .vmem S512x512 .bf16) (harg11 : arg11.IsWhole) (arg12 : Memref sig .tc .vmem S2x8x512x1792 .bf16) (harg12 : arg12.IsWhole) (hc0 : k1_cond1 i = 1#1) (hc1 : ¬k1_cond2 i = 1#1) (hc2 : k1_cond3 i = 1#1)
    (x0 : Vec F S1x1 .f32) (x1 : Vec F S512x1792 .bf16) (x2 : Vec F S512x14336 .i8) (x3 : Vec F S512x512 .i8) (x4 : Vec F S1x512 .f32)
    (G : Vec F S2x8x512x1792 .bf16) :
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare G
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (dxOf (x0 (ix2 0 0)) x2 x3 fun k => slotLd (((i 0).val + 1) % 2) k G) ∗ owns (c : Thread nD τ) arg8 fullShare (codesF x1) ∗ owns (c : Thread nD τ) arg9 fullShare (scalesF (BitVec.ofNat 32 (i 1).val) x1 k1_pay1) ∗ owns (c : Thread nD τ) arg10 fullShare (deqF x1) ∗ owns (c : Thread nD τ) arg11 fullShare (k1_pay3 x3 x4) ∗ owns (c : Thread nD τ) arg12 fullShare (slotPut ((i 0).val % 2) (i 1).val x1 G)) -∗ K ⟨⟩))
          ⊢ wp frame (wpE (defs₀ (F := F)) Variants.none c none) E (cc1_quant_dx i arg2 harg2 arg3 harg3 arg4 harg4 arg5 harg5 arg6 harg6 arg7 harg7 arg8 harg8 arg9 harg9 arg10 harg10 arg11 harg11 arg12 harg12) K := by
    intro E K
    simp only [cc1_quant_dx_eq_skeleton]; unfold cc1_quant_dx_skel
    simp only [k1_part86_eq_skeleton, k1_part87_eq_skeleton, k1_part88_eq_skeleton, k1_part89_eq_skeleton, k1_part90_eq_skeleton, k1_part91_eq_skeleton, k1_part92_eq_skeleton, k1_part93_eq_skeleton, k1_part94_eq_skeleton, k1_part95_eq_skeleton, k1_part96_eq_skeleton, k1_part97_eq_skeleton, k1_part98_eq_skeleton, k1_part99_eq_skeleton, k1_part100_eq_skeleton, k1_part101_eq_skeleton, k1_part102_eq_skeleton, k1_part103_eq_skeleton, k1_part104_eq_skeleton, k1_part105_eq_skeleton, k1_part106_eq_skeleton, k1_part107_eq_skeleton, k1_part108_eq_skeleton, k1_part109_eq_skeleton, k1_part110_eq_skeleton, k1_part111_eq_skeleton, k1_part112_eq_skeleton, k1_part113_eq_skeleton, k1_part114_eq_skeleton, k1_part115_eq_skeleton, k1_part116_eq_skeleton, k1_part117_eq_skeleton, k1_part118_eq_skeleton, k1_part119_eq_skeleton, k1_part120_eq_skeleton, k1_part121_eq_skeleton, k1_part122_eq_skeleton, k1_part123_eq_skeleton, k1_part124_eq_skeleton, k1_part125_eq_skeleton, k1_part126_eq_skeleton, k1_part127_eq_skeleton, k1_part128_eq_skeleton, k1_part129_eq_skeleton, k1_part130_eq_skeleton, k1_part131_eq_skeleton, k1_part132_eq_skeleton, k1_part133_eq_skeleton, k1_part134_eq_skeleton, k1_part135_eq_skeleton, k1_part136_eq_skeleton, k1_part137_eq_skeleton, k1_part138_eq_skeleton, k1_part139_eq_skeleton, k1_part140_eq_skeleton, k1_part141_eq_skeleton, k1_part142_eq_skeleton, k1_part143_eq_skeleton, k1_part144_eq_skeleton, k1_part145_eq_skeleton, k1_part146_eq_skeleton, k1_part147_eq_skeleton, k1_part148_eq_skeleton, k1_part149_eq_skeleton, k1_part150_eq_skeleton, k1_part151_eq_skeleton, k1_part152_eq_skeleton, k1_part153_eq_skeleton, k1_part154_eq_skeleton, k1_part155_eq_skeleton, k1_part156_eq_skeleton, k1_part157_eq_skeleton, k1_part158_eq_skeleton, k1_part159_eq_skeleton, k1_part160_eq_skeleton, k1_part161_eq_skeleton, k1_part162_eq_skeleton, k1_part163_eq_skeleton, k1_part164_eq_skeleton, k1_part165_eq_skeleton, k1_part166_eq_skeleton, k1_part167_eq_skeleton, k1_part168_eq_skeleton, k1_part169_eq_skeleton, k1_part170_eq_skeleton, k1_part171_eq_skeleton, k1_part172_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg12.eq_unread hfs0
    sl_exec (disch := first | sl_exact hc0 | sl_exact hc1 | sl_exact hc2)
    sl_step
    have hS : SlotPieces ((i 0).val % 2) (i 1).val (arg3.view.read (Elt F) (harg3.unread x1)) 56 (quantRunC.sl.HS0_56 c i arg3 harg3 hc2 x1) := by
      repeat' first | exact rfl | refine ⟨⟨_, _, rfl, (ClosedOff.eq).trans rfl⟩, ?_⟩
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; iexact H5
      ipureintro
      refine (read_whole_store _ _ off2_zero _ _).trans ?_
      refine (dxOf_eq (g := x0 (ix2 0 0)) (w := arg4.view.read (Elt F) (harg4.unread x2)) (x := x3)
        (d := fun k => slotLd (((i 0).val + 1) % 2) k (arg12.view.read (Elt F) (arg12.view.writes (Elt F) (harg12.unread G) (quantRunC.sl.HS0_56 c i arg3 harg3 hc2 x1))))
        ?_ ?_ rfl rfl rfl rfl rfl rfl rfl rfl
        (slotLd_read _ _ _ 0 (Nat.mod_lt _ (by decide)) (by decide) _ (k1_off113_eq i) _)
        (slotLd_read _ _ _ 1 (Nat.mod_lt _ (by decide)) (by decide) _ (k1_off114_eq i) _)
        (slotLd_read _ _ _ 2 (Nat.mod_lt _ (by decide)) (by decide) _ (k1_off115_eq i) _)
        (slotLd_read _ _ _ 3 (Nat.mod_lt _ (by decide)) (by decide) _ (k1_off116_eq i) _)
        (slotLd_read _ _ _ 4 (Nat.mod_lt _ (by decide)) (by decide) _ (k1_off117_eq i) _)
        (slotLd_read _ _ _ 5 (Nat.mod_lt _ (by decide)) (by decide) _ (k1_off118_eq i) _)
        (slotLd_read _ _ _ 6 (Nat.mod_lt _ (by decide)) (by decide) _ (k1_off119_eq i) _)
        (slotLd_read _ _ _ 7 (Nat.mod_lt _ (by decide)) (by decide) _ (k1_off120_eq i) _)).trans ?_
      · exact (readAt_first _ _ _ _).trans (by rw [harg2.read_unread])
      · exact (readAt_whole _ _ off2_zero _).trans (harg5.read_unread _)
      · rw [harg4.read_unread]
        congr 1
        funext k
        rw [SlotPieces.read_writes (b := (i 0).val % 2) (p := (i 1).val) (x := arg3.view.read (Elt F) (harg3.unread x1)) _ _ hS,
          slotLd_slotPut (Nat.mod_lt _ (by decide)) (by omega), harg12.read_unread]
    isplitl [H6]
    · iexists _; isplitr; swap; iexact H6
      ipureintro
      refine (BlockPieces.read_writes (q := qCodes) (x := arg3.view.read (Elt F) (harg3.unread x1)) _ _ ?_).trans (by rw [harg3.read_unread]; rfl)
      repeat' first | exact rfl | refine ⟨rfl, ?_⟩
    isplitl [H7]
    · iexists _; isplitr; swap; iexact H7
      ipureintro
      refine (scales_read_writes _ _ (BitVec.ofNat 32 (i 1).val) (arg3.view.read (Elt F) (harg3.unread x1)) k1_pay1 _ ?_ ?_ ?_ ?_).trans (by rw [harg3.read_unread])
      · exact rows_fill0 arg9.view k1_pay1 inb_S512x112_S512x112_0_0 0
      · exact rows_fill1 arg9.view k1_pay1 inb_S512x112_S512x112_0_0 _
      · exact rows_fill2 arg9.view k1_pay1 inb_S512x112_S512x112_0_0 _ _
      · exact rows_fill3 arg9.view k1_pay1 inb_S512x112_S512x112_0_0 _ _ _
    isplitl [H8]
    · iexists _; isplitr; swap; iexact H8
      ipureintro
      refine (BlockPieces.read_writes (q := qDeq) (x := arg3.view.read (Elt F) (harg3.unread x1)) _ _ ?_).trans (by rw [harg3.read_unread]; rfl)
      repeat' first | exact rfl | refine ⟨rfl, ?_⟩
    isplitl [H9]
    · iexists _; isplitr; swap; iexact H9
      ipureintro
      refine (read_whole_store _ _ off2_zero _ _).trans ?_
      refine congrArg₂ k1_pay3 ?_ ?_
      · exact (readAt_whole _ _ off2_zero _).trans (harg5.read_unread _)
      · exact (readAt_whole _ _ off2_zero _).trans (harg6.read_unread _)
    · iexists _; isplitr; swap; iexact HS0
      ipureintro
      exact (SlotPieces.read_writes _ _ hS).trans (by rw [harg3.read_unread, harg12.read_unread])

end Cert.KernelIdeal.Gen
-- ==== Proof.QuantRunD.lean ====
/- The run of the quantiser's body in one of its four cases: a later column of a later row of tiles. -/
module

public import proofs.«01_k».proof.Proof.QuantRunC
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 8000000 in
/-- The body at a later column of a later row of tiles: what each buffer holds afterwards, from what the operands held before. -/
theorem quantRunD (c : Dev nD) (i : grid1.Coords) (arg2 : Memref sig .tc .smem S1x1 .f32) (harg2 : arg2.IsWhole) (arg3 : Memref sig .tc .vmem S512x1792 .bf16) (harg3 : arg3.IsWhole) (arg4 : Memref sig .tc .vmem S512x14336 .i8) (harg4 : arg4.IsWhole) (arg5 : Memref sig .tc .vmem S512x512 .i8) (harg5 : arg5.IsWhole) (arg6 : Memref sig .tc .vmem S1x512 .f32) (harg6 : arg6.IsWhole) (arg7 : Memref sig .tc .vmem S512x512 .bf16) (harg7 : arg7.IsWhole) (arg8 : Memref sig .tc .vmem S512x1792 .fp8e5m2) (harg8 : arg8.IsWhole) (arg9 : Memref sig .tc .vmem S512x112 .f32) (harg9 : arg9.IsWhole) (arg10 : Memref sig .tc .vmem S512x1792 .bf16) (harg10 : arg10.IsWhole) (arg11 : Memref sig .tc .vmem S512x512 .bf16) (harg11 : arg11.IsWhole) (arg12 : Memref sig .tc .vmem S2x8x512x1792 .bf16) (harg12 : arg12.IsWhole) (hc0 : ¬k1_cond1 i = 1#1) (hc1 : ¬k1_cond2 i = 1#1) (hc2 : k1_cond3 i = 1#1)
    (x0 : Vec F S1x1 .f32) (x1 : Vec F S512x1792 .bf16) (x2 : Vec F S512x14336 .i8) (x3 : Vec F S512x512 .i8) (x4 : Vec F S1x512 .f32)
    (s : Vec F S512x112 .f32) (G : Vec F S2x8x512x1792 .bf16) :
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare s ∗ (∃ d, owns (c : Thread nD τ) arg10 fullShare d) ∗ (∃ d, owns (c : Thread nD τ) arg11 fullShare d) ∗ owns (c : Thread nD τ) arg12 fullShare G
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (dxOf (x0 (ix2 0 0)) x2 x3 fun k => slotLd (((i 0).val + 1) % 2) k G) ∗ owns (c : Thread nD τ) arg8 fullShare (codesF x1) ∗ owns (c : Thread nD τ) arg9 fullShare (scalesF (BitVec.ofNat 32 (i 1).val) x1 s) ∗ owns (c : Thread nD τ) arg10 fullShare (deqF x1) ∗ owns (c : Thread nD τ) arg11 fullShare (k1_pay3 x3 x4) ∗ owns (c : Thread nD τ) arg12 fullShare (slotPut ((i 0).val % 2) (i 1).val x1 G)) -∗ K ⟨⟩))
          ⊢ wp frame (wpE (defs₀ (F := F)) Variants.none c none) E (cc1_quant_dx i arg2 harg2 arg3 harg3 arg4 harg4 arg5 harg5 arg6 harg6 arg7 harg7 arg8 harg8 arg9 harg9 arg10 harg10 arg11 harg11 arg12 harg12) K := by
    intro E K
    simp only [cc1_quant_dx_eq_skeleton]; unfold cc1_quant_dx_skel
    simp only [k1_part86_eq_skeleton, k1_part87_eq_skeleton, k1_part88_eq_skeleton, k1_part89_eq_skeleton, k1_part90_eq_skeleton, k1_part91_eq_skeleton, k1_part92_eq_skeleton, k1_part93_eq_skeleton, k1_part94_eq_skeleton, k1_part95_eq_skeleton, k1_part96_eq_skeleton, k1_part97_eq_skeleton, k1_part98_eq_skeleton, k1_part99_eq_skeleton, k1_part100_eq_skeleton, k1_part101_eq_skeleton, k1_part102_eq_skeleton, k1_part103_eq_skeleton, k1_part104_eq_skeleton, k1_part105_eq_skeleton, k1_part106_eq_skeleton, k1_part107_eq_skeleton, k1_part108_eq_skeleton, k1_part109_eq_skeleton, k1_part110_eq_skeleton, k1_part111_eq_skeleton, k1_part112_eq_skeleton, k1_part113_eq_skeleton, k1_part114_eq_skeleton, k1_part115_eq_skeleton, k1_part116_eq_skeleton, k1_part117_eq_skeleton, k1_part118_eq_skeleton, k1_part119_eq_skeleton, k1_part120_eq_skeleton, k1_part121_eq_skeleton, k1_part122_eq_skeleton, k1_part123_eq_skeleton, k1_part124_eq_skeleton, k1_part125_eq_skeleton, k1_part126_eq_skeleton, k1_part127_eq_skeleton, k1_part128_eq_skeleton, k1_part129_eq_skeleton, k1_part130_eq_skeleton, k1_part131_eq_skeleton, k1_part132_eq_skeleton, k1_part133_eq_skeleton, k1_part134_eq_skeleton, k1_part135_eq_skeleton, k1_part136_eq_skeleton, k1_part137_eq_skeleton, k1_part138_eq_skeleton, k1_part139_eq_skeleton, k1_part140_eq_skeleton, k1_part141_eq_skeleton, k1_part142_eq_skeleton, k1_part143_eq_skeleton, k1_part144_eq_skeleton, k1_part145_eq_skeleton, k1_part146_eq_skeleton, k1_part147_eq_skeleton, k1_part148_eq_skeleton, k1_part149_eq_skeleton, k1_part150_eq_skeleton, k1_part151_eq_skeleton, k1_part152_eq_skeleton, k1_part153_eq_skeleton, k1_part154_eq_skeleton, k1_part155_eq_skeleton, k1_part156_eq_skeleton, k1_part157_eq_skeleton, k1_part158_eq_skeleton, k1_part159_eq_skeleton, k1_part160_eq_skeleton, k1_part161_eq_skeleton, k1_part162_eq_skeleton, k1_part163_eq_skeleton, k1_part164_eq_skeleton, k1_part165_eq_skeleton, k1_part166_eq_skeleton, k1_part167_eq_skeleton, k1_part168_eq_skeleton, k1_part169_eq_skeleton, k1_part170_eq_skeleton, k1_part171_eq_skeleton, k1_part172_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%d8, %f8, -, H8⟩, ⟨%d9, %f9, -, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg12.eq_unread hfs0; obtain rfl := harg9.eq_unread hf7
    sl_exec (disch := first | sl_exact hc0 | sl_exact hc1 | sl_exact hc2)
    sl_step
    have hS : SlotPieces ((i 0).val % 2) (i 1).val (arg3.view.read (Elt F) (harg3.unread x1)) 56 (quantRunD.sl.HS0_56 c i arg3 harg3 hc2 x1) := by
      repeat' first | exact rfl | refine ⟨⟨_, _, rfl, (ClosedOff.eq).trans rfl⟩, ?_⟩
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; iexact H5
      ipureintro
      refine (read_whole_store _ _ off2_zero _ _).trans ?_
      refine (dxOf_eq (g := x0 (ix2 0 0)) (w := arg4.view.read (Elt F) (harg4.unread x2)) (x := x3)
        (d := fun k => slotLd (((i 0).val + 1) % 2) k (arg12.view.read (Elt F) (arg12.view.writes (Elt F) (harg12.unread G) (quantRunD.sl.HS0_56 c i arg3 harg3 hc2 x1))))
        ?_ ?_ rfl rfl rfl rfl rfl rfl rfl rfl
        (slotLd_read _ _ _ 0 (Nat.mod_lt _ (by decide)) (by decide) _ (k1_off113_eq i) _)
        (slotLd_read _ _ _ 1 (Nat.mod_lt _ (by decide)) (by decide) _ (k1_off114_eq i) _)
        (slotLd_read _ _ _ 2 (Nat.mod_lt _ (by decide)) (by decide) _ (k1_off115_eq i) _)
        (slotLd_read _ _ _ 3 (Nat.mod_lt _ (by decide)) (by decide) _ (k1_off116_eq i) _)
        (slotLd_read _ _ _ 4 (Nat.mod_lt _ (by decide)) (by decide) _ (k1_off117_eq i) _)
        (slotLd_read _ _ _ 5 (Nat.mod_lt _ (by decide)) (by decide) _ (k1_off118_eq i) _)
        (slotLd_read _ _ _ 6 (Nat.mod_lt _ (by decide)) (by decide) _ (k1_off119_eq i) _)
        (slotLd_read _ _ _ 7 (Nat.mod_lt _ (by decide)) (by decide) _ (k1_off120_eq i) _)).trans ?_
      · exact (readAt_first _ _ _ _).trans (by rw [harg2.read_unread])
      · exact (readAt_whole _ _ off2_zero _).trans (harg5.read_unread _)
      · rw [harg4.read_unread]
        congr 1
        funext k
        rw [SlotPieces.read_writes (b := (i 0).val % 2) (p := (i 1).val) (x := arg3.view.read (Elt F) (harg3.unread x1)) _ _ hS,
          slotLd_slotPut (Nat.mod_lt _ (by decide)) (by omega), harg12.read_unread]
    isplitl [H6]
    · iexists _; isplitr; swap; iexact H6
      ipureintro
      refine (BlockPieces.read_writes (q := qCodes) (x := arg3.view.read (Elt F) (harg3.unread x1)) _ _ ?_).trans (by rw [harg3.read_unread]; rfl)
      repeat' first | exact rfl | refine ⟨rfl, ?_⟩
    isplitl [H7]
    · iexists _; isplitr; swap; iexact H7
      ipureintro
      exact (scales_read_writes _ _ (BitVec.ofNat 32 (i 1).val) (arg3.view.read (Elt F) (harg3.unread x1)) (arg9.view.read (Elt F) (harg9.unread s)) []
        rfl rfl rfl rfl).trans (by rw [harg3.read_unread, harg9.read_unread])
    isplitl [H8]
    · iexists _; isplitr; swap; iexact H8
      ipureintro
      refine (BlockPieces.read_writes (q := qDeq) (x := arg3.view.read (Elt F) (harg3.unread x1)) _ _ ?_).trans (by rw [harg3.read_unread]; rfl)
      repeat' first | exact rfl | refine ⟨rfl, ?_⟩
    isplitl [H9]
    · iexists _; isplitr; swap; iexact H9
      ipureintro
      refine (read_whole_store _ _ off2_zero _ _).trans ?_
      refine congrArg₂ k1_pay3 ?_ ?_
      · exact (readAt_whole _ _ off2_zero _).trans (harg5.read_unread _)
      · exact (readAt_whole _ _ off2_zero _).trans (harg6.read_unread _)
    · iexists _; isplitr; swap; iexact HS0
      ipureintro
      exact (SlotPieces.read_writes _ _ hS).trans (by rw [harg3.read_unread, harg12.read_unread])

end Cert.KernelIdeal.Gen
-- ==== Proof.QuantRegion.lean ====
/- The quantiser's region: what its body leaves at every grid point, from the arrays as the region finds them.
   The four cases of the body's conditionals are put side by side in one statement (`quantRun`); the scratch
   holds the last sixteen dequantised tiles (`Held`), of which a point of a later row of tiles reads the eight
   of the row before. -/
module

public import proofs.«01_k».proof.Proof.QuantRunB
public import proofs.«01_k».proof.Proof.QuantRunD
public import proofs.«01_k».proof.Proof.Gen.KernelIdeal.Launch
public import proofs.«01_k».proof.Proof.Gen.KernelIdeal.Points
public import Idealize.ShloMosaic.Lib.Pipeline.FrameBody
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The branch conditions over the grid -/

theorem q_row (t : Fin cfg1.N) : (grid1.coords t 0).val = t.val / 8 := by
  have ht : t.val < 264 := Nat.lt_of_lt_of_eq t.isLt N_1
  have e0 : (grid1.coords t 0).val = t.val / 8 % 33 := Pipeline.Grid.coords_val t 0 (by decide) rfl
  omega

theorem q_col (t : Fin cfg1.N) : (grid1.coords t 1).val = t.val % 8 := by
  have e1 : (grid1.coords t 1).val = t.val / 1 % 8 := Pipeline.Grid.coords_val t 1 (by decide) rfl
  omega

/-- The first column of a row of tiles. -/
theorem q_first (i : grid1.Coords) : k1_cond1 i = 1#1 ↔ (i 1).val = 0 := by
  have h1 : (i 1).val < 8 := (i 1).isLt
  unfold k1_cond1
  word_cmp

/-- The first row of tiles. -/
theorem q_top (i : grid1.Coords) : k1_cond2 i = 1#1 ↔ (i 0).val = 0 := by
  have h0 : (i 0).val < 33 := (i 0).isLt
  unfold k1_cond2
  word_cmp

/-- A later row of tiles. -/
theorem q_later (i : grid1.Coords) : k1_cond3 i = 1#1 ↔ (i 0).val ≠ 0 := by
  have h0 : (i 0).val < 33 := (i 0).isLt
  unfold k1_cond3
  word_cmp

/-! ## The four cases as one -/

set_option maxHeartbeats 4000000 in
/-- The body at any point: what each buffer holds afterwards, from what it held before. -/
theorem quantRun (c : Dev nD) (i : grid1.Coords) (arg2 : Memref sig .tc .smem S1x1 .f32) (harg2 : arg2.IsWhole) (arg3 : Memref sig .tc .vmem S512x1792 .bf16) (harg3 : arg3.IsWhole) (arg4 : Memref sig .tc .vmem S512x14336 .i8) (harg4 : arg4.IsWhole) (arg5 : Memref sig .tc .vmem S512x512 .i8) (harg5 : arg5.IsWhole) (arg6 : Memref sig .tc .vmem S1x512 .f32) (harg6 : arg6.IsWhole) (arg7 : Memref sig .tc .vmem S512x512 .bf16) (harg7 : arg7.IsWhole) (arg8 : Memref sig .tc .vmem S512x1792 .fp8e5m2) (harg8 : arg8.IsWhole) (arg9 : Memref sig .tc .vmem S512x112 .f32) (harg9 : arg9.IsWhole) (arg10 : Memref sig .tc .vmem S512x1792 .bf16) (harg10 : arg10.IsWhole) (arg11 : Memref sig .tc .vmem S512x512 .bf16) (harg11 : arg11.IsWhole) (arg12 : Memref sig .tc .vmem S2x8x512x1792 .bf16) (harg12 : arg12.IsWhole)
    (x0 : Vec F S1x1 .f32) (x1 : Vec F S512x1792 .bf16) (x2 : Vec F S512x14336 .i8) (x3 : Vec F S512x512 .i8) (x4 : Vec F S1x512 .f32)
    (y5 : Vec F S512x512 .bf16) (s : Vec F S512x112 .f32) (y9 : Vec F S512x512 .bf16) (G : Vec F S2x8x512x1792 .bf16)
    (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare y5
        ∗ (∃ d, owns (c : Thread nD τ) arg8 fullShare d) ∗ owns (c : Thread nD τ) arg9 fullShare s
        ∗ (∃ d, owns (c : Thread nD τ) arg10 fullShare d) ∗ owns (c : Thread nD τ) arg11 fullShare y9 ∗ owns (c : Thread nD τ) arg12 fullShare G
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (if (i 0).val = 0 then y5 else dxOf (x0 (ix2 0 0)) x2 x3 fun k => slotLd (((i 0).val + 1) % 2) k G)
            ∗ owns (c : Thread nD τ) arg8 fullShare (codesF x1)
            ∗ owns (c : Thread nD τ) arg9 fullShare (scalesF (BitVec.ofNat 32 (i 1).val) x1 (if (i 1).val = 0 then k1_pay1 else s))
            ∗ owns (c : Thread nD τ) arg10 fullShare (deqF x1)
            ∗ owns (c : Thread nD τ) arg11 fullShare (if (i 0).val = 0 then y9 else k1_pay3 x3 x4)
            ∗ owns (c : Thread nD τ) arg12 fullShare (slotPut ((i 0).val % 2) (i 1).val x1 G)) -∗ K ⟨⟩))
      ⊢ wp frame (wpE (defs₀ (F := F)) Variants.none c none) E (cc1_quant_dx i arg2 harg2 arg3 harg3 arg4 harg4 arg5 harg5 arg6 harg6 arg7 harg7 arg8 harg8 arg9 harg9 arg10 harg10 arg11 harg11 arg12 harg12) K := by
  iintro ⟨H0, H1, H2, H3, H4, H5, H6, H7, H8, H9, HS, Hk⟩
  by_cases hp : (i 1).val = 0
  · by_cases hi : (i 0).val = 0
    · rw [if_pos hi, if_pos hi, if_pos hp]
      iapply (quantRunA c i arg2 harg2 arg3 harg3 arg4 harg4 arg5 harg5 arg6 harg6 arg7 harg7 arg8 harg8 arg9 harg9 arg10 harg10 arg11 harg11 arg12 harg12
        ((q_first i).mpr hp) ((q_top i).mpr hi) (fun h => (q_later i).mp h hi) x0 x1 x2 x3 x4 y5 y9 G E K)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      isplitl [HS]; · iexact HS
      iexact Hk
    · rw [if_neg hi, if_neg hi, if_pos hp]
      iapply (quantRunC c i arg2 harg2 arg3 harg3 arg4 harg4 arg5 harg5 arg6 harg6 arg7 harg7 arg8 harg8 arg9 harg9 arg10 harg10 arg11 harg11 arg12 harg12
        ((q_first i).mpr hp) (fun h => hi ((q_top i).mp h)) ((q_later i).mpr hi) x0 x1 x2 x3 x4 G E K)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexists _; iexact H7
      isplitl [H8]; · iexact H8
      isplitl [H9]; · iexists _; iexact H9
      isplitl [HS]; · iexact HS
      iexact Hk
  · by_cases hi : (i 0).val = 0
    · rw [if_pos hi, if_pos hi, if_neg hp]
      iapply (quantRunB c i arg2 harg2 arg3 harg3 arg4 harg4 arg5 harg5 arg6 harg6 arg7 harg7 arg8 harg8 arg9 harg9 arg10 harg10 arg11 harg11 arg12 harg12
        (fun h => hp ((q_first i).mp h)) ((q_top i).mpr hi) (fun h => (q_later i).mp h hi) x0 x1 x2 x3 x4 s y5 y9 G E K)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS]; · iexact HS
      iexact Hk
    · rw [if_neg hi, if_neg hi, if_neg hp]
      iapply (quantRunD c i arg2 harg2 arg3 harg3 arg4 harg4 arg5 harg5 arg6 harg6 arg7 harg7 arg8 harg8 arg9 harg9 arg10 harg10 arg11 harg11 arg12 harg12
        (fun h => hp ((q_first i).mp h)) (fun h => hi ((q_top i).mp h)) ((q_later i).mpr hi) x0 x1 x2 x3 x4 s G E K)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [H8]; · iexact H8
      isplitl [H9]; · iexists _; iexact H9
      isplitl [HS]; · iexact HS
      iexact Hk

/-! ## What the scratch holds -/

/-- A tile as the scratch stores it. -/
def asSlot (x : Vec F S512x1792 .bf16) : Vec F S1x1x512x1792 .bf16 := fun z => x (ix2 (z 2) (z 3))

theorem slotLd_put_same {b k : ℕ} (hb : b < 2) (hk : k < 8) (x : Vec F S512x1792 .bf16) (G : Vec F S2x8x512x1792 .bf16) :
    slotLd b k (slotPut b k x G) = asSlot (deqF x) := by
  funext z
  unfold slotLd slotPut asSlot
  rw [if_pos ⟨Nat.mod_eq_of_lt hb, Nat.mod_eq_of_lt hk⟩]

theorem slotLd_put_other {b k b' k' : ℕ} (hb : b < 2) (hk : k < 8) (h : ¬(b = b' ∧ k = k')) (x : Vec F S512x1792 .bf16) (G : Vec F S2x8x512x1792 .bf16) :
    slotLd b k (slotPut b' k' x G) = slotLd b k G := by
  funext z
  unfold slotLd slotPut
  rw [if_neg]
  rintro ⟨h1, h2⟩
  have h1' : b % 2 = b' := h1
  have h2' : k % 8 = k' := h2
  omega

theorem dxOf_congr (g : Elt F .f32) (w : Vec F S512x14336 .i8) (x : Vec F S512x512 .i8) {d d' : ℕ → Vec F S1x1x512x1792 .bf16}
    (h : ∀ k, k < 8 → d k = d' k) : dxOf g w x d = dxOf g w x d' := by
  unfold dxOf
  rw [h 0 (by decide), h 1 (by decide), h 2 (by decide), h 3 (by decide), h 4 (by decide), h 5 (by decide), h 6 (by decide), h 7 (by decide)]

/-- The scratch before point `n` holds the tiles of the sixteen points before it. -/
def HeldTiles (tile : ℕ → Vec F S512x1792 .bf16) (n : ℕ) (G : Vec F S2x8x512x1792 .bf16) : Prop :=
  ∀ s, s < n → n ≤ s + 16 → slotLd (s / 8 % 2) (s % 8) G = asSlot (deqF (tile s))

theorem HeldTiles.start (tile : ℕ → Vec F S512x1792 .bf16) (G : Vec F S2x8x512x1792 .bf16) : HeldTiles tile 0 G :=
  fun s hs => absurd hs (Nat.not_lt_zero s)

theorem HeldTiles.step {tile : ℕ → Vec F S512x1792 .bf16} {n : ℕ} {G : Vec F S2x8x512x1792 .bf16} (h : HeldTiles tile n G) :
    HeldTiles tile (n + 1) (slotPut (n / 8 % 2) (n % 8) (tile n) G) := by
  intro s hs hn
  by_cases e : s = n
  · subst e
    exact slotLd_put_same (Nat.mod_lt _ (by decide)) (Nat.mod_lt _ (by decide)) _ _
  · rw [slotLd_put_other (Nat.mod_lt _ (by decide)) (Nat.mod_lt _ (by decide)) (by omega)]
    exact h s (by omega) (by omega)

/-! ## The proof data, at the arrays' contents on entry -/

variable (V : (c : Dev nD) → (b : Ref sig .tc) → Buf (Elt F) ((c : Thread nD τ).loc b))

/-- Window `w`'s block at point `t`, read off its array as the region finds it. -/
def qblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The point of a number. -/
def qpt (n : ℕ) : Fin cfg1.N := ⟨n % 264, Nat.lt_of_lt_of_eq (Nat.mod_lt _ (by decide)) N_1.symm⟩

theorem qpt_val (t : Fin cfg1.N) : qpt t.val = t :=
  Fin.ext (Nat.mod_eq_of_lt (Nat.lt_of_lt_of_eq t.isLt N_1))

/-- The tile of `dy` that point `n` quantises. -/
def qtile (c : Dev nD) (n : ℕ) : Vec F S512x1792 .bf16 := qblk V c 1 (qpt n)

theorem qtile_val (c : Dev nD) (t : Fin cfg1.N) : qtile V c t.val = qblk V c 1 t := by
  unfold qtile; rw [qpt_val]

/-- The scales after point `n`: fourteen columns more than after the point before, on nothing at a row's first. -/
def qscales (c : Dev nD) : ℕ → Vec F S512x112 .f32
  | 0 => scalesF (BitVec.ofNat 32 (0 % 8)) (qtile V c 0) k1_pay1
  | n + 1 => scalesF (BitVec.ofNat 32 ((n + 1) % 8)) (qtile V c (n + 1)) (if (n + 1) % 8 = 0 then k1_pay1 else qscales c n)

theorem qscales_eq (c : Dev nD) (n : ℕ) :
    qscales V c n = scalesF (BitVec.ofNat 32 (n % 8)) (qtile V c n) (if n % 8 = 0 then k1_pay1 else qscales V c (n - 1)) := by
  cases n with
  | zero => rfl
  | succ n => rfl

/-- The block of `dx` a point of a later row of tiles writes. -/
def qdx (c : Dev nD) (t : Fin cfg1.N) : Vec F S512x512 .bf16 :=
  dxOf ((qblk V c 0 t : Vec F S1x1 .f32) (ix2 0 0)) (qblk V c 2 t) (qblk V c 3 t) fun k => asSlot (deqF (qtile V c (8 * (t.val / 8 - 1) + k)))

/-- The scratch as a memref. -/
abbrev qscM : Memref sig .tc .vmem S2x8x512x1792 .bf16 := Memref.whole cc1_scratch0

/-- The other calls' buffers, held at anything. -/
def qrest (c : Dev nD) : sProp (MT nD τ sig Unit (Elt F) ℕ (UR sig nD τ) ℕ) :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg1_1), ((c : Thread nD τ).loc cc2_stg1_1) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg2_1), ((c : Thread nD τ).loc cc2_stg2_1) ↦{fullShare} f))

/-- The invariant before point `n`: the scratch at the tiles of the points before, the rest at anything. -/
def qinv (c : Dev nD) (n : ℕ) : sProp (MT nD τ sig Unit (Elt F) ℕ (UR sig nD τ) ℕ) :=
  iprop((∃ G, ⌜HeldTiles (qtile V c) n G⌝ ∗ owns (c : Thread nD τ) qscM fullShare G) ∗ qrest c ∗ ∃ r, prngReg c r)

/-- The proof data of the quantiser's pipeline. -/
def qdat (c : Dev nD) : Dat τ (Elt F) Unit ℕ (UR sig nD τ) ℕ cfg1 c where
  A w := V c (Pipeline.arrRef spec1 w)
  after w t := match w with
    | ⟨0, _⟩ => qblk V c 0 t
    | ⟨1, _⟩ => qblk V c 1 t
    | ⟨2, _⟩ => qblk V c 2 t
    | ⟨3, _⟩ => qblk V c 3 t
    | ⟨4, _⟩ => qblk V c 4 t
    | ⟨5, _⟩ => qdx V c t
    | ⟨6, _⟩ => codesF (qblk V c 1 t)
    | ⟨7, _⟩ => qscales V c t.val
    | ⟨8, _⟩ => deqF (qblk V c 1 t)
    | ⟨9, _⟩ => k1_pay3 (qblk V c 3 t) (qblk V c 4 t)
  Φ n := qinv V c n.val
  q _ := fullShare
  owed _ := 0

theorem qA_eq (c : Dev nD) (w : Fin cfg1.W) : (qdat V c).A w = V c (Pipeline.arrRef spec1 w) := by
  dsimp only [qdat]

theorem qafter0 (c : Dev nD) (t : Fin cfg1.N) : (qdat V c).after 0 t = qblk V c 0 t := by dsimp only [qdat]
theorem qafter1 (c : Dev nD) (t : Fin cfg1.N) : (qdat V c).after 1 t = qblk V c 1 t := by dsimp only [qdat]
theorem qafter2 (c : Dev nD) (t : Fin cfg1.N) : (qdat V c).after 2 t = qblk V c 2 t := by dsimp only [qdat]
theorem qafter3 (c : Dev nD) (t : Fin cfg1.N) : (qdat V c).after 3 t = qblk V c 3 t := by dsimp only [qdat]
theorem qafter4 (c : Dev nD) (t : Fin cfg1.N) : (qdat V c).after 4 t = qblk V c 4 t := by dsimp only [qdat]
theorem qafter5 (c : Dev nD) (t : Fin cfg1.N) : (qdat V c).after 5 t = qdx V c t := by dsimp only [qdat]
theorem qafter6 (c : Dev nD) (t : Fin cfg1.N) : (qdat V c).after 6 t = codesF (qblk V c 1 t) := by dsimp only [qdat]
theorem qafter7 (c : Dev nD) (t : Fin cfg1.N) : (qdat V c).after 7 t = qscales V c t.val := by dsimp only [qdat]
theorem qafter8 (c : Dev nD) (t : Fin cfg1.N) : (qdat V c).after 8 t = deqF (qblk V c 1 t) := by dsimp only [qdat]
theorem qafter9 (c : Dev nD) (t : Fin cfg1.N) : (qdat V c).after 9 t = k1_pay3 (qblk V c 3 t) (qblk V c 4 t) := by dsimp only [qdat]

theorem qbefore0 (c : Dev nD) (t : Fin cfg1.N) (d) : (qdat V c).before 0 t d = qblk V c 0 t :=
  ((qdat V c).before_in_eq_fetched 0 rfl (fun _ => rfl) (fun _ _ _ => rfl) (fun t => by rw [qafter0]; unfold Dat.blockOf qblk; rw [qA_eq]) t d).trans
    (by unfold Dat.fetched Dat.blockOf qblk; rw [qA_eq]; try rfl)
theorem qbefore1 (c : Dev nD) (t : Fin cfg1.N) (d) : (qdat V c).before 1 t d = qblk V c 1 t :=
  ((qdat V c).before_in_eq_fetched 1 rfl (fun _ => rfl) (fun _ _ _ => rfl) (fun t => by rw [qafter1]; unfold Dat.blockOf qblk; rw [qA_eq]) t d).trans
    (by unfold Dat.fetched Dat.blockOf qblk; rw [qA_eq]; try rfl)
theorem qbefore2 (c : Dev nD) (t : Fin cfg1.N) (d) : (qdat V c).before 2 t d = qblk V c 2 t :=
  ((qdat V c).before_in_eq_fetched 2 rfl (fun _ => rfl) (fun _ _ _ => rfl) (fun t => by rw [qafter2]; unfold Dat.blockOf qblk; rw [qA_eq]) t d).trans
    (by unfold Dat.fetched Dat.blockOf qblk; rw [qA_eq]; try rfl)
theorem qbefore3 (c : Dev nD) (t : Fin cfg1.N) (d) : (qdat V c).before 3 t d = qblk V c 3 t :=
  ((qdat V c).before_in_eq_fetched 3 rfl (fun _ => rfl) (fun _ _ _ => rfl) (fun t => by rw [qafter3]; unfold Dat.blockOf qblk; rw [qA_eq]) t d).trans
    (by unfold Dat.fetched Dat.blockOf qblk; rw [qA_eq]; try rfl)
theorem qbefore4 (c : Dev nD) (t : Fin cfg1.N) (d) : (qdat V c).before 4 t d = qblk V c 4 t :=
  ((qdat V c).before_in_eq_fetched 4 rfl (fun _ => rfl) (fun _ _ _ => rfl) (fun t => by rw [qafter4]; unfold Dat.blockOf qblk; rw [qA_eq]) t d).trans
    (by unfold Dat.fetched Dat.blockOf qblk; rw [qA_eq]; try rfl)

/-! ## Where the windows are idle, and written back -/

theorem qidle7 : ∀ i : grid1.Coords, cfg1.idle 7 i = false := fun i => by
  show (!(k1_cond1 i == 1#1) && !(k1_cond2 i == 1#1) && !(k1_cond3 i == 1#1)) = false
  by_cases h : (i 0).val = 0
  · rw [(q_top i).mpr h]; simp
  · rw [(q_later i).mpr h]; simp

theorem qidle6 : ∀ i : grid1.Coords, cfg1.idle 6 i = false := fun i => by
  show (!(k1_cond2 i == 1#1) && !(k1_cond3 i == 1#1)) = false
  by_cases h : (i 0).val = 0
  · rw [(q_top i).mpr h]; simp
  · rw [(q_later i).mpr h]; simp

theorem qidle8 : ∀ i : grid1.Coords, cfg1.idle 8 i = false := qidle6

theorem qidle5 (i : grid1.Coords) : cfg1.idle 5 i = decide ((i 0).val = 0) := by
  show (!(k1_cond3 i == 1#1)) = _
  by_cases h : (i 0).val = 0
  · have : ¬k1_cond3 i = 1#1 := fun h' => (q_later i).mp h' h
    simp [h, this]
  · rw [(q_later i).mpr h]; simp [h]

theorem qidle9 (i : grid1.Coords) : cfg1.idle 9 i = decide ((i 0).val = 0) := qidle5 i

theorem qflush5 : ∀ t : Fin cfg1.N, (cfg1.win 5).flush t = true ↔ 8 ≤ t.val :=
  (by decide +kernel : ∀ t : Fin grid1.N, win1_5.flush t = true ↔ 8 ≤ t.val)
theorem qflush9 : ∀ t : Fin cfg1.N, (cfg1.win 9).flush t = true ↔ 8 ≤ t.val :=
  (by decide +kernel : ∀ t : Fin grid1.N, win1_9.flush t = true ↔ 8 ≤ t.val)
theorem qflush7 : ∀ t : Fin cfg1.N, (cfg1.win 7).flush t = true ↔ (t.val % 8 = 7 ∧ t.val ≠ 255) :=
  (by decide +kernel : ∀ t : Fin grid1.N, win1_7.flush t = true ↔ (t.val % 8 = 7 ∧ t.val ≠ 255))

/-- Within a row of tiles the scales' buffer holds what the point before left. -/
theorem qbefore7 (c : Dev nD) (t : Fin cfg1.N) (h : t.val % 8 ≠ 0) (d) : (qdat V c).before 7 t d = qscales V c (t.val - 1) := by
  rw [Dat.before_out_kept (qdat V c) 7 rfl t (by omega)
    (Bool.eq_false_iff.mpr fun hf => by have := ((qflush7 _).mp hf).1; dsimp only at this; omega) qidle7 (fun _ _ => rfl) d]
  dsimp only [qdat]

/-! ## The body obligation -/

/-- What the body is called with at point `t`. -/
def qPre (c : Dev nD) (t : Fin cfg1.N) : sProp (MT nD τ sig Unit (Elt F) ℕ (UR sig nD τ) ℕ) :=
  iprop((qdat V c).Φ t.castSucc ∗ (qdat V c).owesAt () t.castSucc
    ∗ (∃ d, owns (c : Thread nD τ) (st1_0 t) fullShare ((qdat V c).before 0 t d))
    ∗ (∃ d, owns (c : Thread nD τ) (st1_1 t) fullShare ((qdat V c).before 1 t d))
    ∗ (∃ d, owns (c : Thread nD τ) (st1_2 t) fullShare ((qdat V c).before 2 t d))
    ∗ (∃ d, owns (c : Thread nD τ) (st1_3 t) fullShare ((qdat V c).before 3 t d))
    ∗ (∃ d, owns (c : Thread nD τ) (st1_4 t) fullShare ((qdat V c).before 4 t d))
    ∗ (∃ d, owns (c : Thread nD τ) (st1_5 t) fullShare ((qdat V c).before 5 t d))
    ∗ (∃ d, owns (c : Thread nD τ) (st1_6 t) fullShare ((qdat V c).before 6 t d))
    ∗ (∃ d, owns (c : Thread nD τ) (st1_7 t) fullShare ((qdat V c).before 7 t d))
    ∗ (∃ d, owns (c : Thread nD τ) (st1_8 t) fullShare ((qdat V c).before 8 t d))
    ∗ (∃ d, owns (c : Thread nD τ) (st1_9 t) fullShare ((qdat V c).before 9 t d)))

/-- What it returns. -/
def qPost (c : Dev nD) (t : Fin cfg1.N) : sProp (MT nD τ sig Unit (Elt F) ℕ (UR sig nD τ) ℕ) :=
  iprop((qdat V c).Φ t.succ ∗ (qdat V c).owesAt () t.succ
    ∗ (qdat V c).leavesExact 0 t
    ∗ (qdat V c).leavesExact 1 t
    ∗ (qdat V c).leavesExact 2 t
    ∗ (qdat V c).leavesExact 3 t
    ∗ (qdat V c).leavesExact 4 t
    ∗ (qdat V c).leavesExact 5 t
    ∗ (qdat V c).leavesExact 6 t
    ∗ (qdat V c).leavesExact 7 t
    ∗ (qdat V c).leavesExact 8 t
    ∗ (qdat V c).leavesExact 9 t)

set_option maxHeartbeats 3200000 in
theorem q_sound (c : Dev nD) (t : Fin cfg1.N) :
    qPre V c t ⊢ wp frame (wpE (defs₀ (F := F)) Variants.none c none) Set.univ (bodyAt1 t) (fun _ => qPost V c t) := by
  unfold qPre qPost bodyAt1
  simp only [qbefore0, qbefore1, qbefore2, qbefore3, qbefore4]
  rw [show (qdat V c).owesAt () t.succ = (qdat V c).owesAt () t.castSucc from rfl,
    show (qdat V c).Φ t.castSucc = qinv V c t.val from rfl, show (qdat V c).Φ t.succ = qinv V c (t.val + 1) from rfl]
  rw [show (qdat V c).leavesExact 0 t = owns (c : Thread nD τ) (st1_0 t) fullShare ((qdat V c).after 0 t) from rfl, qafter0]
  rw [show (qdat V c).leavesExact 1 t = owns (c : Thread nD τ) (st1_1 t) fullShare ((qdat V c).after 1 t) from rfl, qafter1]
  rw [show (qdat V c).leavesExact 2 t = owns (c : Thread nD τ) (st1_2 t) fullShare ((qdat V c).after 2 t) from rfl, qafter2]
  rw [show (qdat V c).leavesExact 3 t = owns (c : Thread nD τ) (st1_3 t) fullShare ((qdat V c).after 3 t) from rfl, qafter3]
  rw [show (qdat V c).leavesExact 4 t = owns (c : Thread nD τ) (st1_4 t) fullShare ((qdat V c).after 4 t) from rfl, qafter4]
  rw [show (qdat V c).leavesExact 6 t = owns (c : Thread nD τ) (st1_6 t) fullShare ((qdat V c).after 6 t) from by
    unfold Dat.leavesExact; rw [qidle6 _], qafter6]
  rw [show (qdat V c).leavesExact 7 t = owns (c : Thread nD τ) (st1_7 t) fullShare ((qdat V c).after 7 t) from by
    unfold Dat.leavesExact; rw [qidle7 _], qafter7]
  rw [show (qdat V c).leavesExact 8 t = owns (c : Thread nD τ) (st1_8 t) fullShare ((qdat V c).after 8 t) from by
    unfold Dat.leavesExact; rw [qidle8 _], qafter8]
  have hN : t.val < 264 := lt_of_lt_of_eq t.isLt (show cfg1.N = 264 from N_1)
  unfold qinv
  iintro ⟨⟨⟨%G, %hG, HS⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (quantRun c (grid1.coords t) _ _ _ _ _ _ _ _ _ _ _ _ _ _ _ _ _ _ _ _ _ (Memref.isWhole_whole _)
    (qblk V c 0 t) (qblk V c 1 t) (qblk V c 2 t) (qblk V c 3 t) (qblk V c 4 t)
    ((qdat V c).before 5 t d5) ((qdat V c).before 7 t d7) ((qdat V c).before 9 t d9) G Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexists _; iexact H8
  isplitl [H9]; · iexact H9
  isplitl [HS]; · iexact HS
  rw [show scalesF (BitVec.ofNat 32 (grid1.coords t 1).val) (qblk V c 1 t) (if (grid1.coords t 1).val = 0 then k1_pay1 else (qdat V c).before 7 t d7) = qscales V c t.val from by
      rw [qscales_eq, q_col, qtile_val]
      by_cases h : t.val % 8 = 0
      · rw [if_pos h, if_pos h]
      · rw [if_neg h, if_neg h, qbefore7 V c t h]]
  rw [q_row, q_col]
  have hG' : HeldTiles (qtile V c) (t.val + 1) (slotPut (t.val / 8 % 2) (t.val % 8) (qblk V c 1 t) G) := by
    have := hG.step; rwa [qtile_val] at this
  iintro ⟨H0, H1, H2, H3, H4, H5, H6, H7, H8, H9, HS⟩
  isplitl [HS Hrest Hg]
  · isplitl [HS]
    · iexists _; isplitr; swap; (· iexact HS); ipureintro; exact hG'
    isplitl [Hrest]; · iexact Hrest
    iexact Hg
  isplitl [Ho]; · iexact Ho
  isplitl [H0]; · iexact H0
  isplitl [H1]; · iexact H1
  isplitl [H2]; · iexact H2
  isplitl [H3]; · iexact H3
  isplitl [H4]; · iexact H4
  by_cases hi : t.val / 8 = 0
  · rw [if_pos hi, if_pos hi]
    rw [Dat.leavesExact_idle (qdat V c) 5 t ((qidle5 _).trans (by rw [q_row]; exact decide_eq_true hi)) (Bool.eq_false_iff.mpr fun hf => by have := (qflush5 t).mp hf; omega),
      Dat.leavesExact_idle (qdat V c) 9 t ((qidle9 _).trans (by rw [q_row]; exact decide_eq_true hi)) (Bool.eq_false_iff.mpr fun hf => by have := (qflush9 t).mp hf; omega)]
    isplitl [H5]; · iexists _; iexact H5
    isplitl [H6]; · iexact H6
    isplitl [H7]; · iexact H7
    isplitl [H8]; · iexact H8
    iexists _; iexact H9
  · rw [if_neg hi, if_neg hi]
    rw [show (qdat V c).leavesExact 5 t = owns (c : Thread nD τ) (st1_5 t) fullShare ((qdat V c).after 5 t) from by
        unfold Dat.leavesExact; rw [qidle5, q_row, decide_eq_false hi],
      show (qdat V c).leavesExact 9 t = owns (c : Thread nD τ) (st1_9 t) fullShare ((qdat V c).after 9 t) from by
        unfold Dat.leavesExact; rw [qidle9, q_row, decide_eq_false hi], qafter5, qafter9]
    rw [show (dxOf ((qblk V c 0 t : Vec F S1x1 .f32) (ix2 0 0)) (qblk V c 2 t) (qblk V c 3 t) fun k => slotLd ((t.val / 8 + 1) % 2) k G) = qdx V c t from
      dxOf_congr _ _ _ fun k hk => by
        have := hG (8 * (t.val / 8 - 1) + k) (by omega) (by omega)
        rw [show (8 * (t.val / 8 - 1) + k) / 8 % 2 = (t.val / 8 + 1) % 2 from by omega, show (8 * (t.val / 8 - 1) + k) % 8 = k from by omega] at this
        exact this]
    isplitl [H5]; · iexact H5
    isplitl [H6]; · iexact H6
    isplitl [H7]; · iexact H7
    isplitl [H8]; · iexact H8
    iexact H9

theorem q_row_defs (t : Fin cfg1.N) :
    defs₀ (F := F) .tc cfg1.body (cfg1.bodyArgs t (cfg1.slots t)) = bodyAt1 t := by
  unfold defs₀; rw [Defs.onTc_tc]

/-- The body obligation of the quantiser's region. -/
theorem q_body (c : Dev nD) : BodyObligation (qdat V c) (defs₀ (F := F)) Variants.none () Set.univ := fun t => by
  rw [bigSep_W1, bigSep_W1, q_row_defs]
  exact triple_restated (q_sound V c t) rfl .rfl fun _ => .rfl

/-- The region is entered with every scoped buffer at anything. -/
theorem q_in (c : Dev nD) :
    iprop(Pipeline.scopedRest (Ix := Unit) (Name := ℕ) (U := UR sig nD τ) (Lvl := ℕ) (Val := Elt F) spec1 c ∗ ∃ r, prngReg c r) ⊢ (qdat V c).Φ 0 := by
  rw [show (qdat V c).Φ 0 = qinv V c 0 from rfl, scopedRest1_eq]
  unfold qinv qrest
  simp only [qscM, owns_whole]
  iintro ⟨⟨H0, H1, H2, H3, ⟨%G, HG⟩, H5, H6, H7, H8, H9, H10⟩, Hg⟩
  isplitl [HG]
  · iexists G; isplitr; · ipureintro; exact HeldTiles.start _ _
    iexact HG
  isplitr [Hg]
  · isplitl [H0]; · iexact H0
    isplitl [H1]; · iexact H1
    isplitl [H2]; · iexact H2
    isplitl [H3]; · iexact H3
    isplitl [H5]; · iexact H5
    isplitl [H6]; · iexact H6
    isplitl [H7]; · iexact H7
    isplitl [H8]; · iexact H8
    isplitl [H9]; · iexact H9
    iexact H10
  iexact Hg

/-- The region gives every scoped buffer back. -/
theorem q_out (c : Dev nD) :
    (qdat V c).Φ (Fin.last cfg1.N) ⊢ iprop(Pipeline.scopedRest (Ix := Unit) (Name := ℕ) (U := UR sig nD τ) (Lvl := ℕ) (Val := Elt F) spec1 c ∗ ∃ r, prngReg c r) := by
  rw [show (qdat V c).Φ (Fin.last cfg1.N) = qinv V c cfg1.N from rfl, scopedRest1_eq]
  unfold qinv qrest
  simp only [qscM, owns_whole]
  iintro ⟨⟨%G, -, HG⟩, ⟨H0, H1, H2, H3, H5, H6, H7, H8, H9, H10⟩, Hg⟩
  isplitr [Hg]
  · isplitl [H0]; · iexact H0
    isplitl [H1]; · iexact H1
    isplitl [H2]; · iexact H2
    isplitl [H3]; · iexact H3
    isplitl [HG]; · iexists G; iexact HG
    isplitl [H5]; · iexact H5
    isplitl [H6]; · iexact H6
    isplitl [H7]; · iexact H7
    isplitl [H8]; · iexact H8
    isplitl [H9]; · iexact H9
    iexact H10
  iexact Hg

end Cert.KernelIdeal.Gen

end
-- ==== Proof.DwRegion.lean ====
/- The weight gradient's region: what its body leaves at every grid point, from the arrays as the region finds them. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Gen.Dw

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k2_h1`), from the grid coordinates (the skeleton's scalar
    chain substituted). -/
abbrev cond0_0 (i : grid2.Coords) : Prop := k2_cond1 i = 1#1
/-- It holds at the points ≡ 0 (mod 16) — by arithmetic of the point. -/
theorem hcond0_0 : ∀ t : Fin cfg2.N, cond0_0 (grid2.coords t) ↔ t.val % 16 = 0 :=
  (fun t => by
    have ht : t.val < 224 := Nat.lt_of_lt_of_eq t.isLt N_2
    have e0 : (grid2.coords t 0).val = t.val / 112 % 2 := Pipeline.Grid.coords_val t 0 (by decide) rfl
    have e1 : (grid2.coords t 1).val = t.val / 16 % 7 := Pipeline.Grid.coords_val t 1 (by decide) rfl
    have e2 : (grid2.coords t 2).val = t.val / 1 % 16 := Pipeline.Grid.coords_val t 2 (by decide) rfl
    simp only [cond0_0, k2_cond1, e0, e1, e2]
    word_cmp
   : ∀ t : Fin grid2.N, cond0_0 (grid2.coords t) ↔ t.val % 16 = 0)

/-- The condition of the body's `scf.if` 1 (`k2_h2`), from the grid coordinates (the skeleton's scalar
    chain substituted). -/
abbrev cond0_1 (i : grid2.Coords) : Prop := k2_cond2 i = 1#1
/-- It holds at the points whose coordinates have 1 ≤ i2 — decided over the grid. -/
theorem hcond0_1 : ∀ t : Fin cfg2.N, cond0_1 (grid2.coords t) ↔ 1 ≤ t.val % 16 :=
  (by decide +kernel : ∀ t : Fin grid2.N, cond0_1 (grid2.coords t) ↔ 1 ≤ t.val % 16)

/-! ## Where the windows are idle (the printed configuration's table `Cfg.idle`) -/

/-- Window 0 is never idle (an input). -/
theorem liveAt0_0 : ∀ t : Fin cfg2.N, cfg2.idle 0 (grid2.coords t) = false := fun _ => rfl
/-- Window 1 is never idle (an input). -/
theorem liveAt0_1 : ∀ t : Fin cfg2.N, cfg2.idle 1 (grid2.coords t) = false := fun _ => rfl
/-- Whether output 2's buffer is FRESH at each position `1 ‥ N` — holds nothing the body stored since the region's entry or the
    last write-back (written back at the point before, or idle there and fresh before it) —, as a bitmask the classifier
    computed, bit `n` for position `n + 1`; position 0 is fresh. `freshTab0_2_step` checks it against the configuration's own
    step point by point and Lib/Pipeline/TableIdle.lean `Cfg.fresh_tab` makes it `Cfg.fresh` (`fresh0_2_eq`). -/
def freshTab0_2 : ℕ → Bool
  | 0 => true
  | n + 1 => (0x80008000800080008000800080008000800080008000800080008000 : ℕ).testBit n
theorem freshTab0_2_step : ∀ t : Fin cfg2.N,
    freshTab0_2 (t.val + 1) = ((cfg2.win 2).flush t || (cfg2.idle 2 (cfg2.grid.coords t) && freshTab0_2 t.val)) := by decide +kernel
theorem fresh0_2_eq (t : Fin cfg2.N) : cfg2.fresh 2 t.val = freshTab0_2 t.val :=
  Pipeline.Cfg.fresh_tab cfg2 2 freshTab0_2 rfl freshTab0_2_step t.val (Nat.le_of_lt t.isLt)
/-- At the points of case A the printed configuration (`Cfg.idle`) calls output 2 live: the case stores into it. -/
theorem liveAt0_2_A : ∀ t : Fin cfg2.N, cond0_0 (grid2.coords t) → ¬cond0_1 (grid2.coords t) → cfg2.idle 2 (grid2.coords t) = false := by decide +kernel
/-- At the points of case B the printed configuration (`Cfg.idle`) calls output 2 live: the case stores into it. -/
theorem liveAt0_2_B : ∀ t : Fin cfg2.N, ¬cond0_0 (grid2.coords t) → cond0_1 (grid2.coords t) → cfg2.idle 2 (grid2.coords t) = false := by decide +kernel
/-- At the points of case B, which keeps output 2's prior contents (reads it before covering, or covers it in part), the
    window's buffer is not FRESH: something was stored into it since the region's entry or its last write-back, idle points
    between or not (Lib/Pipeline/TableIdle.lean `Cfg.fresh`, by the table `freshTab0_2`). -/
theorem notFresh0_2_B : ∀ t : Fin cfg2.N, ¬cond0_0 (grid2.coords t) → cond0_1 (grid2.coords t) → cfg2.fresh 2 t.val = false := by
  intro t; rw [fresh0_2_eq t]; revert t; decide +kernel

/-! ## The kernel body on any staging memrefs: a subtype the run finds -/

/-- One staging buffer of output window 2, through which its contents are stated (`View.read_writes_of_cover`: the
    choice does not matter). -/
abbrev VO2_2 : View sig .tc .vmem S2048x2048 .f32 := (Memref.whole cc2_stg2_0 : Memref sig .tc .vmem S2048x2048 .f32).view
/-- Each window's current staging memref at point `t`, spelled as the pipeline passes it (`bodyAt2`), and its wholeness. -/
abbrev ms0_0 (t : Fin cfg2.N) : Memref sig .tc .vmem S2048x1024 .bf16 := win2_0.stage (cfg2.slots t 0)
abbrev hs0_0 (t : Fin cfg2.N) : (ms0_0 t).IsWhole := hstage2_0 ((cfg2.slots t 0).cast nbuf2_0)
abbrev ms0_1 (t : Fin cfg2.N) : Memref sig .tc .vmem S1024x2048 .bf16 := win2_1.stage (cfg2.slots t 1)
abbrev hs0_1 (t : Fin cfg2.N) : (ms0_1 t).IsWhole := hstage2_1 ((cfg2.slots t 1).cast nbuf2_1)
abbrev ms0_2 (t : Fin cfg2.N) : Memref sig .tc .vmem S2048x2048 .f32 := win2_2.stage (cfg2.slots t 2)
abbrev hs0_2 (t : Fin cfg2.N) : (ms0_2 t).IsWhole := hstage2_2 ((cfg2.slots t 2).cast nbuf2_2)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 16, … 208: 14 of 224), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid2.Coords) (arg3 : Memref sig .tc .vmem S2048x1024 .bf16) (harg3 : arg3.IsWhole) (arg4 : Memref sig .tc .vmem S1024x2048 .bf16) (harg4 : arg4.IsWhole) (arg5 : Memref sig .tc .vmem S2048x2048 .f32) (harg5 : arg5.IsWhole) (hc0 : cond0_0 i) (hc1 : ¬cond0_1 i)
    (x0 : Vec F S2048x1024 .bf16) (x1 : Vec F S1024x2048 .bf16) :
    { L2 : List (View.Piece (Elt F) S2048x2048 .f32) //
      ∀ (E : Set ℕ) (K : PUnit → sProp (MT nD τ sig Unit (Elt F) ℕ (UR sig nD τ) ℕ)),
        iprop(owns (c : Thread nD τ) arg3 fullShare x0 ∗ owns (c : Thread nD τ) arg4 fullShare x1 ∗ (∃ d, owns (c : Thread nD τ) arg5 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2)) -∗ K ⟨⟩))
          ⊢ wp frame (wpE (defs₀ (F := F)) Variants.none c none) E (cc2_dw i arg3 harg3 arg4 harg4 arg5 harg5) K } := by
  refine ⟨?_, fun E K => ?run⟩
  case run =>
    simp only [cc2_dw_eq_skeleton]; unfold cc2_dw_skel
    unfold owns
    iintro ⟨⟨%f0, %hf0, H0⟩, ⟨%f1, %hf1, H1⟩, ⟨%d2, %f2, -, H2⟩, Hk⟩
    obtain rfl := harg3.eq_unread hf0; obtain rfl := harg4.eq_unread hf1
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact H2

-- (the run's proof term is large: the definition's epilogue — `abstractNestedProofs` — walks it past the default budget)
set_option maxHeartbeats 1000000 in
/-- What the body's stores leave in each output's staging memref, as pieces (last first) IN CASE B (`scf.if` 0 not taken, `scf.if` 1 taken: points 1, 2, … 223: 210 of 224), WITH the
    proof that on whole staging memrefs — the inputs' at their contents, the outputs it reads before covering (2) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid2.Coords) (arg3 : Memref sig .tc .vmem S2048x1024 .bf16) (harg3 : arg3.IsWhole) (arg4 : Memref sig .tc .vmem S1024x2048 .bf16) (harg4 : arg4.IsWhole) (arg5 : Memref sig .tc .vmem S2048x2048 .f32) (harg5 : arg5.IsWhole) (hc0 : ¬cond0_0 i) (hc1 : cond0_1 i)
    (x0 : Vec F S2048x1024 .bf16) (x1 : Vec F S1024x2048 .bf16) (xo2 : Vec F S2048x2048 .f32) :
    { L2 : List (View.Piece (Elt F) S2048x2048 .f32) //
      ∀ (E : Set ℕ) (K : PUnit → sProp (MT nD τ sig Unit (Elt F) ℕ (UR sig nD τ) ℕ)),
        iprop(owns (c : Thread nD τ) arg3 fullShare x0 ∗ owns (c : Thread nD τ) arg4 fullShare x1 ∗ owns (c : Thread nD τ) arg5 fullShare xo2
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2)) -∗ K ⟨⟩))
          ⊢ wp frame (wpE (defs₀ (F := F)) Variants.none c none) E (cc2_dw i arg3 harg3 arg4 harg4 arg5 harg5) K } := by
  refine ⟨?_, fun E K => ?run⟩
  case run =>
    simp only [cc2_dw_eq_skeleton]; unfold cc2_dw_skel
    unfold owns
    iintro ⟨⟨%f0, %hf0, H0⟩, ⟨%f1, %hf1, H1⟩, ⟨%f2, %hf2, H2⟩, Hk⟩
    obtain rfl := harg3.eq_unread hf0; obtain rfl := harg4.eq_unread hf1; obtain rfl := harg5.eq_unread hf2
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact H2

/-- Case A's pieces for output 2 tile its block (1 store of `S2048x2048`, checked by the kernel's evaluation: Lib/Ring.lean `Piece.tiledL`, linear in the pieces, through a loop's `@[irreducible]` trip theorem too), so they cover it. -/
theorem cover0_A_2 (c : Dev nD) (i : grid2.Coords) (arg3 : Memref sig .tc .vmem S2048x1024 .bf16) (harg3 : arg3.IsWhole) (arg4 : Memref sig .tc .vmem S1024x2048 .bf16) (harg4 : arg4.IsWhole) (arg5 : Memref sig .tc .vmem S2048x2048 .f32) (harg5 : arg5.IsWhole) (hc0 : cond0_0 i) (hc1 : ¬cond0_1 i)
    (x0 : Vec F S2048x1024 .bf16) (x1 : Vec F S1024x2048 .bf16) (y : S2048x2048.Idx) :
    ∃ pc ∈ (kernelRun0_A c i arg3 harg3 arg4 harg4 arg5 harg5 hc0 hc1 x0 x1).1, y ∈ pc.1.set :=
  View.cover_of_tiledL (kernelRun0_A c i arg3 harg3 arg4 harg4 arg5 harg5 hc0 hc1 x0 x1).1 S2048x2048.size (by sl_kernel_rfl) y

/-- What case A leaves in output 2's staging buffer: its pieces read back over junk. -/
def out0_A_2 (c : Dev nD) (i : grid2.Coords) (arg3 : Memref sig .tc .vmem S2048x1024 .bf16) (harg3 : arg3.IsWhole) (arg4 : Memref sig .tc .vmem S1024x2048 .bf16) (harg4 : arg4.IsWhole) (arg5 : Memref sig .tc .vmem S2048x2048 .f32) (harg5 : arg5.IsWhole) (hc0 : cond0_0 i) (hc1 : ¬cond0_1 i)
    (x0 : Vec F S2048x1024 .bf16) (x1 : Vec F S1024x2048 .bf16) : Vec F S2048x2048 .f32 :=
  VO2_2.read (Elt F) (VO2_2.writes (Elt F) VO2_2.junk (kernelRun0_A c i arg3 harg3 arg4 harg4 arg5 harg5 hc0 hc1 x0 x1).1)

/-- Case B's pieces for output 2 tile its block (1 store of `S2048x2048`, checked by the kernel's evaluation: Lib/Ring.lean `Piece.tiledL`, linear in the pieces, through a loop's `@[irreducible]` trip theorem too), so they cover it. -/
theorem cover0_B_2 (c : Dev nD) (i : grid2.Coords) (arg3 : Memref sig .tc .vmem S2048x1024 .bf16) (harg3 : arg3.IsWhole) (arg4 : Memref sig .tc .vmem S1024x2048 .bf16) (harg4 : arg4.IsWhole) (arg5 : Memref sig .tc .vmem S2048x2048 .f32) (harg5 : arg5.IsWhole) (hc0 : ¬cond0_0 i) (hc1 : cond0_1 i)
    (x0 : Vec F S2048x1024 .bf16) (x1 : Vec F S1024x2048 .bf16) (xo2 : Vec F S2048x2048 .f32) (y : S2048x2048.Idx) :
    ∃ pc ∈ (kernelRun0_B c i arg3 harg3 arg4 harg4 arg5 harg5 hc0 hc1 x0 x1 xo2).1, y ∈ pc.1.set :=
  View.cover_of_tiledL (kernelRun0_B c i arg3 harg3 arg4 harg4 arg5 harg5 hc0 hc1 x0 x1 xo2).1 S2048x2048.size (by sl_kernel_rfl) y

/-- What case B leaves in output 2's staging buffer: its pieces read back over junk. -/
def out0_B_2 (c : Dev nD) (i : grid2.Coords) (arg3 : Memref sig .tc .vmem S2048x1024 .bf16) (harg3 : arg3.IsWhole) (arg4 : Memref sig .tc .vmem S1024x2048 .bf16) (harg4 : arg4.IsWhole) (arg5 : Memref sig .tc .vmem S2048x2048 .f32) (harg5 : arg5.IsWhole) (hc0 : ¬cond0_0 i) (hc1 : cond0_1 i)
    (x0 : Vec F S2048x1024 .bf16) (x1 : Vec F S1024x2048 .bf16) (xo2 : Vec F S2048x2048 .f32) : Vec F S2048x2048 .f32 :=
  VO2_2.read (Elt F) (VO2_2.writes (Elt F) VO2_2.junk (kernelRun0_B c i arg3 harg3 arg4 harg4 arg5 harg5 hc0 hc1 x0 x1 xo2).1)

/-! ## What the outputs hold after each point -/

/-- THE ACCUMULATION. What the outputs' staging buffers hold after the body at position `n`:
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg2.N → Vec F S2048x2048 .f32
  | 0, hn => out0_A_2 c (grid2.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩)
  | n + 1, hn =>
    if h0 : (n + 1) % 16 = 0 then
      if h1 : 1 ≤ (n + 1) % 16 then
        False.elim (by have hN : n + 1 < 224 := lt_of_lt_of_eq hn (show cfg2.N = 224 from N_2); omega)
      else
        out0_A_2 c (grid2.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (fun h => h1 ((hcond0_1 ⟨n + 1, hn⟩).mp h)) (iblk V c 0 ⟨n + 1, hn⟩) (iblk V c 1 ⟨n + 1, hn⟩)
    else
      if h1 : 1 ≤ (n + 1) % 16 then
        out0_B_2 c (grid2.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) ((hcond0_1 ⟨n + 1, hn⟩).mpr h1) (iblk V c 0 ⟨n + 1, hn⟩) (iblk V c 1 ⟨n + 1, hn⟩) (outsAt0 c n (Nat.lt_of_succ_lt hn))
      else
        False.elim (by have hN : n + 1 < 224 := lt_of_lt_of_eq hn (show cfg2.N = 224 from N_2); omega)

/-- `outsAt0` at a point of case A: that case's contents. -/
theorem outsAt0_A (c : Dev nD) (t : Fin cfg2.N) (h0 : t.val % 16 = 0) (h1 : ¬1 ≤ t.val % 16) :
    outsAt0 V c t.val t.isLt = out0_A_2 c (grid2.coords t) (ms0_0 t) (hs0_0 t) (ms0_1 t) (hs0_1 t) (ms0_2 t) (hs0_2 t) ((hcond0_0 t).mpr h0) (fun h => h1 ((hcond0_1 t).mp h)) (iblk V c 0 t) (iblk V c 1 t) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg2.N) (h0 : ¬t.val % 16 = 0) (h1 : 1 ≤ t.val % 16) :
    outsAt0 V c t.val t.isLt = out0_B_2 c (grid2.coords t) (ms0_0 t) (hs0_0 t) (ms0_1 t) (hs0_1 t) (ms0_2 t) (hs0_2 t) (fun h => h0 ((hcond0_0 t).mp h)) ((hcond0_1 t).mpr h1) (iblk V c 0 t) (iblk V c 1 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => (outsAt0 V c t.val t.isLt)
  Φ _ := Pipeline.ΦA spec2 c
  q _ := fullShare
  owed _ := 0

/-- The proof data's arrays are the region-entry contents: the proof data's definition projected (`dsimp`), so that
    `V` — a fold over @main's host prefix, long for some programs — is never unfolded to check it. -/
theorem A_eq (c : Dev nD) (w : Fin cfg2.W) : (dat V c).A w = V c (Pipeline.arrRef spec2 w) := by
  dsimp only [dat]

/-- What the body leaves, window by window (the proof data's `match` reduced by `dsimp`). -/
theorem after0_0 (c : Dev nD) (t : Fin cfg2.N) : (dat V c).after 0 t = iblk V c 0 t := by dsimp only [dat]
theorem after0_1 (c : Dev nD) (t : Fin cfg2.N) : (dat V c).after 1 t = iblk V c 1 t := by dsimp only [dat]
theorem after0_2 (c : Dev nD) (t : Fin cfg2.N) : (dat V c).after 2 t = (outsAt0 V c t.val t.isLt) := by dsimp only [dat]

/-- Each input's current staging buffer holds its block at every point, fetched there or not (`beforeK_W_of`). -/
theorem before0_0 (c : Dev nD) (t : Fin cfg2.N) (d) : (dat V c).before 0 t d = iblk V c 0 t :=
  before0_0_of V (dat V c) (A_eq V c 0) (after0_0 V c) t d
theorem before0_1 (c : Dev nD) (t : Fin cfg2.N) (d) : (dat V c).before 1 t d = iblk V c 1 t :=
  before0_1_of V (dat V c) (A_eq V c 1) (after0_1 V c) t d

/-- Output 2's contents CARRY through the points that leave it idle: at such a point, its buffer not fresh, the proof data's
    `after` is the point before's (the case there stores nothing into the window and its term says so; a case that stores
    into it is not idle there by `liveAt0_2_κ`) — the hypothesis of Lib/Pipeline/TableIdle.lean `Dat.before_out_traj`. -/
theorem hcarry0_2 (c : Dev nD) : ∀ (t : Fin cfg2.N) (_ : t.val ≠ 0), cfg2.idle 2 (grid2.coords t) = true → cfg2.fresh 2 t.val = false →
    (dat V c).after 2 t = (dat V c).after 2 ⟨t.val - 1, by omega⟩ := by
  intro t _ hi _
  have hN : t.val < 224 := lt_of_lt_of_eq t.isLt (show cfg2.N = 224 from N_2)
  rw [after0_2, after0_2]
  by_cases h0 : t.val % 16 = 0
  · by_cases h1 : 1 ≤ t.val % 16
    · exfalso; omega
    · rw [liveAt0_2_A t ((hcond0_0 t).mpr h0) (fun h => h1 ((hcond0_1 t).mp h))] at hi
      exact absurd hi Bool.false_ne_true
  · by_cases h1 : 1 ≤ t.val % 16
    · rw [liveAt0_2_B t (fun h => h0 ((hcond0_0 t).mp h)) ((hcond0_1 t).mpr h1)] at hi
      exact absurd hi Bool.false_ne_true
    · exfalso; omega
/-- At a point of case B output 2's current staging buffer holds what the point before left: the buffer is not fresh
    there (`notFresh0_2_B`: stored into since the region's entry or the last write-back, carried through the points that
    leave it idle by `hcarry0_2`; Lib/Pipeline/TableIdle.lean `Dat.before_out_traj`). -/
theorem before0_2_B (c : Dev nD) (t : Fin cfg2.N) (h0 : ¬t.val % 16 = 0) (h1 : 1 ≤ t.val % 16) (d) :
    (dat V c).before 2 t d = (outsAt0 V c (t.val - 1) (Nat.lt_of_le_of_lt (Nat.sub_le _ _) t.isLt)) := by
  rw [Dat.before_out_traj _ 2 rfl (fun _ _ => rfl) (hcarry0_2 V c) t.val t rfl d,
    if_neg (by rw [notFresh0_2_B t (fun h => h0 ((hcond0_0 t).mp h)) ((hcond0_1 t).mpr h1)]; exact Bool.false_ne_true)]
  dsimp only [dat]

/-! ## The body obligation, at a generic point -/

/-- What the body is called with at point `t` (Lib/Pipeline.lean `BodyObligation`'s precondition, the windows one by one), -/
def bodyPre (c : Dev nD) (t : Fin cfg2.N) : sProp (MT nD τ sig Unit (Elt F) ℕ (UR sig nD τ) ℕ) :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d)))

/-- and what it returns. -/
def bodyPost (c : Dev nD) (t : Fin cfg2.N) : sProp (MT nD τ sig Unit (Elt F) ℕ (UR sig nD τ) ℕ) :=
  iprop((dat V c).Φ t.succ ∗ (dat V c).owesAt () t.succ
    ∗ (dat V c).leavesExact 0 t
    ∗ (dat V c).leavesExact 1 t
    ∗ (dat V c).leavesExact 2 t)

set_option maxHeartbeats 800000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0_0, before0_1]
  rw [show (dat V c).Φ t.succ = (dat V c).Φ t.castSucc from rfl,
    show (dat V c).owesAt () t.succ = (dat V c).owesAt () t.castSucc from rfl]
  have hN : t.val < 224 := lt_of_lt_of_eq t.isLt (show cfg2.N = 224 from N_2)
  by_cases h0 : t.val % 16 = 0
  · by_cases h1 : 1 ≤ t.val % 16
    · exfalso; omega
    · rw [show (dat V c).leavesExact 0 t = owns (c : Thread nD τ) (ms0_0 t) fullShare ((dat V c).after 0 t) from by
      unfold Dat.leavesExact; rw [liveAt0_0 t], after0_0]
      rw [show (dat V c).leavesExact 1 t = owns (c : Thread nD τ) (ms0_1 t) fullShare ((dat V c).after 1 t) from by
      unfold Dat.leavesExact; rw [liveAt0_1 t], after0_1]
      rw [show (dat V c).leavesExact 2 t = owns (c : Thread nD τ) (ms0_2 t) fullShare ((dat V c).after 2 t) from by
      unfold Dat.leavesExact; rw [liveAt0_2_A t ((hcond0_0 t).mpr h0) (fun h => h1 ((hcond0_1 t).mp h))], after0_2]
      rw [outsAt0_A V c t h0 h1]
      unfold out0_A_2
      iintro ⟨HΦ, Ho, ⟨%d0, H0⟩, ⟨%d1, H1⟩, ⟨%d2, H2⟩⟩
      iapply ((kernelRun0_A c (grid2.coords t) _ _ _ _ _ _ ((hcond0_0 t).mpr h0) (fun h => h1 ((hcond0_1 t).mp h)) (iblk V c 0 t) (iblk V c 1 t)).2 Set.univ _)
      isplitl [H0]; · iexact H0
      isplitl [H1]; · iexact H1
      isplitl [H2]; · iexists _; iexact H2
      iintro ⟨H0, H1, ⟨%e2, H2⟩⟩
      isplitl [HΦ]; · iexact HΦ
      isplitl [Ho]; · iexact Ho
      isplitl [H0]; · iexact H0
      isplitl [H1]; · iexact H1
      unfold owns; iexists _; isplitr
      swap; · iexact H2
      ipureintro; exact View.read_writes_of_cover _ _ _ _ _ (cover0_A_2 c _ _ _ _ _ _ _ _ _ _ _)
  · by_cases h1 : 1 ≤ t.val % 16
    · rw [show (dat V c).leavesExact 0 t = owns (c : Thread nD τ) (ms0_0 t) fullShare ((dat V c).after 0 t) from by
      unfold Dat.leavesExact; rw [liveAt0_0 t], after0_0]
      rw [show (dat V c).leavesExact 1 t = owns (c : Thread nD τ) (ms0_1 t) fullShare ((dat V c).after 1 t) from by
      unfold Dat.leavesExact; rw [liveAt0_1 t], after0_1]
      rw [show (dat V c).leavesExact 2 t = owns (c : Thread nD τ) (ms0_2 t) fullShare ((dat V c).after 2 t) from by
      unfold Dat.leavesExact; rw [liveAt0_2_B t (fun h => h0 ((hcond0_0 t).mp h)) ((hcond0_1 t).mpr h1)], after0_2]
      rw [outsAt0_B V c t h0 h1]
      simp only [before0_2_B V c t h0 h1]
      unfold out0_B_2
      iintro ⟨HΦ, Ho, ⟨%d0, H0⟩, ⟨%d1, H1⟩, ⟨%d2, H2⟩⟩
      iapply ((kernelRun0_B c (grid2.coords t) _ _ _ _ _ _ (fun h => h0 ((hcond0_0 t).mp h)) ((hcond0_1 t).mpr h1) (iblk V c 0 t) (iblk V c 1 t) _).2 Set.univ _)
      isplitl [H0]; · iexact H0
      isplitl [H1]; · iexact H1
      isplitl [H2]; · iexact H2
      iintro ⟨H0, H1, ⟨%e2, H2⟩⟩
      isplitl [HΦ]; · iexact HΦ
      isplitl [Ho]; · iexact Ho
      isplitl [H0]; · iexact H0
      isplitl [H1]; · iexact H1
      unfold owns; iexists _; isplitr
      swap; · iexact H2
      ipureintro; exact View.read_writes_of_cover _ _ _ _ _ (cover0_B_2 c _ _ _ _ _ _ _ _ _ _ _ _)
    · exfalso; omega

/-- The body table's row at point `t`'s slots is the body as `bodyAt2` spells it. -/
theorem defs₀_row (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation (c : Dev nD) : BodyObligation (dat (F := F) V c) (defs₀ (F := F)) Variants.none () Set.univ := fun t => by
  rw [bigSep_W2, bigSep_W2, defs₀_row]
  exact triple_restated (sound_body V c t) rfl .rfl fun _ => .rfl

end Cert.KernelIdeal.Gen.Dw

end
-- ==== Proof.WholeRun.lean ====
/- The whole program's run: the host operations and the three calls in order, each call entered with every unscoped
   buffer at the contents the one before left. The conclusion reads every unscoped buffer of a final state as a fold
   of those steps over the launch contents (`W5`). -/
module

public import proofs.«01_k».proof.Proof.DecodeRegion
public import proofs.«01_k».proof.Proof.QuantRegion
public import proofs.«01_k».proof.Proof.DwRegion
public import proofs.«01_k».proof.Proof.Gen.KernelIdeal.Launch
public import Idealize.ShloMosaic.Lib.Pipeline.FrameTail
public import Idealize.ShloMosaic.Lib.Pipeline.RegionArraysS
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

variable (m : (ℓ : Loc nD τ sig) → Buf (Elt F) ℓ) (ρ : Dev nD → PrngReg)

/-! ## The buffers between the steps -/

/-- At launch. -/
abbrev W0 (c : Dev nD) : Valuation τ sig (Elt F) := StableHlo.launchContents m c
/-- After the host operations before the first call. -/
abbrev W1 (c : Dev nD) : Valuation τ sig (Elt F) := StableHlo.after hostOps0 (W0 m c)
/-- The decoder's proof data. -/
abbrev dat0 (c : Dev nD) : Dat τ (Elt F) Unit ℕ (UR sig nD τ) ℕ cfg0 c := Decode.dat (fun c b => W1 m c (Proc.devRef .tc b)) c
/-- After the decoder. -/
abbrev W2 (c : Dev nD) : Valuation τ sig (Elt F) := afterRegion (dat0 m c) (W1 m c)
/-- After the host operation before the second call. -/
abbrev W3 (c : Dev nD) : Valuation τ sig (Elt F) := StableHlo.after hostOps1 (W2 m c)
/-- The quantiser's proof data. -/
abbrev dat1 (c : Dev nD) : Dat τ (Elt F) Unit ℕ (UR sig nD τ) ℕ cfg1 c := qdat (fun c b => W3 m c (Proc.devRef .tc b)) c
/-- After the quantiser. -/
abbrev W4 (c : Dev nD) : Valuation τ sig (Elt F) := afterRegion (dat1 m c) (W3 m c)
/-- The weight gradient's proof data. -/
abbrev dat2 (c : Dev nD) : Dat τ (Elt F) Unit ℕ (UR sig nD τ) ℕ cfg2 c := Dw.dat (fun c b => W4 m c (Proc.devRef .tc b)) c
/-- After the weight gradient: the end. -/
abbrev W5 (c : Dev nD) : Valuation τ sig (Elt F) := afterRegion (dat2 m c) (W4 m c)

/-- The three calls' proof data. -/
def wdats : (p : Fin 3) → (c : Dev nD) → Dat τ (Elt F) Unit ℕ (UR sig nD τ) ℕ (cfgs p) c
  | ⟨0, _⟩ => fun c => dat0 m c
  | ⟨1, _⟩ => fun c => dat1 m c
  | ⟨2, _⟩ => fun c => dat2 m c

/-! ## The steps as segments -/

/-- No core owes another anything: no level is assigned. -/
abbrev wL : GSem nD τ sig → Finset Unit := fun _ => ∅
abbrev wlv : GSem nD τ sig → Unit → ℕ := fun _ _ => 0
abbrev wadm : (p : Fin 3) → (pcfgs (F := F) p).Adm := fun p => (cfgs p).toPCfg_adm

/-- What rides beside the buffers: the generator register, and the core owing nothing. -/
abbrev wR (c : Dev nD) : sProp (MT nD τ sig Unit (Elt F) ℕ (UR sig nD τ) ℕ) := iprop((∃ r, prngReg c r) ∗ ∃ W, owes (c.tc : Thread nD τ) (0 : CellTallies nD τ sig Unit) W)

-- the kit's lemmas are stated over the pinned configuration: unification may unfold plain definitions
set_option backward.isDefEq.respectTransparency.types false in
/-- One call over the unscoped buffers at a valuation, left at the valuation the call leaves. -/
def wreg (p : Fin 3) (kit : LaunchFacts (nD := nD) (τ := τ) cfgs p) (V : Dev nD → Valuation τ sig (Elt F))
    (hbody : ∀ c, BodyObligationLoose (wdats m p c) (defs₀ (F := F)) Variants.none () Set.univ)
    (hshare : ∀ c w, (wdats m p c).share w = fullShare) (howed : ∀ c t, (wdats m p c).owed t = 0)
    (hrec : ∀ c, (wdats m p c).recorded 0 = Set.univ)
    (hA : ∀ c w, (wdats m p c).A w = V c (Proc.devRef .tc (arrRef (cfgs p).spec w)))
    (hin : ∀ c, iprop(scopedRest (Ix := Unit) (Name := ℕ) (U := UR sig nD τ) (Lvl := ℕ) (Val := Elt F) (cfgs p).spec c ∗ ∃ r, prngReg c r) ⊢ (wdats m p c).Φ 0)
    (hout : ∀ c, (wdats m p c).Φ (Fin.last (cfgs p).N) ⊢ iprop(scopedRest (Ix := Unit) (Name := ℕ) (U := UR sig nD τ) (Lvl := ℕ) (Val := Elt F) (cfgs p).spec c ∗ ∃ r, prngReg c r)) :
    RegionSeg (pcfgs (F := F)) wadm (wdats m) () defs₀ Variants.none wL wlv p where
  win := kit.win.to₀
  block_pos := kit.block_pos
  stage_whole := kit.stage_whole
  K := PEmpty
  osem k := k.elim
  ho := OwnSemFacts.none _
  hbody := hbody
  hwaits := hwaits_of_owed_zero _ _ _ _ wL wlv p howed
  pre c := iprop(StableHlo.held (c.tc : Thread nD τ) (ucRefs τ sig) (V c) ∗ wR c)
  post c := iprop(StableHlo.held (c.tc : Thread nD τ) (ucRefs τ sig) (afterRegion (wdats m p c) (V c)) ∗ wR c)
  X c := iprop(∃ r, prngReg c r)
  Y c := iprop(∃ r, prngReg c r)
  Z c := unscopedRest (Ix := Unit) (Name := ℕ) (U := UR sig nD τ) (Lvl := ℕ) (cfgs p).spec c (fun b => V c (Proc.devRef .tc b))
  hentry c := by
    rw [ownSems0_none,
      show StableHlo.held (c.tc : Thread nD τ) (ucRefs τ sig) (V c) = unscopedBufs c (fun b => V c (Proc.devRef .tc b))
        from (unscopedBufs_held (Ix := Unit) (Name := ℕ) (U := UR sig nD τ) (Lvl := ℕ) c (V c)).symm]
    have hsplit := arrays_of_unscopedBufs (p := p) (pcfgs (F := F)) wadm (wdats m) kit.win kit.arr_whole c (hshare c)
      (fun b => V c (Proc.devRef .tc b)) (fun w => hA c w)
    iintro ⟨⟨Hub, Hp, HO⟩, -, -⟩
    ihave H := hsplit $$ Hub
    icases H with ⟨Ha, Hrest⟩
    imodintro
    isplitl [Ha]; · iexact Ha
    isplitr
    · unfold prefHeld
      iapply (show (BI.emp : sProp (MT nD τ sig Unit (Elt F) ℕ (UR sig nD τ) ℕ)) ⊢ bigSep (Finset.univ : Finset (Fin 0)) _ from by
        rw [show (Finset.univ : Finset (Fin 0)) = ∅ from rfl, BI.bigSep_empty])
      iempintro
    isplitl [HO]
    · unfold Dat.owesAt owesWithin
      rw [howed c 0]
      icases HO with ⟨%W, HO⟩; iexists W; isplitr; · ipureintro; exact fun _ _ => Or.inl (by rw [hrec c]; trivial)
      iexact HO
    isplitl [Hp]; · iexact Hp
    iexact Hrest
  hin c := (show _ ⊢ iprop(scopedRest (Ix := Unit) (Name := ℕ) (U := UR sig nD τ) (Lvl := ℕ) (Val := Elt F) (cfgs p).spec c ∗ ∃ r, prngReg c r) from by
    iintro ⟨Hp, -, Hr⟩
    isplitl [Hr] <;> iassumption).trans (hin c)
  hout c := (hout c).trans (by
    rw [ownSems0_none]
    iintro ⟨Hr, Hp⟩
    isplitl [Hp]; · iexact Hp
    isplitr; · iempintro
    iexact Hr)
  hexit c := by
    have hjoin := unscopedBufs_of_arrays (p := p) (pcfgs (F := F)) wadm (Ix := Unit) (Name := ℕ) (U := UR sig nD τ) (Lvl := ℕ)
      kit.win kit.arr_whole c (wdats m) (hshare c)
      (fun b => V c (Proc.devRef .tc b)) (fun b => afterRegion (wdats m p c) (V c) (Proc.devRef .tc b)) ((wdats m p c).arrAt · (cfgs p).N)
      (fun w => (afterRegion_arr (wdats m p c) (V c) kit.win.arr_inj w).symm)
      (fun b hb => afterRegion_of_not_arr (wdats m p c) (V c)
        fun w h => hb (h ▸ Finset.mem_image.mpr ⟨w, Finset.mem_univ _, rfl⟩))
    rw [show StableHlo.held (c.tc : Thread nD τ) (ucRefs τ sig) (afterRegion (wdats m p c) (V c)) = unscopedBufs c (fun b => afterRegion (wdats m p c) (V c) (Proc.devRef .tc b))
        from (unscopedBufs_held (Ix := Unit) (Name := ℕ) (U := UR sig nD τ) (Lvl := ℕ) c _).symm]
    iintro ⟨Ha, HO, Hp, Hrest⟩
    imodintro
    isplitl [Ha Hrest]
    · iapply hjoin; isplitl [Ha] <;> iassumption
    isplitl [Hp]; · iexact Hp
    unfold Dat.owesAt owesWithin
    rw [howed c (Fin.last _)]
    icases HO with ⟨%W, -, HO⟩; iexists W; iexact HO

/-- The decoder's call. -/
def wreg0 : RegionSeg (pcfgs (F := F)) wadm (wdats m) () defs₀ Variants.none wL wlv 0 :=
  wreg m 0 launch0 (W1 m) (fun c => (Decode.body_obligation (fun c b => W1 m c (Proc.devRef .tc b)) c).loose) (fun c => (dat0 m c).share_full fun _ => rfl) (fun _ _ => rfl) (fun _ => rfl)
    (fun c w => Decode.A_eq (fun c b => W1 m c (Proc.devRef .tc b)) c w) (fun _ => .rfl) (fun _ => .rfl)

/-- The quantiser's call. -/
def wreg1 : RegionSeg (pcfgs (F := F)) wadm (wdats m) () defs₀ Variants.none wL wlv 1 :=
  wreg m 1 launch1 (W3 m) (fun c => (q_body (fun c b => W3 m c (Proc.devRef .tc b)) c).loose) (fun c => (dat1 m c).share_full fun _ => rfl) (fun _ _ => rfl) (fun _ => rfl)
    (fun c w => qA_eq (fun c b => W3 m c (Proc.devRef .tc b)) c w) (fun c => q_in (fun c b => W3 m c (Proc.devRef .tc b)) c) (fun c => q_out (fun c b => W3 m c (Proc.devRef .tc b)) c)

/-- The weight gradient's call. -/
def wreg2 : RegionSeg (pcfgs (F := F)) wadm (wdats m) () defs₀ Variants.none wL wlv 2 :=
  wreg m 2 launch2 (W4 m) (fun c => (Dw.body_obligation (fun c b => W4 m c (Proc.devRef .tc b)) c).loose) (fun c => (dat2 m c).share_full fun _ => rfl) (fun _ _ => rfl) (fun _ => rfl)
    (fun c w => Dw.A_eq (fun c b => W4 m c (Proc.devRef .tc b)) c w) (fun _ => .rfl) (fun _ => .rfl)

theorem wfresh0 : ∀ op ∈ (hostOps0 : List (HloOp τ sig (Elt F))), op.fresh = ∅ := by
  intro _ h; (repeat (cases h with | head => rfl | tail _ h => ?_)); exact nomatch h
theorem wfresh1 : ∀ op ∈ (hostOps1 : List (HloOp τ sig (Elt F))), op.fresh = ∅ := by
  intro _ h; (repeat (cases h with | head => rfl | tail _ h => ?_)); exact nomatch h

def wseg0 : HostSeg (Name := ℕ) (U := UR sig nD τ) (pcfgs (F := F)) defs₀ Variants.none wL wlv :=
  HostSeg.ofOps _ _ _ _ _ (ucRefs τ sig) hostOps0
    (fun op h => sub_ucRefs op ((List.forall_iff_forall_mem.mp hostOps0_sub) op h)) wfresh0 (W0 m) wR
def wseg1 : HostSeg (Name := ℕ) (U := UR sig nD τ) (pcfgs (F := F)) defs₀ Variants.none wL wlv :=
  HostSeg.ofOps _ _ _ _ _ (ucRefs τ sig) hostOps1
    (fun op h => sub_ucRefs op ((List.forall_iff_forall_mem.mp hostOps1_sub) op h)) wfresh1 (W2 m) wR

/-- The program's steps. -/
abbrev wsegs : List (Seg (pcfgs (F := F)) wadm (wdats m) () defs₀ Variants.none wL wlv) :=
  [.host (wseg0 m), .region (wreg0 m), .host (wseg1 m), .region (wreg1 m), .region (wreg2 m)]

-- the kit's implicit arguments are found by unifying its conclusion with this one
set_option backward.isDefEq.respectTransparency.types false in
/-- Every fair execution of the program from any memory with zero counters terminates, with every unscoped buffer at
    what the steps leave and every counter at zero. -/
theorem wrun : θ_run defs (onTc (τ := τ) (main (F := F))) (s₀ m ρ)
    (fun r => (∀ c : Dev nD, ∀ b ∈ ucRefs τ sig, r.2.mem ((c.tc : Thread nD τ).1, b) = W5 m c b) ∧ r.2.sem = fun _ => 0) :=
  θ_run_regions_kit_sems (pcfgs (F := F)) wadm (wdats m) () cellOf_inj emb₁ defs₀ Variants.none wL wlv m ρ main (wsegs m)
    (fun c Q => by
      rewrite [main_chain c, Seg.run_eq_chain,
        show (wsegs m).map Seg.prog = [
          StableHlo.seq hostOps0,
          Prog.lift (.customCall (Pipeline.entry 0) ()),
          StableHlo.seq hostOps1,
          Prog.lift (.customCall (Pipeline.entry 1) ()),
          Prog.lift (.customCall (Pipeline.entry 2) ()) ] from rfl]
      dsimp (config := { failIfUnchanged := false }) only
      exact .rfl)
    (by simp only [wsegs, Seg.pipes_host, Seg.pipes_region, Seg.pipes_nil]; decide) (O₀ := 0) (hL := fun _ _ => rfl)
    (G := fun _ => iprop(emp)) (u₀ := initOf (cells cfgs cellOf_inj) (launchToks cfgs cellOf_inj))
    (hu₀ := by
      iintro Hu; imodintro
      isplitl [Hu]
      · iapply (show (ownU _ : sProp (MT nD τ sig Unit (Elt F) ℕ (UR sig nD τ) ℕ)) ⊢ BI.own (emb₁ (initOf (cells cfgs cellOf_inj) (launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c.tc : Thread nD τ) (ucRefs τ sig) (W0 m c) ∗ wR c))
    (Tₙ := fun c => StableHlo.held (c.tc : Thread nD τ) (ucRefs τ sig) (W5 m c))
    (hch := ⟨fun _ => .rfl, fun _ => .rfl, fun _ => .rfl, fun _ => .rfl, fun _ => .rfl, fun c =>
      (show iprop(StableHlo.held (c.tc : Thread nD τ) (ucRefs τ sig) (W5 m c)
          ∗ (∃ r, prngReg c r) ∗ ∃ W, owes (c.tc : Thread nD τ) (0 : CellTallies nD τ sig Unit) W) ⊢ (_ : sProp (MT nD τ sig Unit (Elt F) ℕ (UR sig nD τ) ℕ)) from by
        iintro ⟨Hh, -, HO⟩
        isplitl [Hh] <;> iassumption)⟩)
    (hinit := by
      refine initEach wL wlv fun c => ?_
      rw [show unscopedBufs c (fun b => m ((c.tc : Thread nD τ).loc b)) = StableHlo.held (c.tc : Thread nD τ) (ucRefs τ sig) (W0 m c)
          from unscopedBufs_held (Ix := Unit) (Name := ℕ) (U := UR sig nD τ) (Lvl := ℕ) c (W0 m c)]
      iintro ⟨⟨Hh, -, HO, -, Hp, -⟩, -⟩
      imodintro
      isplitl [Hh]; · iexact Hh
      isplitl [Hp]; · iexists _; iexact Hp
      iexists _; iexact HO)
    (QY := fun c s => ∀ b ∈ ucRefs τ sig, s.mem ((c.tc : Thread nD τ).1, b) = W5 m c b)
    (hfin := fun c s' => by
      unfold StableHlo.held
      iintro ⟨Hh, HSI⟩
      ihave Hr := (pointsTo_read_all (ucRefs τ sig) (fun b => ((c.tc : Thread nD τ).1, b)) (W5 m c) s') $$ [Hh HSI]
      · isplitl [Hh] <;> iassumption
      imodintro; iexact Hr)
    (hQ := fun _ h hz => ⟨h, funext fun g => hz g (.inr (by revert g; decide))⟩)

end Cert.KernelIdeal.Gen

end
-- ==== Proof.WholeFrame.lean ====
/- The whole program's frame: every argument ends as launched, every counter at zero. -/
module

public import proofs.«01_k».proof.Proof.WholeRun
public import proofs.«01_k».proof.Proof.Gen.KernelIdeal.Regions

@[expose] public section

set_option maxRecDepth 16384

noncomputable section

namespace Cert.KernelIdeal.Gen

open Idealize.ShloMosaic Idealize.ShloMosaic.TcCoe
open Idealize.SL Idealize.SL.Sem
open Idealize.ShloMosaic.Pipeline

variable {F : FTy → Type} [FloatOps F]

variable (m : (ℓ : Loc nD τ sig) → Buf (Elt F) ℓ) (ρ : Dev nD → PrngReg)

theorem W1_keeps (c : Dev nD) (r : Ref sig .tc) (h : r ∉ hostOps0_W) : W1 m c (Proc.devRef .tc r) = W0 m c (Proc.devRef .tc r) :=
  StableHlo.after_of_writes_sub hostOps0 _ hostOps0_writes h
theorem W2_keeps (c : Dev nD) (r : Ref sig .tc) (h : ∀ w, arrRef spec0 w = r → (cfg0.win w).isOut = false) :
    W2 m c (Proc.devRef .tc r) = W1 m c (Proc.devRef .tc r) :=
  afterRegion_keeps (dat0 m c) (W1 m c) winFacts0.arr_inj (fun w => Decode.A_eq (fun c b => W1 m c (Proc.devRef .tc b)) c w) r h
theorem W3_keeps (c : Dev nD) (r : Ref sig .tc) (h : r ∉ hostOps1_W) : W3 m c (Proc.devRef .tc r) = W2 m c (Proc.devRef .tc r) :=
  StableHlo.after_of_writes_sub hostOps1 _ hostOps1_writes h
theorem W4_keeps (c : Dev nD) (r : Ref sig .tc) (h : ∀ w, arrRef spec1 w = r → (cfg1.win w).isOut = false) :
    W4 m c (Proc.devRef .tc r) = W3 m c (Proc.devRef .tc r) :=
  afterRegion_keeps (dat1 m c) (W3 m c) winFacts1.arr_inj (fun w => qA_eq (fun c b => W3 m c (Proc.devRef .tc b)) c w) r h
theorem W5_keeps (c : Dev nD) (r : Ref sig .tc) (h : ∀ w, arrRef spec2 w = r → (cfg2.win w).isOut = false) :
    W5 m c (Proc.devRef .tc r) = W4 m c (Proc.devRef .tc r) :=
  afterRegion_keeps (dat2 m c) (W4 m c) winFacts2.arr_inj (fun w => Dw.A_eq (fun c b => W4 m c (Proc.devRef .tc b)) c w) r h

/-- A reference no step writes ends as launched. -/
theorem W5_arg (c : Dev nD) (r : Ref sig .tc) (h0 : r ∉ hostOps0_W) (h1 : ∀ w, arrRef spec0 w = r → (spec0 w).isOut = false) (h2 : r ∉ hostOps1_W)
    (h3 : ∀ w, arrRef spec1 w = r → (spec1 w).isOut = false) (h4 : ∀ w, arrRef spec2 w = r → (spec2 w).isOut = false) :
    W5 m c (Proc.devRef .tc r) = m ((c.tc : Thread nD τ).loc r) :=
  (W5_keeps m c r h4).trans <| (W4_keeps m c r h3).trans <| (W3_keeps m c r h2).trans <| (W2_keeps m c r h1).trans (W1_keeps m c r h0)

/-- The frame. -/
theorem wframe : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨(h.1 c _ (devRef_mem_ucRefs (b := main_arg0) rfl)).trans (W5_arg m c main_arg0 (by decide) (by decide) (by decide) (by decide) (by decide)),
     (h.1 c _ (devRef_mem_ucRefs (b := main_arg1) rfl)).trans (W5_arg m c main_arg1 (by decide) (by decide) (by decide) (by decide) (by decide)),
     (h.1 c _ (devRef_mem_ucRefs (b := main_arg2) rfl)).trans (W5_arg m c main_arg2 (by decide) (by decide) (by decide) (by decide) (by decide)),
     (h.1 c _ (devRef_mem_ucRefs (b := main_arg3) rfl)).trans (W5_arg m c main_arg3 (by decide) (by decide) (by decide) (by decide) (by decide)),
     (h.1 c _ (devRef_mem_ucRefs (b := main_arg4) rfl)).trans (W5_arg m c main_arg4 (by decide) (by decide) (by decide) (by decide) (by decide))⟩, h.2⟩)
    (wrun m ρ)

end Cert.KernelIdeal.Gen

end
-- ==== Proof.KernelFrame.lean ====
/- The kernel's frame before idealization, from the frame of its idealization. The idealization rewrote nothing, so the
   two programs are the same text over any reading of floats: the frame proved of one is the frame of the other. -/
module

public import proofs.«01_k».proof.Proof.WholeFrame
public import proofs.«01_k».proof.Proof.Gen.Kernel

@[expose] public section

set_option maxRecDepth 16384

noncomputable section

namespace Cert.Kernel.Gen

open Idealize.ShloMosaic Idealize.SL.Sem Idealize.ShloMosaic.TcCoe

variable {F : FTy → Type} [FloatOps F]

set_option maxHeartbeats 8000000 in
/-- The three bodies are the same, label by label. -/
theorem bodies_eq : defs₀ (F := F) = Cert.KernelIdeal.defs₀ (F := F) := by
  unfold defs₀ Cert.KernelIdeal.defs₀
  refine congrArg (Defs.onTc (nD := nD) (τ := τ) (sig := sig) (Λ := Λ₀)) (funext fun l => funext fun a => ?_)
  match l, a with
  | ⟨0, _⟩, (t, s) => rfl
  | ⟨1, _⟩, (t, s) => rfl
  | ⟨2, _⟩, (t, s) => rfl

/-- So are the body tables with the calls' pipelines, -/
theorem defs_eq : defs (F := F) = Cert.KernelIdeal.defs (F := F) := congrArg (Pipeline.defs (pcfgs (F := F))) bodies_eq

set_option maxHeartbeats 8000000 in
/-- and the host programs. -/
theorem main_eq : main (F := F) = Cert.KernelIdeal.main (F := F) := rfl

variable (m : (ℓ : Loc nD τ sig) → Buf (Elt F) ℓ) (ρ : Dev nD → PrngReg)

set_option maxHeartbeats 8000000 in
/-- The frame: every argument ends as launched, every counter at zero. -/
theorem wframe : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  rw [defs_eq, main_eq]
  exact Cert.KernelIdeal.Gen.wframe (F := F) m ρ

end Cert.Kernel.Gen

end
-- ==== Proof.Exponent.lean ====
/- The power of two a block of gradients is divided by, at the ideal instance. The kernel finds the biased exponent of a
   row's maximum by counting the powers of two above it and builds the scale and its inverse as float patterns; the
   reference takes the logarithm. Both are the same power of two for every value a block of finite gradients can have. -/
module

public import Idealize.ShloMosaic.PureOps.Ideal.Laws
public import Mathlib.Analysis.SpecialFunctions.Log.Basic
public import Mathlib.Analysis.SpecialFunctions.Pow.Real

@[expose] public section

noncomputable section

namespace Cert.Quant

open Idealize.ShloMosaic

/-- The float pattern whose exponent field is `k`, everything else zero. -/
def pat (k : ℕ) : BitVec 32 := BitVec.ofNat 32 k <<< 23

/-- A positive normal pattern, read by its exponent and fraction fields. -/
theorem ofBits_normal (b : BitVec 32) (e f : ℕ) (hx : (b.extractLsb' 23 8).toNat = e) (hf : (b.extractLsb' 0 23).toNat = f)
    (hn : (b.extractLsb' 31 1 == 1#1) = false) (h0 : 0 < e) (h1 : e < 255) :
    Ideal.ofBits .f32 b = ((((2 ^ 23 + f : ℕ) : ℝ) * (2 : ℝ) ^ ((e : ℤ) - 127 - 23) : ℝ) : EReal) := by
  unfold Ideal.ofBits Ideal.ieee
  simp only [hx, hf, show (8 + 23 : ℕ) = 31 from rfl, hn]
  rw [if_neg (by omega), if_neg (by omega)]
  refine EReal.coe_eq_coe_iff.mpr ?_
  simp only [Bool.false_eq_true, if_false, one_mul]
  norm_num

/-- The pattern with exponent field `k` is the power of two `k - 127`. -/
theorem ofBits_pat (k : ℕ) (h0 : 0 < k) (h1 : k < 255) : Ideal.ofBits .f32 (pat k) = (((2 : ℝ) ^ ((k : ℤ) - 127) : ℝ) : EReal) := by
  rw [ofBits_normal (pat k) k 0 ?_ ?_ ?_ h0 h1]
  · refine EReal.coe_eq_coe_iff.mpr ?_
    rw [show ((k : ℤ) - 127) = 23 + ((k : ℤ) - 127 - 23) from by ring, zpow_add₀ (by norm_num)]
    norm_num
  · simp only [pat, BitVec.extractLsb'_toNat, BitVec.toNat_shiftLeft, BitVec.toNat_ofNat, Nat.shiftLeft_eq, Nat.shiftRight_eq_div_pow]
    omega
  · simp only [pat, BitVec.extractLsb'_toNat, BitVec.toNat_shiftLeft, BitVec.toNat_ofNat, Nat.shiftLeft_eq, Nat.shiftRight_eq_div_pow]
    omega
  · rw [beq_eq_false_iff_ne]
    intro h
    have h' := congrArg BitVec.toNat h
    simp only [pat, BitVec.extractLsb'_toNat, BitVec.toNat_shiftLeft, BitVec.toNat_ofNat, Nat.shiftLeft_eq, Nat.shiftRight_eq_div_pow] at h'
    omega

theorem ofBits_pat_zero : Ideal.ofBits .f32 (pat 0) = 0 := by
  simp [pat, Ideal.ofBits, Ideal.ieee]

theorem ofBits_pat_top : Ideal.ofBits .f32 (pat 255) = ⊤ := by
  simp [pat, Ideal.ofBits, Ideal.ieee]

/-- The floor of the logarithm to the base two. -/
def lg (y : ℝ) : ℤ := ⌊Real.log y / Real.log 2⌋

theorem le_lg_iff {y : ℝ} (hy : 0 < y) (z : ℤ) : z ≤ lg y ↔ (2 : ℝ) ^ z ≤ y := by
  unfold lg
  rw [Int.le_floor, le_div_iff₀ (Real.log_pos (by norm_num)), ← Real.log_zpow, Real.log_le_log_iff (by positivity) hy]

theorem lg_lt_iff {y : ℝ} (hy : 0 < y) (z : ℤ) : lg y < z ↔ y < (2 : ℝ) ^ z := by
  rw [← not_le, le_lg_iff hy, not_le]

/-- The exponent field of a positive normal value. -/
def field (y : ℝ) : ℕ := if y < (2 : ℝ) ^ (-126 : ℤ) then 0 else (lg y + 127).toNat

theorem field_le {y : ℝ} (h1 : y < (2 : ℝ) ^ (120 : ℤ)) : field y ≤ 246 := by
  unfold field
  split
  · omega
  · rename_i h
    have hy : 0 < y := lt_of_lt_of_le (by positivity) (not_lt.mp h)
    have : lg y < 120 := (lg_lt_iff hy _).mpr h1
    omega

/-- A power of two lies above a value just when its exponent field is greater. -/
theorem lt_pat_iff {y : ℝ} (h0 : 0 ≤ y) (h1 : y < (2 : ℝ) ^ (120 : ℤ)) (k : ℕ) (hk : k < 256) :
    (y : EReal) < Ideal.ofBits .f32 (pat k) ↔ field y < k := by
  rcases Nat.eq_zero_or_pos k with rfl | hk0
  · rw [ofBits_pat_zero]
    constructor
    · intro h; exact absurd (EReal.coe_lt_coe_iff.mp (show (y : EReal) < ((0 : ℝ) : EReal) from h)) (not_lt.mpr h0)
    · intro h; omega
  by_cases hk1 : k = 255
  · subst hk1
    rw [ofBits_pat_top]
    have := field_le h1
    exact ⟨fun _ => by omega, fun _ => EReal.coe_lt_top y⟩
  · rw [ofBits_pat k hk0 (by omega), EReal.coe_lt_coe_iff]
    unfold field
    split
    · rename_i h
      refine ⟨fun _ => hk0, fun _ => lt_of_lt_of_le h ?_⟩
      exact zpow_le_zpow_right₀ (by norm_num) (by omega)
    · rename_i h
      have hy : 0 < y := lt_of_lt_of_le (by positivity) (not_lt.mp h)
      have hl : -126 ≤ lg y := (le_lg_iff hy _).mpr (not_lt.mp h)
      rw [← lg_lt_iff hy]
      omega

/-- How many of the 256 patterns lie above a value. -/
theorem card_above {y : ℝ} (h0 : 0 ≤ y) (h1 : y < (2 : ℝ) ^ (120 : ℤ)) :
    (Finset.univ.filter fun k : Fin 256 => (y : EReal) < Ideal.ofBits .f32 (pat k.val)).card = 255 - field y := by
  have e : (Finset.univ.filter fun k : Fin 256 => (y : EReal) < Ideal.ofBits .f32 (pat k.val))
      = Finset.Ioi (⟨field y, by have := field_le h1; omega⟩ : Fin 256) := by
    ext k
    simp only [Finset.mem_filter, Finset.mem_univ, true_and, Finset.mem_Ioi]
    rw [lt_pat_iff h0 h1 k.val k.isLt, Fin.lt_def]
  rw [e, Fin.card_Ioi]

/-- The exponent field the kernel uses: 126 in place of a zero field. -/
def used (y : ℝ) : ℕ := if field y = 0 then 126 else field y

/-- The reference's exponent: one more than the logarithm's floor, zero below the smallest normal value. -/
def refExp (y : EReal) : EReal :=
  if Ideal.ofBits .f32 0x00800000#32 ≤ y then
    Ideal.liftRound Int.floor (Ideal.div (Ideal.log y) (Ideal.log (Ideal.ofBits .f32 0x40000000#32))) + Ideal.ofBits .f32 0x3F800000#32
  else Ideal.ofBits .f32 0x00000000#32

theorem two : Ideal.ofBits .f32 0x40000000#32 = ((2 : ℝ) : EReal) := by
  have := ofBits_pat 128 (by omega) (by omega)
  rw [show pat 128 = 0x40000000#32 from by decide] at this
  rw [this]; norm_num

theorem one : Ideal.ofBits .f32 0x3F800000#32 = ((1 : ℝ) : EReal) := by
  have := ofBits_pat 127 (by omega) (by omega)
  rw [show pat 127 = 0x3F800000#32 from by decide] at this
  rw [this]; norm_num

theorem tiny : Ideal.ofBits .f32 0x00800000#32 = (((2 : ℝ) ^ (-126 : ℤ) : ℝ) : EReal) := by
  have := ofBits_pat 1 (by omega) (by omega)
  rw [show pat 1 = 0x00800000#32 from by decide] at this
  rw [this]; norm_num

/-- The reference's exponent is the used field less its bias of 126. -/
theorem refExp_eq {y : ℝ} (h0 : 0 ≤ y) : refExp (y : EReal) = (((used y : ℤ) - 126 : ℤ) : ℝ) := by
  unfold refExp
  have hle : Ideal.ofBits .f32 0x00800000#32 ≤ (y : EReal) ↔ (2 : ℝ) ^ (-126 : ℤ) ≤ y := by rw [tiny, EReal.coe_le_coe_iff]
  by_cases h : (2 : ℝ) ^ (-126 : ℤ) ≤ y
  · rw [if_pos (hle.mpr h)]
    have hy : 0 < y := lt_of_lt_of_le (by positivity) h
    have hl : -126 ≤ lg y := (le_lg_iff hy _).mpr h
    have hu : used y = (lg y + 127).toNat := by
      unfold used field
      rw [if_neg (not_lt.mpr h), if_neg (by omega)]
    have hlog2 : Real.log 2 ≠ 0 := (Real.log_pos (by norm_num)).ne'
    have e1 : Ideal.log (y : EReal) = (Real.log y : EReal) := by
      show (if y ≤ 0 then (⊥ : EReal) else (Real.log y : EReal)) = _
      rw [if_neg (not_le.mpr hy)]
    have e2 : Ideal.log ((2 : ℝ) : EReal) = (Real.log 2 : EReal) := by
      show (if (2 : ℝ) ≤ 0 then (⊥ : EReal) else (Real.log 2 : EReal)) = _
      rw [if_neg (by norm_num)]
    have e3 : Ideal.div (Real.log y : EReal) (Real.log 2 : EReal) = ((Real.log y / Real.log 2 : ℝ) : EReal) := by
      unfold Ideal.div
      rw [if_neg (by exact_mod_cast hlog2), div_eq_mul_inv, EReal.coe_mul, EReal.coe_inv]
    have e4 : ⌊Real.log y / Real.log 2⌋ = lg y := rfl
    rw [two, e1, e2, e3, Ideal.liftRound_coe, e4, one, ← EReal.coe_add, hu]
    congr 1
    rw [Int.toNat_of_nonneg (by omega)]
    push_cast
    ring
  · rw [if_neg (mt hle.mp h)]
    have hu : used y = 126 := by
      unfold used field
      rw [if_pos (not_le.mp h)]
      rfl
    rw [hu]
    simp

theorem used_pos (y : ℝ) : 0 < used y := by unfold used; split <;> omega
theorem used_le {y : ℝ} (h1 : y < (2 : ℝ) ^ (120 : ℤ)) : used y ≤ 246 := by
  have := field_le h1; unfold used; split <;> omega

/-- The scale: the pattern with the next exponent field is two to the reference's exponent. -/
theorem scale_eq {y : ℝ} (h0 : 0 ≤ y) (h1 : y < (2 : ℝ) ^ (120 : ℤ)) :
    Ideal.ofBits .f32 (pat (used y + 1)) = Ideal.exp2 (refExp (y : EReal)) := by
  have := used_le h1
  rw [refExp_eq h0, Ideal.exp2_coe, ofBits_pat _ (by omega) (by omega)]
  congr 1
  rw [Real.rpow_eq_pow, Real.rpow_intCast]
  congr 1
  push_cast
  ring

/-- The inverse scale: the reflected exponent field is two to minus the reference's exponent. -/
theorem inv_eq {y : ℝ} (h0 : 0 ≤ y) (h1 : y < (2 : ℝ) ^ (120 : ℤ)) :
    Ideal.ofBits .f32 (pat (253 - used y)) = Ideal.exp2 (Ideal.ofBits .f32 0x00000000#32 - refExp (y : EReal)) := by
  have := used_le h1
  have := used_pos y
  rw [refExp_eq h0, Ideal.ofBits_zero_f32, zero_sub, ← EReal.coe_neg, Ideal.exp2_coe, ofBits_pat _ (by omega) (by omega)]
  congr 1
  rw [Real.rpow_eq_pow, ← Int.cast_neg, Real.rpow_intCast]
  congr 1
  omega

/-- The factor 1/57344, as the float constant both programs use. -/
theorem factor_nonneg_lt : ∃ f : ℝ, 0 ≤ f ∧ f < (2 : ℝ) ^ (-15 : ℤ) ∧ Ideal.ofBits .f32 0x37924925#32 = (f : EReal) := by
  refine ⟨9586981 * (2 : ℝ) ^ (-39 : ℤ), by positivity, by norm_num, ?_⟩
  rw [ofBits_normal 0x37924925#32 111 1198373 (by decide) (by decide) (by decide) (by omega) (by omega)]
  refine EReal.coe_eq_coe_iff.mpr ?_
  norm_num

end Cert.Quant

end
-- ==== Proof.QuantValue.lean ====
/- The quantiser on one row of a block, at the ideal instance: what the kernel's block computes at an index. -/
module

public import proofs.«01_k».proof.Proof.QuantBlk
public import proofs.«01_k».proof.Proof.Exponent
public import Idealize.ShloMosaic.Lib.Pointwise
public import Idealize.ShloMosaic.Lib.WordSum

@[expose] public section

noncomputable section

namespace Cert.Quant

open Idealize.ShloMosaic

/-- The largest magnitude of 128 values. -/
def rowMax (f : Fin 128 → EReal) : EReal := Finset.univ.fold max (Ideal.ofBits .f32 0xFF800000#32) fun k => max (f k) (-f k)

/-- The reference's exponent of 128 values. -/
def rowExp (f : Fin 128 → EReal) : EReal := refExp (rowMax f * Ideal.ofBits .f32 0x37924925#32)

/-- The scale of 128 values. -/
def scale (f : Fin 128 → EReal) : EReal := Ideal.exp2 (rowExp f)

/-- The code of value `k` of 128. -/
def code (f : Fin 128 → EReal) (k : Fin 128) : EReal :=
  min (Ideal.ofBits .f32 0x47600000#32) (max (Ideal.ofBits .f32 0xC7600000#32) (f k * Ideal.exp2 (Ideal.ofBits .f32 0x00000000#32 - rowExp f)))

/-- Value `k` of 128 after quantising. -/
def deq (f : Fin 128 → EReal) (k : Fin 128) : EReal := code f k * scale f

open Cert.KernelIdeal Cert.KernelIdeal.Gen

/-- Row `r` of a block. -/
def row (x : Vec Ideal S128x128 .bf16) (r : Fin 128) (k : Fin 128) : EReal := x (ix2 r k)

/-- A count of true comparisons, as a word. -/
theorem fold_count (p : Fin 256 → Prop) [DecidablePred p] :
    (Finset.univ : Finset (Fin 256)).fold IntOp.addi (0#32) (fun k => BitVec.setWidth 32 (BitVec.ofBool (decide (p k))))
      = BitVec.ofNat 32 (Finset.univ.filter p).card := by
  apply BitVec.eq_of_toNat_eq
  have e : (Finset.univ : Finset (Fin 256)).fold IntOp.addi (0#32) (fun k => BitVec.setWidth 32 (BitVec.ofBool (decide (p k))))
      = ∑ k : Fin 256, BitVec.setWidth 32 (BitVec.ofBool (decide (p k))) := rfl
  have t : ∀ k, (BitVec.setWidth 32 (BitVec.ofBool (decide (p k)))).toNat = if p k then 1 else 0 := fun k => by
    by_cases h : p k <;> simp [h]
  have c : (Finset.univ.filter p).card ≤ 256 := (Finset.card_le_univ _).trans (by simp)
  have s : ∑ k : Fin 256, (BitVec.setWidth 32 (BitVec.ofBool (decide (p k)))).toNat = (Finset.univ.filter p).card := by
    rw [Finset.card_filter]; exact Finset.sum_congr rfl fun k _ => t k
  rw [e, WordSum.toNat_sum _ _ (by rw [s]; omega), s, BitVec.toNat_ofNat]
  omega

theorem used_word (n : ℕ) (hn : n ≤ 246) :
    Scalar.select (IntOp.ori (IntOp.cmpi .eq (IntOp.subi 255#32 (BitVec.ofNat 32 (255 - n))) 0#32)
      (IntOp.cmpi .eq (IntOp.subi 255#32 (BitVec.ofNat 32 (255 - n))) 255#32)) (126#32) (IntOp.subi 255#32 (BitVec.ofNat 32 (255 - n)))
      = BitVec.ofNat 32 (if n = 0 then 126 else n) := by
  revert n; decide +kernel

/-- The exponent field the kernel finds for a row. -/
theorem pay6_apply (x : Vec Ideal S128x128 .bf16) (r : Fin 128) {y : ℝ} (h0 : 0 ≤ y) (h1 : y < (2 : ℝ) ^ (120 : ℤ))
    (hy : rowMax (row x r) * Ideal.ofBits .f32 0x37924925#32 = (y : EReal)) :
    k1_pay6 x (ix2 r 0) = BitVec.ofNat 32 (used y) := by
  pointwise [k1_pay6, k1_pay5]
  refine Eq.trans (congrArg (fun n : BitVec 32 => Scalar.select (IntOp.ori (IntOp.cmpi .eq (IntOp.subi 255#32 n) 0#32)
    (IntOp.cmpi .eq (IntOp.subi 255#32 n) 255#32)) (126#32) (IntOp.subi 255#32 n)) ?_) (used_word (field y) (field_le h1))
  rw [← card_above h0 h1, ← fold_count (fun k : Fin 256 => (y : EReal) < Ideal.ofBits .f32 (pat k.val))]
  congr 1
  funext k
  exact congrArg (fun v : EReal => BitVec.setWidth 32 (BitVec.ofBool (decide (v < Ideal.ofBits .f32 (pat k.val))))) hy

theorem pay7_apply (x : Vec Ideal S128x128 .bf16) (r : Fin 128) {n : ℕ} (h : k1_pay6 x (ix2 r 0) = BitVec.ofNat 32 n) :
    (k1_pay7 x : FVec Ideal S128x1 .f32) (ix2 r 0) = Ideal.ofBits .f32 (pat (n + 1)) := by
  pointwise [k1_pay7]
  rw [h]
  have e : IntOp.shli ArithUnit.vector (IntOp.addi (BitVec.ofNat 32 n) 1#32) 23#32 = pat (n + 1) := by
    unfold pat
    rw [BitVec.ofNat_add]
    rfl
  rw [e]

theorem pay8_apply (x : Vec Ideal S128x128 .bf16) (r k : Fin 128) {n : ℕ} (h : k1_pay6 x (ix2 r 0) = BitVec.ofNat 32 n) (hn : n ≤ 246) :
    (k1_pay8 x : FVec Ideal S128x128 .bf16) (ix2 r k) = row x r k * Ideal.ofBits .f32 (pat (253 - n)) := by
  pointwise [k1_pay8, k1_pay5]
  rw [h]
  have e : IntOp.shli ArithUnit.vector (IntOp.subi (253#32) (BitVec.ofNat 32 n)) 23#32 = pat (253 - n) := by
    clear h
    revert n; decide +kernel
  rw [e]
  rfl

/-- The two spellings of the largest code and of the smallest. -/
theorem top_eq : Ideal.ofBits .bf16 0x4760#16 = Ideal.ofBits .f32 0x47600000#32 := by
  rw [ofBits_normal 0x47600000#32 142 6291456 (by decide) (by decide) (by decide) (by omega) (by omega)]
  unfold Ideal.ofBits Ideal.ieee
  have h1 : ((0x4760#16 : BitVec 16).extractLsb' 7 8).toNat = 142 := by decide
  have h2 : ((0x4760#16 : BitVec 16).extractLsb' 0 7).toNat = 96 := by decide
  have h3 : ((0x4760#16 : BitVec 16).extractLsb' (8 + 7) 1 == 1#1) = false := by decide
  simp only [h1, h2, h3]
  rw [if_neg (by omega), if_neg (by omega)]
  refine EReal.coe_eq_coe_iff.mpr ?_
  norm_num

theorem bot_eq : Ideal.ofBits .bf16 0xC760#16 = Ideal.ofBits .f32 0xC7600000#32 := by
  unfold Ideal.ofBits Ideal.ieee
  have h1 : ((0xC760#16 : BitVec 16).extractLsb' 7 8).toNat = 142 := by decide
  have h2 : ((0xC760#16 : BitVec 16).extractLsb' 0 7).toNat = 96 := by decide
  have h3 : ((0xC760#16 : BitVec 16).extractLsb' (8 + 7) 1 == 1#1) = true := by decide
  have k1 : ((0xC7600000#32 : BitVec 32).extractLsb' 23 8).toNat = 142 := by decide
  have k2 : ((0xC7600000#32 : BitVec 32).extractLsb' 0 23).toNat = 6291456 := by decide
  have k3 : ((0xC7600000#32 : BitVec 32).extractLsb' (8 + 23) 1 == 1#1) = true := by decide
  simp only [h1, h2, h3, k1, k2, k3]
  rw [if_neg (by omega), if_neg (by omega)]
  refine EReal.coe_eq_coe_iff.mpr ?_
  norm_num

theorem pay9_apply (x : FVec Ideal S128x128 .bf16) (r k : Fin 128) :
    (k1_pay9 x : FVec Ideal S128x128 .fp8e5m2) (ix2 r k)
      = min (Ideal.ofBits .f32 0x47600000#32) (max (Ideal.ofBits .f32 0xC7600000#32) (x (ix2 r k))) := by
  pointwise [k1_pay9]
  rw [top_eq, bot_eq, min_comm, max_comm]

theorem pay10_apply (s : FVec Ideal S128x1 .f32) (x : FVec Ideal S128x128 .bf16) (r k : Fin 128) :
    (k1_pay10 s x : FVec Ideal S128x128 .bf16) (ix2 r k) = (k1_pay9 x : FVec Ideal S128x128 .fp8e5m2) (ix2 r k) * s (ix2 r 0) := by
  pointwise [k1_pay10]

/-- The magnitudes of a row of finite values, times the factor, stay small. -/
def Small (f : Fin 128 → EReal) : Prop :=
  ∃ y : ℝ, 0 ≤ y ∧ y < (2 : ℝ) ^ (120 : ℤ) ∧ rowMax f * Ideal.ofBits .f32 0x37924925#32 = (y : EReal)

/-- A row whose magnitudes are at most a bound has its largest one between zero and the bound. -/
theorem rowMax_le (f : Fin 128 → EReal) (b : EReal) (hb : 0 ≤ b) (h : ∀ k, max (f k) (-f k) ≤ b) : 0 ≤ rowMax f ∧ rowMax f ≤ b := by
  unfold rowMax
  constructor
  · refine Finset.le_fold_max _ |>.mpr (Or.inr ⟨0, Finset.mem_univ _, ?_⟩)
    rcases le_total 0 (f 0) with h | h
    · exact le_max_of_le_left h
    · exact le_max_of_le_right (by simpa using EReal.neg_le_neg_iff.mpr h)
  · refine Finset.fold_max_le _ |>.mpr ⟨?_, fun k _ => h k⟩
    have : Ideal.ofBits .f32 0xFF800000#32 = ⊥ := by simp [Ideal.ofBits, Ideal.ieee]
    rw [this]; exact bot_le

/-- The scale of a row. -/
theorem qScale_apply (x : Vec Ideal S128x128 .bf16) (r : Fin 128) (h : Small (row x r)) :
    (qScale x : FVec Ideal S128x1 .f32) (ix2 r 0) = scale (row x r) := by
  obtain ⟨y, h0, h1, hy⟩ := h
  unfold qScale scale rowExp
  rw [pay7_apply x r (pay6_apply x r h0 h1 hy), scale_eq h0 h1, hy]

/-- The codes of a row. -/
theorem qCodes_apply (x : Vec Ideal S128x128 .bf16) (r k : Fin 128) (h : Small (row x r)) :
    (qCodes x : FVec Ideal S128x128 .fp8e5m2) (ix2 r k) = code (row x r) k := by
  obtain ⟨y, h0, h1, hy⟩ := h
  unfold qCodes code rowExp
  rw [pay9_apply, pay8_apply x r k (pay6_apply x r h0 h1 hy) (used_le h1), inv_eq h0 h1, hy]

/-- A row dequantised. -/
theorem qDeq_apply (x : Vec Ideal S128x128 .bf16) (r k : Fin 128) (h : Small (row x r)) :
    (qDeq x : FVec Ideal S128x128 .bf16) (ix2 r k) = deq (row x r) k := by
  unfold qDeq deq
  rw [pay10_apply]
  exact congrArg₂ (· * ·) (qCodes_apply x r k h) (qScale_apply x r h)

end Cert.Quant

end
-- ==== Proof.QuantTile.lean ====
/- The quantiser on one 512×1792 tile of the gradient, at the ideal instance: the codes, the dequantised values and the
   scale columns it leaves are the quantiser's on the rows' blocks of 128, read from the whole gradient. -/
module

public import proofs.«01_k».proof.Proof.QuantRegion
public import proofs.«01_k».proof.Proof.QuantValue

@[expose] public section

noncomputable section

namespace Cert.Quant

open Idealize.ShloMosaic

/-- The gradient, by token and feature. -/
abbrev Grad := Fin 16384 → Fin 14336 → EReal

/-- The 128 values of a token's block `n`. -/
def blk (D : Grad) (t : Fin 16384) (n : ℕ) (k : Fin 128) : EReal := D t ⟨(128 * n + k.val) % 14336, Nat.mod_lt _ (by decide)⟩

/-- The codes, the scales and the dequantised gradient. -/
def codeAt (D : Grad) (t : Fin 16384) (j : Fin 14336) : EReal := code (blk D t (j.val / 128)) ⟨j.val % 128, Nat.mod_lt _ (by decide)⟩
def scaleAt (D : Grad) (t : Fin 16384) (n : Fin 112) : EReal := scale (blk D t n.val)
def deqAt (D : Grad) (t : Fin 16384) (j : Fin 14336) : EReal := deq (blk D t (j.val / 128)) ⟨j.val % 128, Nat.mod_lt _ (by decide)⟩

open Cert.KernelIdeal Cert.KernelIdeal.Gen

/-- The two spellings of an index of rank two. -/
theorem vix2 {n0 n1 : ℕ} (a : Fin n0) (b : Fin n1) : (ValueIdx.ix2 a b : (⟨2, ![n0, n1]⟩ : Shape).Idx) = ix2 a b := by
  funext i; fin_cases i <;> rfl

/-- A tile is the gradient's rows from `512 T` and columns from `1792 p`. -/
def IsTile (D : Grad) (x : Vec Ideal S512x1792 .bf16) (T p : ℕ) : Prop :=
  ∀ (a : Fin 512) (b : Fin 1792) (h0 : 512 * T + a.val < 16384) (h1 : 1792 * p + b.val < 14336),
    x (ix2 a b) = D ⟨512 * T + a.val, h0⟩ ⟨1792 * p + b.val, h1⟩

variable {D : Grad} {x : Vec Ideal S512x1792 .bf16} {T p : ℕ}

/-- A row of a tile's block is a block of the token's gradient. -/
theorem tile_row (hx : IsTile D x T p) (hp : p < 8) (a : Fin 512) (n : ℕ) (hn : n < 14) (h0 : 512 * T + a.val < 16384) :
    row (blockLd x (a.val / 128) n) ⟨a.val % 128, Nat.mod_lt _ (by decide)⟩ = blk D ⟨512 * T + a.val, h0⟩ (14 * p + n) := by
  funext k
  have hk : k.val < 128 := k.isLt
  have ha : a.val < 512 := a.isLt
  have e : row (blockLd x (a.val / 128) n) ⟨a.val % 128, Nat.mod_lt _ (by decide)⟩ k = x (ix2 a ⟨128 * n + k.val, by omega⟩) := by
    show x _ = x _
    congr 1
    funext i
    fin_cases i
    · apply Fin.ext; show 128 * (a.val / 128 % 4) + 1 * (a.val % 128) = a.val; omega
    · apply Fin.ext; show 128 * (n % 14) + 1 * k.val = 128 * n + k.val; omega
  rw [e, hx a _ h0 (by dsimp only; omega)]
  unfold blk
  congr 1
  apply Fin.ext
  show 1792 * p + (128 * n + k.val) = (128 * (14 * p + n) + k.val) % 14336
  omega

theorem at2_eq (a b : ℕ) : at2 a b = ix2 ⟨a % 128, Nat.mod_lt _ (by decide)⟩ ⟨b % 128, Nat.mod_lt _ (by decide)⟩ := by
  unfold at2; rw [vix2]

/-- The tile's codes. -/
theorem codesF_apply (hx : IsTile D x T p) (hp : p < 8) (hS : ∀ t n, Small (blk D t n)) (a : Fin 512) (b : Fin 1792)
    (h0 : 512 * T + a.val < 16384) (h1 : 1792 * p + b.val < 14336) :
    (codesF x : FVec Ideal S512x1792 .fp8e5m2) (ix2 a b) = codeAt D ⟨512 * T + a.val, h0⟩ ⟨1792 * p + b.val, h1⟩ := by
  have hb : b.val < 1792 := b.isLt
  have hr := tile_row hx hp a (b.val / 128) (by omega) h0
  show qCodes (blockLd x (a.val / 128) (b.val / 128)) (at2 a.val b.val) = _
  rw [at2_eq, qCodes_apply _ _ _ (by rw [hr]; exact hS _ _), hr]
  unfold codeAt
  congr 1
  · show blk D _ (14 * p + b.val / 128) = blk D _ ((1792 * p + b.val) / 128)
    congr 1; omega
  · apply Fin.ext; show b.val % 128 = (1792 * p + b.val) % 128; omega

/-- The tile dequantised. -/
theorem deqF_apply (hx : IsTile D x T p) (hp : p < 8) (hS : ∀ t n, Small (blk D t n)) (a : Fin 512) (b : Fin 1792)
    (h0 : 512 * T + a.val < 16384) (h1 : 1792 * p + b.val < 14336) :
    (deqF x : FVec Ideal S512x1792 .bf16) (ix2 a b) = deqAt D ⟨512 * T + a.val, h0⟩ ⟨1792 * p + b.val, h1⟩ := by
  have hb : b.val < 1792 := b.isLt
  have hr := tile_row hx hp a (b.val / 128) (by omega) h0
  show qDeq (blockLd x (a.val / 128) (b.val / 128)) (at2 a.val b.val) = _
  rw [at2_eq, qDeq_apply _ _ _ (by rw [hr]; exact hS _ _), hr]
  unfold deqAt
  congr 1
  · show blk D _ (14 * p + b.val / 128) = blk D _ ((1792 * p + b.val) / 128)
    congr 1; omega
  · apply Fin.ext; show b.val % 128 = (1792 * p + b.val) % 128; omega

/-- The first `n` column updates of a row group, at an entry. -/
theorem rowScales_apply (l : Vec Ideal S128x112 .f32) (r p : ℕ) (hp : p < 8) (a : Fin 128) (y : Fin 112) : ∀ n, n ≤ 14 →
    (rowScales (BitVec.ofNat 32 p) x l r n : FVec Ideal S128x112 .f32) (ix2 a y)
      = if 14 * p ≤ y.val ∧ y.val < 14 * p + n then (qScale (blockLd x r (y.val - 14 * p)) : FVec Ideal S128x1 .f32) (ix2 a 0) else l (ix2 a y)
  | 0, _ => by
    rw [if_neg (by omega)]
    unfold rowScales
    pointwise [k1_pay4]
  | n + 1, hn => by
    have ih := rowScales_apply l r p hp a y n (by omega)
    have hy : y.val < 112 := y.isLt
    unfold rowScales
    have hc : Scalar.addi (Scalar.muli (BitVec.ofNat 32 p) 14#32) (BitVec.ofNat 32 n) = BitVec.ofNat 32 (14 * p + n) := by
      show BitVec.ofNat 32 p * 14#32 + BitVec.ofNat 32 n = _
      apply BitVec.eq_of_toNat_eq
      simp only [BitVec.toNat_add, BitVec.toNat_mul, BitVec.toNat_ofNat]
      omega
    rw [hc]
    pointwise
    rw [ih]
    have hcmp : IntOp.cmpi .eq (BitVec.ofNat 32 y.val) (BitVec.ofNat 32 (14 * p + n)) = BitVec.ofBool (decide (y.val = 14 * p + n)) := by
      show BitVec.ofBool (BitVec.ofNat 32 y.val == BitVec.ofNat 32 (14 * p + n)) = _
      congr 1
      rw [Bool.eq_iff_iff, beq_iff_eq, decide_eq_true_iff]
      constructor
      · intro h
        have := congrArg BitVec.toNat h
        simp only [BitVec.toNat_ofNat] at this
        omega
      · intro h; rw [h]
    rw [hcmp]
    by_cases h : y.val = 14 * p + n
    · have e : y.val - 14 * p = n := by omega
      have h' : 14 * p ≤ y.val ∧ y.val < 14 * p + (n + 1) := by omega
      rw [decide_eq_true h, if_pos h', e]
      rfl
    · rw [decide_eq_false h]
      show (if 14 * p ≤ y.val ∧ y.val < 14 * p + n then _ else _) = _
      by_cases h' : 14 * p ≤ y.val ∧ y.val < 14 * p + n
      · rw [if_pos h', if_pos (by omega)]
      · rw [if_neg h', if_neg (by omega)]

/-- A tile's update of the scale block: its fourteen columns are the scales of its blocks, the others stay. -/
theorem scalesF_apply (hx : IsTile D x T p) (hp : p < 8) (hS : ∀ t n, Small (blk D t n)) (s : Vec Ideal S512x112 .f32)
    (a : Fin 512) (y : Fin 112) (h0 : 512 * T + a.val < 16384) :
    (scalesF (BitVec.ofNat 32 p) x s : FVec Ideal S512x112 .f32) (ix2 a y)
      = if 14 * p ≤ y.val ∧ y.val < 14 * p + 14 then scaleAt D ⟨512 * T + a.val, h0⟩ y else s (ix2 a y) := by
  have hy : y.val < 112 := y.isLt
  show (rowScales (BitVec.ofNat 32 p) x (rowsLd s (a.val / 128)) (a.val / 128) 14 : FVec Ideal S128x112 .f32)
    (ValueIdx.ix2 ⟨a.val % 128, Nat.mod_lt _ (by decide)⟩ y) = _
  rw [vix2, rowScales_apply _ _ _ hp _ _ 14 le_rfl]
  by_cases h : 14 * p ≤ y.val ∧ y.val < 14 * p + 14
  · rw [if_pos h, if_pos h]
    have hr := tile_row hx hp a (y.val - 14 * p) (by omega) h0
    rw [qScale_apply _ _ (by rw [hr]; exact hS _ _), hr]
    unfold scaleAt
    congr 2; omega
  · rw [if_neg h, if_neg h]
    show s _ = s _
    congr 1
    funext i
    have ha : a.val < 512 := a.isLt
    fin_cases i
    · apply Fin.ext; show 128 * (a.val / 128 % 4) + 1 * (a.val % 128) = a.val; omega
    · apply Fin.ext; show 0 + 1 * y.val = y.val; omega

end Cert.Quant

end
-- ==== Proof.QuantDx.lean ====
/- The input gradient of one tile of tokens and one tile of features at an entry: the eight partial products are one
   contraction over all the features of the output. -/
module

public import proofs.«01_k».proof.Proof.QuantTile

@[expose] public section

noncomputable section

namespace Cert.Quant

open Idealize.ShloMosaic Cert.KernelIdeal Cert.KernelIdeal.Gen

/-- An 8-bit integer as an extended real. -/
abbrev ofI8 (b : BitVec 8) : EReal := ((b.toInt : ℝ) : EReal)

/-- The input gradient of an entry: zero where the activation was clipped, the contraction times the layer's scale elsewhere. -/
def gate (x : BitVec 8) (s g : EReal) : EReal := Scalar.select (IntOp.cmpi .eq (IntOp.absi (x.signExtend 32)) 127#32) (Ideal.ofBits .f32 0x00000000#32) (s * g)

variable (w : Vec Ideal S512x14336 .i8) (d : ℕ → Vec Ideal S1x1x512x1792 .bf16)

/-- One partial product. -/
def part (k : ℕ) (a b : Fin 512) : EReal :=
  ∑ j : Fin 1792, (d k : FVec Ideal S1x1x512x1792 .bf16) (ix4 0 0 a j) * ofI8 ((wLd w k : IVec S512x1792 8) (ix2 b j))

theorem pay949_apply (v : Vec Ideal S512x1792 .i8) (b : Fin 512) (j : Fin 1792) :
    (k1_pay949 v : FVec Ideal S512x1792 .bf16) (ix2 b j) = ofI8 ((v : IVec S512x1792 8) (ix2 b j)) := by
  pointwise [k1_pay949]
  rfl

theorem pay947_apply (a b : Fin 512) :
    (k1_pay947 (wLd w 0) (d 0) : FVec Ideal S512x512 .f32) (ix2 a b) = part w d 0 a b := by
  unfold part
  pointwise [k1_pay947]
  rfl

theorem dxOf_apply (g : EReal) (x : Vec Ideal S512x512 .i8) (a b : Fin 512) :
    (dxOf (F := Ideal) g w x d : FVec Ideal S512x512 .bf16) (ix2 a b)
      = gate ((x : IVec S512x512 8) (ix2 a b)) (part w d 0 a b + part w d 1 a b + part w d 2 a b + part w d 3 a b
          + part w d 4 a b + part w d 5 a b + part w d 6 a b + part w d 7 a b) g := by
  rw [← pay947_apply]
  unfold dxOf gate part
  simp only [← pay949_apply]
  pointwise [k1_pay950, k1_pay948]
  simp only [pay949_apply]
  rfl

/-- One product of the contraction, at a natural number (zero beyond the contracted axis). -/
def dxTerm (E : Fin 14336 → EReal) (W : Fin 14336 → EReal) (n : ℕ) : EReal := if h : n < 14336 then E ⟨n, h⟩ * W ⟨n, h⟩ else 0

/-- A partial product is 1792 terms of the contraction. -/
theorem part_terms (E : Fin 14336 → EReal) (k : ℕ) (hk : k < 8) (a b : Fin 512)
    (hd : ∀ (j : Fin 1792) (h : 1792 * k + j.val < 14336), (d k : FVec Ideal S1x1x512x1792 .bf16) (ix4 0 0 a j) = E ⟨1792 * k + j.val, h⟩) :
    part w d k a b = ∑ i ∈ Finset.range 1792, dxTerm E (fun j => ofI8 ((w : IVec S512x14336 8) (ix2 b j))) (1792 * k + i) := by
  rw [← Fin.sum_univ_eq_sum_range (fun i => dxTerm E (fun j => ofI8 ((w : IVec S512x14336 8) (ix2 b j))) (1792 * k + i))]
  unfold part
  refine Finset.sum_congr rfl fun j _ => ?_
  have hj : j.val < 1792 := j.isLt
  have h : 1792 * k + j.val < 14336 := by omega
  rw [hd j h, dxTerm, dif_pos h]
  congr 2
  show w _ = w _
  congr 1
  funext i
  fin_cases i
  · apply Fin.ext; show 0 + 1 * b.val = b.val; omega
  · apply Fin.ext; show 1792 * (k % 8) + 1 * j.val = 1792 * k + j.val; omega

/-- A range in eight equal runs. -/
theorem sum_eight (f : ℕ → EReal) (n N : ℕ) (hN : N = 8 * n) :
    ∑ i ∈ Finset.range N, f i = (∑ i ∈ Finset.range n, f (n * 0 + i)) + (∑ i ∈ Finset.range n, f (n * 1 + i))
      + (∑ i ∈ Finset.range n, f (n * 2 + i)) + (∑ i ∈ Finset.range n, f (n * 3 + i)) + (∑ i ∈ Finset.range n, f (n * 4 + i))
      + (∑ i ∈ Finset.range n, f (n * 5 + i)) + (∑ i ∈ Finset.range n, f (n * 6 + i)) + (∑ i ∈ Finset.range n, f (n * 7 + i)) := by
  have h : ∀ k : ℕ, ∑ i ∈ Finset.range (n * (k + 1)), f i = (∑ i ∈ Finset.range (n * k), f i) + ∑ i ∈ Finset.range n, f (n * k + i) := by
    intro k; rw [Nat.mul_succ, Finset.sum_range_add]
  rw [hN, Nat.mul_comm, h 7, h 6, h 5, h 4, h 3, h 2, h 1, h 0]
  simp

/-- The gradient of an entry of the tile, as one contraction over the 14336 features. -/
theorem dxOf_value (g : EReal) (x : Vec Ideal S512x512 .i8) (a b : Fin 512) (E : Fin 14336 → EReal)
    (hd : ∀ k, k < 8 → ∀ (j : Fin 1792) (h : 1792 * k + j.val < 14336), (d k : FVec Ideal S1x1x512x1792 .bf16) (ix4 0 0 a j) = E ⟨1792 * k + j.val, h⟩) :
    (dxOf (F := Ideal) g w x d : FVec Ideal S512x512 .bf16) (ix2 a b)
      = gate ((x : IVec S512x512 8) (ix2 a b)) (∑ j : Fin 14336, E j * ofI8 ((w : IVec S512x14336 8) (ix2 b j))) g := by
  rw [dxOf_apply]
  refine congrArg (fun z => gate _ z g) ?_
  have e : (∑ j : Fin 14336, E j * ofI8 ((w : IVec S512x14336 8) (ix2 b j)))
      = ∑ n ∈ Finset.range 14336, dxTerm E (fun j => ofI8 ((w : IVec S512x14336 8) (ix2 b j))) n := by
    rw [← Fin.sum_univ_eq_sum_range]
    refine Finset.sum_congr rfl fun j _ => ?_
    rw [dxTerm, dif_pos j.isLt]
  rw [e, sum_eight _ 1792 _ (by norm_num)]
  rw [part_terms w d E 0 (by omega) a b (hd 0 (by omega)), part_terms w d E 1 (by omega) a b (hd 1 (by omega)),
    part_terms w d E 2 (by omega) a b (hd 2 (by omega)), part_terms w d E 3 (by omega) a b (hd 3 (by omega)),
    part_terms w d E 4 (by omega) a b (hd 4 (by omega)), part_terms w d E 5 (by omega) a b (hd 5 (by omega)),
    part_terms w d E 6 (by omega) a b (hd 6 (by omega)), part_terms w d E 7 (by omega) a b (hd 7 (by omega))]

end Cert.Quant

end
-- ==== Proof.QuantArrays.lean ====
/- The arrays the quantiser's call leaves, at the ideal instance, from the arrays it finds: the codes, the scales, the
   dequantised gradient, the dequantised activations transposed, and the input gradient. -/
module

public import proofs.«01_k».proof.Proof.QuantDx

@[expose] public section

set_option maxRecDepth 16384

noncomputable section

namespace Cert.KernelIdeal.Gen

open Idealize.ShloMosaic Idealize.ShloMosaic.TcCoe Idealize.SL.Sem Cert.Quant
open Idealize.ShloMosaic.Pipeline (Dat)

/-! ## Where the windows' blocks lie -/

theorem qi1 : ∀ t : Fin grid1.N, win1_1.index t 0 = min (t.val / 8) 31 ∧ win1_1.index t 1 = t.val % 8 := by decide +kernel
theorem qi2 : ∀ t : Fin grid1.N, 8 ≤ t.val → win1_2.index t 0 = t.val % 8 ∧ win1_2.index t 1 = 0 := by decide +kernel
theorem qi3 : ∀ t : Fin grid1.N, 8 ≤ t.val → win1_3.index t 0 = t.val / 8 - 1 ∧ win1_3.index t 1 = t.val % 8 := by decide +kernel
theorem qi4 : ∀ t : Fin grid1.N, 8 ≤ t.val → win1_4.index t 0 = 0 ∧ win1_4.index t 1 = t.val / 8 - 1 := by decide +kernel
theorem qi5 : ∀ t : Fin grid1.N, 8 ≤ t.val → win1_5.index t 0 = t.val / 8 - 1 ∧ win1_5.index t 1 = t.val % 8 := by decide +kernel
theorem qi6 : ∀ t : Fin grid1.N, win1_6.index t 0 = min (t.val / 8) 31 ∧ win1_6.index t 1 = t.val % 8 := by decide +kernel
theorem qi7 : ∀ t : Fin grid1.N, win1_7.index t 0 = min (t.val / 8) 31 ∧ win1_7.index t 1 = 0 := by decide +kernel
theorem qi8 : ∀ t : Fin grid1.N, win1_8.index t 0 = min (t.val / 8) 31 ∧ win1_8.index t 1 = t.val % 8 := by decide +kernel
theorem qi9 : ∀ t : Fin grid1.N, 8 ≤ t.val → win1_9.index t 0 = t.val % 8 ∧ win1_9.index t 1 = t.val / 8 - 1 := by decide +kernel

variable (VI : (c : Dev nD) → (b : Ref sig .tc) → Buf (Elt Ideal) ((c : Thread nD τ).loc b))

/-- The arrays as the call finds them: the gradient, the decoded weights, the activations, their scales, the layer's scale. -/
abbrev dyArr (c : Dev nD) : FVec Ideal S16384x14336 .bf16 := VI c main_v0
abbrev wArr (c : Dev nD) : IVec S4096x14336 8 := VI c main_v3
abbrev xArr (c : Dev nD) : IVec S16384x4096 8 := VI c main_v1
abbrev xsArr (c : Dev nD) : FVec Ideal S1x16384 .f32 := VI c main_v2
abbrev gArr (c : Dev nD) : FVec Ideal S1x1 .f32 := VI c main_v4

/-- The gradient by token and feature. -/
def grad (c : Dev nD) : Grad := fun t j => dyArr VI c (ix2 t j)

theorem t_lt (t : Fin cfg1.N) : t.val < 264 := lt_of_lt_of_eq t.isLt N_1

/-- The block of the gradient at a point is a tile. -/
theorem isTile (c : Dev nD) (t : Fin cfg1.N) : IsTile (grad VI c) (qblk VI c 1 t) (min (t.val / 8) 31) (t.val % 8) := by
  intro a b h0 h1
  unfold qblk
  rw [View.read_apply]
  refine congrArg (dyArr VI c) (funext fun d => Fin.ext ?_)
  match d with
  | ⟨0, _⟩ => show win1_1.index t 0 * 512 + 1 * a.val = _; rw [(qi1 t).1]; simp [ix2]; omega
  | ⟨1, _⟩ => show win1_1.index t 1 * 1792 + 1 * b.val = _; rw [(qi1 t).2]; simp [ix2]; omega

section
variable (c : Dev nD) (hS : ∀ t n, Small (blk (grad VI c) t n))
include hS

/-! ## The codes and the dequantised gradient -/

/-- The codes of the whole gradient. -/
def codesArr : FVec Ideal S16384x14336 .fp8e5m2 := fun i => codeAt (grad VI c) (i 0) (i 1)

/-- The whole gradient dequantised. -/
def deqArr : FVec Ideal S16384x14336 .bf16 := fun i => deqAt (grad VI c) (i 0) (i 1)

theorem codes_flushed (t : Fin cfg1.N) (hf : (cfg1.win 6).flush t = true) :
    (qdat VI c).flushed 6 t = ((cfg1.win 6).blk t).view.read (Elt Ideal) (codesArr VI c) := by
  have hN := t_lt t
  show (cfg1.win 6).cut (grid1.coords t) ((qdat VI c).after 6 t) = _
  rw [qafter6]
  funext y
  rw [View.read_apply]
  have h0 : 512 * min (t.val / 8) 31 + (y 0).val < 16384 := by have : (y 0).val < 512 := (y 0).isLt; omega
  have h1 : 1792 * (t.val % 8) + (y 1).val < 14336 := by have : (y 1).val < 1792 := (y 1).isLt; omega
  have hy : (y : S512x1792.Idx) = ix2 (y 0) (y 1) := eq_ix2 y
  have hemb : ((cfg1.win 6).blk t).view.emb y = ix2 ⟨_, h0⟩ ⟨_, h1⟩ := by
    refine funext fun a => Fin.ext ?_
    match a with
    | ⟨0, _⟩ => show win1_6.index t 0 * 512 + 1 * (y 0).val = _; rw [(qi6 t).1]; simp [ix2]; omega
    | ⟨1, _⟩ => show win1_6.index t 1 * 1792 + 1 * (y 1).val = _; rw [(qi6 t).2]; simp [ix2]; omega
  rw [hemb]
  exact (congrArg (codesF (qblk VI c 1 t) : FVec Ideal S512x1792 .fp8e5m2) hy).trans
    ((codesF_apply (isTile VI c t) (by omega) hS (y 0) (y 1) h0 h1).trans (cast_eq rfl _).symm)

theorem codes_final : (qdat VI c).arrAt 6 cfg1.N = codesArr VI c :=
  (qdat VI c).arrAt_eq_of_cover 6 (codesArr VI c) (codes_flushed VI c hS) fun i => by
    have h0 : (i 0 : Nat) < 16384 := (i 0).isLt
    have h1 : (i 1 : Nat) < 14336 := (i 1).isLt
    have ht : 8 * ((i 0 : Nat) / 512) + (i 1 : Nat) / 1792 < cfg1.N := by rw [show cfg1.N = 264 from N_1]; omega
    refine ⟨⟨_, ht⟩, flush1_6 _, ?_⟩
    show i ∈ ((View.whole main_v5_1).slice (win1_6.rect ⟨_, ht⟩)).set
    rw [View.set_slice_whole, Rect.mem_set_unit]
    intro a
    match a with
    | ⟨0, _⟩ => show win1_6.index ⟨_, ht⟩ 0 * 512 ≤ (i 0 : Nat) ∧ (i 0 : Nat) < win1_6.index ⟨_, ht⟩ 0 * 512 + 512
                rw [(qi6 ⟨_, ht⟩).1]; dsimp only; omega
    | ⟨1, _⟩ => show win1_6.index ⟨_, ht⟩ 1 * 1792 ≤ (i 1 : Nat) ∧ (i 1 : Nat) < win1_6.index ⟨_, ht⟩ 1 * 1792 + 1792
                rw [(qi6 ⟨_, ht⟩).2]; dsimp only; omega

theorem deq_flushed (t : Fin cfg1.N) (hf : (cfg1.win 8).flush t = true) :
    (qdat VI c).flushed 8 t = ((cfg1.win 8).blk t).view.read (Elt Ideal) (deqArr VI c) := by
  have hN := t_lt t
  show (cfg1.win 8).cut (grid1.coords t) ((qdat VI c).after 8 t) = _
  rw [qafter8]
  funext y
  rw [View.read_apply]
  have h0 : 512 * min (t.val / 8) 31 + (y 0).val < 16384 := by have : (y 0).val < 512 := (y 0).isLt; omega
  have h1 : 1792 * (t.val % 8) + (y 1).val < 14336 := by have : (y 1).val < 1792 := (y 1).isLt; omega
  have hy : (y : S512x1792.Idx) = ix2 (y 0) (y 1) := eq_ix2 y
  have hemb : ((cfg1.win 8).blk t).view.emb y = ix2 ⟨_, h0⟩ ⟨_, h1⟩ := by
    refine funext fun a => Fin.ext ?_
    match a with
    | ⟨0, _⟩ => show win1_8.index t 0 * 512 + 1 * (y 0).val = _; rw [(qi8 t).1]; simp [ix2]; omega
    | ⟨1, _⟩ => show win1_8.index t 1 * 1792 + 1 * (y 1).val = _; rw [(qi8 t).2]; simp [ix2]; omega
  rw [hemb]
  exact (congrArg (deqF (qblk VI c 1 t) : FVec Ideal S512x1792 .bf16) hy).trans
    ((deqF_apply (isTile VI c t) (by omega) hS (y 0) (y 1) h0 h1).trans (cast_eq rfl _).symm)

theorem deq_final : (qdat VI c).arrAt 8 cfg1.N = deqArr VI c :=
  (qdat VI c).arrAt_eq_of_cover 8 (deqArr VI c) (deq_flushed VI c hS) fun i => by
    have h0 : (i 0 : Nat) < 16384 := (i 0).isLt
    have h1 : (i 1 : Nat) < 14336 := (i 1).isLt
    have ht : 8 * ((i 0 : Nat) / 512) + (i 1 : Nat) / 1792 < cfg1.N := by rw [show cfg1.N = 264 from N_1]; omega
    refine ⟨⟨_, ht⟩, flush1_8 _, ?_⟩
    show i ∈ ((View.whole main_v5_3).slice (win1_8.rect ⟨_, ht⟩)).set
    rw [View.set_slice_whole, Rect.mem_set_unit]
    intro a
    match a with
    | ⟨0, _⟩ => show win1_8.index ⟨_, ht⟩ 0 * 512 ≤ (i 0 : Nat) ∧ (i 0 : Nat) < win1_8.index ⟨_, ht⟩ 0 * 512 + 512
                rw [(qi8 ⟨_, ht⟩).1]; dsimp only; omega
    | ⟨1, _⟩ => show win1_8.index ⟨_, ht⟩ 1 * 1792 ≤ (i 1 : Nat) ∧ (i 1 : Nat) < win1_8.index ⟨_, ht⟩ 1 * 1792 + 1792
                rw [(qi8 ⟨_, ht⟩).2]; dsimp only; omega

/-! ## The scales -/

/-- The scales of the whole gradient. -/
def scalesArr : FVec Ideal S16384x112 .f32 := fun i => scaleAt (grad VI c) (i 0) (i 1)

/-- After point `n` the columns of its row of tiles reached so far hold their scales. -/
theorem qscales_apply : ∀ (n : ℕ) (hn : n < 264) (a : Fin 512) (y : Fin 112) (h0 : 512 * min (n / 8) 31 + a.val < 16384),
    y.val < 14 * (n % 8 + 1) → (qscales VI c n : FVec Ideal S512x112 .f32) (ix2 a y) = scaleAt (grad VI c) ⟨_, h0⟩ y := by
  intro n
  induction n with
  | zero =>
    intro hn a y h0 hy
    have hx := isTile VI c (qpt 0)
    rw [qscales_eq]
    unfold qtile
    rw [scalesF_apply (T := min (0 / 8) 31) (p := 0 % 8) hx (by omega) hS _ a y h0, if_pos (by omega)]
  | succ n ih =>
    intro hn a y h0 hy
    have hx := isTile VI c (qpt (n + 1))
    have hv : (qpt (n + 1)).val = n + 1 := Nat.mod_eq_of_lt hn
    rw [hv] at hx
    rw [qscales_eq]
    unfold qtile
    rw [scalesF_apply (T := min ((n + 1) / 8) 31) (p := (n + 1) % 8) hx (by omega) hS _ a y h0]
    by_cases h : 14 * ((n + 1) % 8) ≤ y.val ∧ y.val < 14 * ((n + 1) % 8) + 14
    · rw [if_pos h]
    · rw [if_neg h, if_neg (by omega)]
      have e : n / 8 = (n + 1) / 8 := by omega
      have := ih (by omega) a y (by rw [e]; exact h0) (by omega)
      simp only [e] at this
      exact this

theorem scales_flushed (t : Fin cfg1.N) (hf : (cfg1.win 7).flush t = true) :
    (qdat VI c).flushed 7 t = ((cfg1.win 7).blk t).view.read (Elt Ideal) (scalesArr VI c) := by
  have hN := t_lt t
  have h7 := ((qflush7 t).mp hf).1
  show (cfg1.win 7).cut (grid1.coords t) ((qdat VI c).after 7 t) = _
  rw [qafter7]
  funext y
  rw [View.read_apply]
  have h0 : 512 * min (t.val / 8) 31 + (y 0).val < 16384 := by have : (y 0).val < 512 := (y 0).isLt; omega
  have h1 : (y 1).val < 112 := (y 1).isLt
  have hy : (y : S512x112.Idx) = ix2 (y 0) (y 1) := eq_ix2 y
  have hemb : ((cfg1.win 7).blk t).view.emb y = ix2 ⟨_, h0⟩ (y 1) := by
    refine funext fun a => Fin.ext ?_
    match a with
    | ⟨0, _⟩ => show win1_7.index t 0 * 512 + 1 * (y 0).val = _; rw [(qi7 t).1]; simp [ix2]; omega
    | ⟨1, _⟩ => show win1_7.index t 1 * 112 + 1 * (y 1).val = _; rw [(qi7 t).2]; simp [ix2]
  rw [hemb]
  exact (congrArg (qscales VI c t.val : FVec Ideal S512x112 .f32) hy).trans
    ((qscales_apply VI c hS t.val hN (y 0) (y 1) h0 (by rw [h7]; exact h1)).trans (cast_eq rfl _).symm)

theorem scales_final : (qdat VI c).arrAt 7 cfg1.N = scalesArr VI c :=
  (qdat VI c).arrAt_eq_of_cover 7 (scalesArr VI c) (scales_flushed VI c hS) fun i => by
    have h0 : (i 0 : Nat) < 16384 := (i 0).isLt
    have h1 : (i 1 : Nat) < 112 := (i 1).isLt
    have ht : (if (i 0 : Nat) / 512 = 31 then 263 else 8 * ((i 0 : Nat) / 512) + 7) < cfg1.N := by rw [show cfg1.N = 264 from N_1]; split <;> omega
    have hq : (if (i 0 : Nat) / 512 = 31 then 263 else 8 * ((i 0 : Nat) / 512) + 7) % 8 = 7
        ∧ (if (i 0 : Nat) / 512 = 31 then 263 else 8 * ((i 0 : Nat) / 512) + 7) ≠ 255
        ∧ min ((if (i 0 : Nat) / 512 = 31 then 263 else 8 * ((i 0 : Nat) / 512) + 7) / 8) 31 = (i 0 : Nat) / 512 := by split <;> omega
    refine ⟨⟨_, ht⟩, (qflush7 _).mpr ⟨hq.1, hq.2.1⟩, ?_⟩
    show i ∈ ((View.whole main_v5_2).slice (win1_7.rect ⟨_, ht⟩)).set
    rw [View.set_slice_whole, Rect.mem_set_unit]
    intro a
    match a with
    | ⟨0, _⟩ => show win1_7.index ⟨_, ht⟩ 0 * 512 ≤ (i 0 : Nat) ∧ (i 0 : Nat) < win1_7.index ⟨_, ht⟩ 0 * 512 + 512
                rw [(qi7 ⟨_, ht⟩).1]; dsimp only; rw [hq.2.2]; omega
    | ⟨1, _⟩ => show win1_7.index ⟨_, ht⟩ 1 * 112 ≤ (i 1 : Nat) ∧ (i 1 : Nat) < win1_7.index ⟨_, ht⟩ 1 * 112 + 112
                rw [(qi7 ⟨_, ht⟩).2]; dsimp only; omega

/-! ## The input gradient -/

/-- The input gradient of the whole. -/
def dxArr : FVec Ideal S16384x4096 .bf16 := fun i =>
  gate (xArr VI c (ix2 (i 0) (i 1))) (∑ j : Fin 14336, deqAt (grad VI c) (i 0) j * ofI8 (wArr VI c (ix2 (i 1) j))) (gArr VI c (ix2 0 0))

omit hS in
theorem qblk0_apply (t : Fin cfg1.N) : (qblk VI c 0 t : FVec Ideal S1x1 .f32) (ix2 0 0) = gArr VI c (ix2 0 0) := by
  unfold qblk
  rw [View.read_apply]
  refine congrArg (gArr VI c) (funext fun a => ?_)
  have : Subsingleton (Fin (S1x1.size a)) := by fin_cases a <;> exact inferInstanceAs (Subsingleton (Fin 1))
  exact Subsingleton.elim _ _

omit hS in
theorem qblk2_apply (t : Fin cfg1.N) (h8 : 8 ≤ t.val) (b : Fin 512) (j : Fin 14336) (h0 : 512 * (t.val % 8) + b.val < 4096) :
    (qblk VI c 2 t : IVec S512x14336 8) (ix2 b j) = wArr VI c (ix2 ⟨_, h0⟩ j) := by
  unfold qblk
  rw [View.read_apply]
  refine congrArg (wArr VI c) (funext fun d => Fin.ext ?_)
  match d with
  | ⟨0, _⟩ => show win1_2.index t 0 * 512 + 1 * b.val = _; rw [(qi2 t h8).1]; simp [ix2]; omega
  | ⟨1, _⟩ => show win1_2.index t 1 * 14336 + 1 * j.val = _; rw [(qi2 t h8).2]; simp [ix2]

omit hS in
theorem qblk3_apply (t : Fin cfg1.N) (h8 : 8 ≤ t.val) (a b : Fin 512) (h0 : 512 * (t.val / 8 - 1) + a.val < 16384) (h1 : 512 * (t.val % 8) + b.val < 4096) :
    (qblk VI c 3 t : IVec S512x512 8) (ix2 a b) = xArr VI c (ix2 ⟨_, h0⟩ ⟨_, h1⟩) := by
  unfold qblk
  rw [View.read_apply]
  refine congrArg (xArr VI c) (funext fun d => Fin.ext ?_)
  match d with
  | ⟨0, _⟩ => show win1_3.index t 0 * 512 + 1 * a.val = _; rw [(qi3 t h8).1]; simp [ix2]; omega
  | ⟨1, _⟩ => show win1_3.index t 1 * 512 + 1 * b.val = _; rw [(qi3 t h8).2]; simp [ix2]; omega

omit hS in
theorem qblk4_apply (t : Fin cfg1.N) (h8 : 8 ≤ t.val) (b : Fin 512) (h0 : 512 * (t.val / 8 - 1) + b.val < 16384) :
    (qblk VI c 4 t : FVec Ideal S1x512 .f32) (ix2 0 b) = xsArr VI c (ix2 0 ⟨_, h0⟩) := by
  unfold qblk
  rw [View.read_apply]
  refine congrArg (xsArr VI c) (funext fun d => Fin.ext ?_)
  match d with
  | ⟨0, _⟩ => show win1_4.index t 0 * 1 + 1 * 0 = _; rw [(qi4 t h8).1]; simp [ix2]
  | ⟨1, _⟩ => show win1_4.index t 1 * 512 + 1 * b.val = _; rw [(qi4 t h8).2]; simp [ix2]; omega

theorem qdx_apply (t : Fin cfg1.N) (h8 : 8 ≤ t.val) (a b : Fin 512) (h0 : 512 * (t.val / 8 - 1) + a.val < 16384) (h1 : 512 * (t.val % 8) + b.val < 4096) :
    (qdx VI c t : FVec Ideal S512x512 .bf16) (ix2 a b) = dxArr VI c (ix2 ⟨_, h0⟩ ⟨_, h1⟩) := by
  have hN := t_lt t
  unfold qdx
  rw [vix2, dxOf_value _ _ _ _ a b (fun j => deqAt (grad VI c) ⟨_, h0⟩ j)]
  · rw [qblk0_apply, qblk3_apply VI c t h8 a b h0 h1]
    unfold dxArr
    congr 1
    refine Finset.sum_congr rfl fun j _ => ?_
    rw [qblk2_apply VI c t h8 b j h1]
    rfl
  · intro k hk j h
    have hv : (qpt (8 * (t.val / 8 - 1) + k)).val = 8 * (t.val / 8 - 1) + k := Nat.mod_eq_of_lt (by omega)
    have hx := isTile VI c (qpt (8 * (t.val / 8 - 1) + k))
    rw [hv, show min ((8 * (t.val / 8 - 1) + k) / 8) 31 = t.val / 8 - 1 by omega, show (8 * (t.val / 8 - 1) + k) % 8 = k by omega] at hx
    show (deqF (qblk VI c 1 (qpt (8 * (t.val / 8 - 1) + k))) : FVec Ideal S512x1792 .bf16) (ValueIdx.ix2 a j) = _
    rw [vix2]
    exact deqF_apply hx hk hS a j h0 h

theorem dx_flushed (t : Fin cfg1.N) (hf : (cfg1.win 5).flush t = true) :
    (qdat VI c).flushed 5 t = ((cfg1.win 5).blk t).view.read (Elt Ideal) (dxArr VI c) := by
  have hN := t_lt t
  have h8 := (qflush5 t).mp hf
  show (cfg1.win 5).cut (grid1.coords t) ((qdat VI c).after 5 t) = _
  rw [qafter5]
  funext y
  rw [View.read_apply]
  have h0 : 512 * (t.val / 8 - 1) + (y 0).val < 16384 := by have : (y 0).val < 512 := (y 0).isLt; omega
  have h1 : 512 * (t.val % 8) + (y 1).val < 4096 := by have : (y 1).val < 512 := (y 1).isLt; omega
  have hy : (y : S512x512.Idx) = ix2 (y 0) (y 1) := eq_ix2 y
  have hemb : ((cfg1.win 5).blk t).view.emb y = ix2 ⟨_, h0⟩ ⟨_, h1⟩ := by
    refine funext fun a => Fin.ext ?_
    match a with
    | ⟨0, _⟩ => show win1_5.index t 0 * 512 + 1 * (y 0).val = _; rw [(qi5 t h8).1]; simp [ix2]; omega
    | ⟨1, _⟩ => show win1_5.index t 1 * 512 + 1 * (y 1).val = _; rw [(qi5 t h8).2]; simp [ix2]; omega
  rw [hemb]
  exact (congrArg (qdx VI c t : FVec Ideal S512x512 .bf16) hy).trans
    ((qdx_apply VI c hS t h8 (y 0) (y 1) h0 h1).trans (cast_eq rfl _).symm)

theorem dx_final : (qdat VI c).arrAt 5 cfg1.N = dxArr VI c :=
  (qdat VI c).arrAt_eq_of_cover 5 (dxArr VI c) (dx_flushed VI c hS) fun i => by
    have h0 : (i 0 : Nat) < 16384 := (i 0).isLt
    have h1 : (i 1 : Nat) < 4096 := (i 1).isLt
    have ht : 8 * ((i 0 : Nat) / 512 + 1) + (i 1 : Nat) / 512 < cfg1.N := by rw [show cfg1.N = 264 from N_1]; omega
    have h8 : 8 ≤ (⟨_, ht⟩ : Fin cfg1.N).val := by dsimp only; omega
    refine ⟨⟨_, ht⟩, (qflush5 _).mpr h8, ?_⟩
    show i ∈ ((View.whole main_v5_0).slice (win1_5.rect ⟨_, ht⟩)).set
    rw [View.set_slice_whole, Rect.mem_set_unit]
    intro a
    match a with
    | ⟨0, _⟩ => show win1_5.index ⟨_, ht⟩ 0 * 512 ≤ (i 0 : Nat) ∧ (i 0 : Nat) < win1_5.index ⟨_, ht⟩ 0 * 512 + 512
                rw [(qi5 ⟨_, ht⟩ h8).1]; dsimp only; omega
    | ⟨1, _⟩ => show win1_5.index ⟨_, ht⟩ 1 * 512 ≤ (i 1 : Nat) ∧ (i 1 : Nat) < win1_5.index ⟨_, ht⟩ 1 * 512 + 512
                rw [(qi5 ⟨_, ht⟩ h8).2]; dsimp only; omega

end

/-! ## The activations dequantised and transposed -/

/-- The activations times their tokens' scales, transposed. -/
def xdtArr (c : Dev nD) : FVec Ideal S4096x16384 .bf16 := fun i =>
  ofI8 (xArr VI c (ix2 (i 1) (i 0))) * xsArr VI c (ix2 0 (i 1))

theorem pay3_apply (x : Vec Ideal S512x512 .i8) (s : Vec Ideal S1x512 .f32) (a b : Fin 512) :
    (k1_pay3 x s : FVec Ideal S512x512 .bf16) (ix2 a b) = ofI8 ((x : IVec S512x512 8) (ix2 b a)) * (s : FVec Ideal S1x512 .f32) (ix2 0 b) := by
  pointwise [k1_pay3]
  rfl

theorem xdt_flushed (c : Dev nD) (t : Fin cfg1.N) (hf : (cfg1.win 9).flush t = true) :
    (qdat VI c).flushed 9 t = ((cfg1.win 9).blk t).view.read (Elt Ideal) (xdtArr VI c) := by
  have hN := t_lt t
  have h8 := (qflush9 t).mp hf
  show (cfg1.win 9).cut (grid1.coords t) ((qdat VI c).after 9 t) = _
  rw [qafter9]
  funext y
  rw [View.read_apply]
  have h0 : 512 * (t.val % 8) + (y 0).val < 4096 := by have : (y 0).val < 512 := (y 0).isLt; omega
  have h1 : 512 * (t.val / 8 - 1) + (y 1).val < 16384 := by have : (y 1).val < 512 := (y 1).isLt; omega
  have hy : (y : S512x512.Idx) = ix2 (y 0) (y 1) := eq_ix2 y
  have hemb : ((cfg1.win 9).blk t).view.emb y = ix2 ⟨_, h0⟩ ⟨_, h1⟩ := by
    refine funext fun a => Fin.ext ?_
    match a with
    | ⟨0, _⟩ => show win1_9.index t 0 * 512 + 1 * (y 0).val = _; rw [(qi9 t h8).1]; simp [ix2]; omega
    | ⟨1, _⟩ => show win1_9.index t 1 * 512 + 1 * (y 1).val = _; rw [(qi9 t h8).2]; simp [ix2]; omega
  rw [hemb]
  refine (congrArg (k1_pay3 (qblk VI c 3 t) (qblk VI c 4 t) : FVec Ideal S512x512 .bf16) hy).trans ((pay3_apply (qblk VI c 3 t) (qblk VI c 4 t) (y 0) (y 1)).trans ?_)
  rw [qblk3_apply VI c t h8 (y 1) (y 0) h1 h0, qblk4_apply VI c t h8 (y 1) h1]
  exact (cast_eq rfl _).symm

theorem xdt_final (c : Dev nD) : (qdat VI c).arrAt 9 cfg1.N = xdtArr VI c :=
  (qdat VI c).arrAt_eq_of_cover 9 (xdtArr VI c) (xdt_flushed VI c) fun i => by
    have h0 : (i 0 : Nat) < 4096 := (i 0).isLt
    have h1 : (i 1 : Nat) < 16384 := (i 1).isLt
    have ht : 8 * ((i 1 : Nat) / 512 + 1) + (i 0 : Nat) / 512 < cfg1.N := by rw [show cfg1.N = 264 from N_1]; omega
    have h8 : 8 ≤ (⟨_, ht⟩ : Fin cfg1.N).val := by dsimp only; omega
    refine ⟨⟨_, ht⟩, (qflush9 _).mpr h8, ?_⟩
    show i ∈ ((View.whole main_v5_4).slice (win1_9.rect ⟨_, ht⟩)).set
    rw [View.set_slice_whole, Rect.mem_set_unit]
    intro a
    match a with
    | ⟨0, _⟩ => show win1_9.index ⟨_, ht⟩ 0 * 512 ≤ (i 0 : Nat) ∧ (i 0 : Nat) < win1_9.index ⟨_, ht⟩ 0 * 512 + 512
                rw [(qi9 ⟨_, ht⟩ h8).1]; dsimp only; omega
    | ⟨1, _⟩ => show win1_9.index ⟨_, ht⟩ 1 * 512 ≤ (i 1 : Nat) ∧ (i 1 : Nat) < win1_9.index ⟨_, ht⟩ 1 * 512 + 512
                rw [(qi9 ⟨_, ht⟩ h8).2]; dsimp only; omega

end Cert.KernelIdeal.Gen

end
-- ==== Proof.DwArray.lean ====
/-
  The weight gradient's run with its value: what each grid point leaves in its output block, and the result array.
  The grid is 2 × 7 × 16; the sixteen points of one output block are consecutive and each adds the product of a
  2048 × 1024 block of the left operand and a 1024 × 2048 block of the right one.
-/
module

public import proofs.«01_k».proof.Proof.DwRegion
public import Idealize.ShloMosaic.Lib.Pipeline.Value
public import Idealize.ShloMosaic.Lib.Pointwise
public import Idealize.ShloMosaic.Lib.Tactic

@[expose] public section

set_option maxRecDepth 16384

noncomputable section

namespace Cert.KernelIdeal.Gen.Dw

open Cert.KernelIdeal Cert.KernelIdeal.Gen Idealize.ShloMosaic Idealize.ShloMosaic.TcCoe Idealize.SL.Sem
open Idealize.ShloMosaic.Pipeline (Dat)

variable {F : FTy → Type} [FloatOps F]

theorem hz : (![0, 0] : Fin 2 → Nat) = fun _ => 0 := funext fun a => by fin_cases a <;> rfl

/-- The first point of a run of sixteen leaves the product of its two blocks. -/
theorem out_A (c : Dev nD) (i : grid2.Coords) (a3 : Memref sig .tc .vmem S2048x1024 .bf16) (h3 : a3.IsWhole)
    (a4 : Memref sig .tc .vmem S1024x2048 .bf16) (h4 : a4.IsWhole) (a5 : Memref sig .tc .vmem S2048x2048 .f32) (h5 : a5.IsWhole)
    (hc0 : cond0_0 i) (hc1 : ¬cond0_1 i) (x0 : Vec F S2048x1024 .bf16) (x1 : Vec F S1024x2048 .bf16) :
    out0_A_2 c i a3 h3 a4 h4 a5 h5 hc0 hc1 x0 x1 = k2_pay1 x0 x1 := by
  unfold out0_A_2
  rw [View.read_writes_eq_canon _ _ _ (cover0_A_2 c i a3 h3 a4 h4 a5 h5 hc0 hc1 x0 x1)]
  unfold kernelRun0_A
  dsimp only
  rw [View.canon_unit_zero hz]
  simp only [View.readAt_eq_ld, h3.read_unread, h4.read_unread, View.ld_unit_zero (S := S2048x1024) hz, View.ld_unit_zero (S := S1024x2048) hz]

/-- Every later point adds the product of its two blocks to what the point before left. -/
theorem out_B (c : Dev nD) (i : grid2.Coords) (a3 : Memref sig .tc .vmem S2048x1024 .bf16) (h3 : a3.IsWhole)
    (a4 : Memref sig .tc .vmem S1024x2048 .bf16) (h4 : a4.IsWhole) (a5 : Memref sig .tc .vmem S2048x2048 .f32) (h5 : a5.IsWhole)
    (hc0 : ¬cond0_0 i) (hc1 : cond0_1 i) (x0 : Vec F S2048x1024 .bf16) (x1 : Vec F S1024x2048 .bf16) (xo : Vec F S2048x2048 .f32) :
    out0_B_2 c i a3 h3 a4 h4 a5 h5 hc0 hc1 x0 x1 xo = k2_pay2 xo x0 x1 := by
  unfold out0_B_2
  rw [View.read_writes_eq_canon _ _ _ (cover0_B_2 c i a3 h3 a4 h4 a5 h5 hc0 hc1 x0 x1 xo)]
  unfold kernelRun0_B
  dsimp only
  rw [View.canon_unit_zero hz]
  simp only [View.readAt_eq_ld, h3.read_unread, h4.read_unread, h5.read_unread, View.ld_unit_zero (S := S2048x1024) hz,
    View.ld_unit_zero (S := S1024x2048) hz, View.ld_unit_zero (S := S2048x2048) hz]

/-! ## At the ideal instance -/

variable (VI : (c : Dev nD) → (b : Ref sig .tc) → Buf (Elt Ideal) ((c : Thread nD τ).loc b))

/-- The left operand, the right operand, as arrays of extended reals. -/
abbrev lhs (c : Dev nD) : FVec Ideal S4096x16384 .bf16 := VI c main_v5_4
abbrev rhs (c : Dev nD) : FVec Ideal S16384x14336 .bf16 := VI c main_v5_3

/-- The two blocks at a point, as arrays of extended reals. -/
abbrev blkL (c : Dev nD) (t : Fin cfg2.N) : FVec Ideal S2048x1024 .bf16 := iblk VI c 0 t
abbrev blkR (c : Dev nD) (t : Fin cfg2.N) : FVec Ideal S1024x2048 .bf16 := iblk VI c 1 t

/-- One product of the contraction, at a natural number (zero beyond the contracted axis). -/
def term (L : FVec Ideal S4096x16384 .bf16) (R : FVec Ideal S16384x14336 .bf16) (r : Fin 4096) (q : Fin 14336) (k : ℕ) : EReal :=
  if h : k < 16384 then L (ix2 r ⟨k, h⟩) * R (ix2 ⟨k, h⟩ q) else 0

/-- The first product at an index. -/
theorem pay1_apply (x0 : Vec Ideal S2048x1024 .bf16) (x1 : Vec Ideal S1024x2048 .bf16) (r q : Fin 2048) :
    (k2_pay1 x0 x1 : FVec Ideal S2048x2048 .f32) (ix2 r q) = ∑ k : Fin 1024, x0 (ix2 r k) * x1 (ix2 k q) := by
  pointwise [k2_pay1]

/-- An added product at an index. -/
theorem pay2_apply (xo : Vec Ideal S2048x2048 .f32) (x0 : Vec Ideal S2048x1024 .bf16) (x1 : Vec Ideal S1024x2048 .bf16) (r q : Fin 2048) :
    (k2_pay2 xo x0 x1 : FVec Ideal S2048x2048 .f32) (ix2 r q) = xo (ix2 r q) + ∑ k : Fin 1024, x0 (ix2 r k) * x1 (ix2 k q) := by
  pointwise [k2_pay2]

/-- Where the windows' blocks lie, point by point. -/
theorem idx0 : ∀ t : Fin grid2.N, win2_0.index t 0 = t.val / 112 ∧ win2_0.index t 1 = t.val % 16 := by decide +kernel
theorem idx1 : ∀ t : Fin grid2.N, win2_1.index t 0 = t.val % 16 ∧ win2_1.index t 1 = t.val / 16 % 7 := by decide +kernel
theorem idx2 : ∀ t : Fin grid2.N, win2_2.index t 0 = t.val / 112 ∧ win2_2.index t 1 = t.val / 16 % 7 := by decide +kernel

theorem iblk0_apply (c : Dev nD) (t : Fin cfg2.N) (r : Fin 2048) (k : Fin 1024) (h0 : t.val / 112 * 2048 + r.val < 4096) (h1 : t.val % 16 * 1024 + k.val < 16384) :
    blkL VI c t (ix2 r k) = lhs VI c (ix2 ⟨t.val / 112 * 2048 + r.val, h0⟩ ⟨t.val % 16 * 1024 + k.val, h1⟩) := by
  unfold blkL iblk
  rw [View.read_apply]
  refine congrArg (lhs VI c) (funext fun a => Fin.ext ?_)
  match a with
  | ⟨0, _⟩ => show win2_0.index t 0 * 2048 + 1 * r.val = _; rw [(idx0 t).1]; simp [ix2]
  | ⟨1, _⟩ => show win2_0.index t 1 * 1024 + 1 * k.val = _; rw [(idx0 t).2]; simp [ix2]

theorem iblk1_apply (c : Dev nD) (t : Fin cfg2.N) (k : Fin 1024) (q : Fin 2048) (h0 : t.val % 16 * 1024 + k.val < 16384) (h1 : t.val / 16 % 7 * 2048 + q.val < 14336) :
    blkR VI c t (ix2 k q) = rhs VI c (ix2 ⟨t.val % 16 * 1024 + k.val, h0⟩ ⟨t.val / 16 % 7 * 2048 + q.val, h1⟩) := by
  unfold blkR iblk
  rw [View.read_apply]
  refine congrArg (rhs VI c) (funext fun a => Fin.ext ?_)
  match a with
  | ⟨0, _⟩ => show win2_1.index t 0 * 1024 + 1 * k.val = _; rw [(idx1 t).1]; simp [ix2]
  | ⟨1, _⟩ => show win2_1.index t 1 * 2048 + 1 * q.val = _; rw [(idx1 t).2]; simp [ix2]

/-- The products of one point's blocks are the next 1024 terms of the contraction. -/
theorem block_terms (c : Dev nD) (t : Fin cfg2.N) (r q : Fin 2048) (h0 : t.val / 112 * 2048 + r.val < 4096) (h1 : t.val / 16 % 7 * 2048 + q.val < 14336) :
    (∑ k : Fin 1024, blkL VI c t (ix2 r k) * blkR VI c t (ix2 k q))
      = ∑ k ∈ Finset.range 1024, term (lhs VI c) (rhs VI c) ⟨_, h0⟩ ⟨_, h1⟩ (t.val % 16 * 1024 + k) := by
  rw [← Fin.sum_univ_eq_sum_range (fun k => term (lhs VI c) (rhs VI c) ⟨_, h0⟩ ⟨_, h1⟩ (t.val % 16 * 1024 + k))]
  refine Finset.sum_congr rfl fun k _ => ?_
  have hk : t.val % 16 * 1024 + k.val < 16384 := by omega
  rw [iblk0_apply VI c t r k h0 hk, iblk1_apply VI c t k q hk h1, term, dif_pos hk]

/-- After point `n` the output block holds the terms of the contraction reached so far. -/
theorem outsAt_apply (c : Dev nD) : ∀ (n : ℕ) (h : n < cfg2.N) (r q : Fin 2048) (h0 : n / 112 * 2048 + r.val < 4096) (h1 : n / 16 % 7 * 2048 + q.val < 14336),
    (outsAt0 VI c n h : FVec Ideal S2048x2048 .f32) (ix2 r q)
      = ∑ k ∈ Finset.range ((n % 16 + 1) * 1024), term (lhs VI c) (rhs VI c) ⟨_, h0⟩ ⟨_, h1⟩ k := by
  intro n
  induction n with
  | zero =>
    intro h r q h0 h1
    rw [outsAt0_A VI c ⟨0, h⟩ rfl (by simp), out_A, pay1_apply, block_terms VI c ⟨0, h⟩ r q h0 h1]
    simp
  | succ n ih =>
    intro h r q h0 h1
    by_cases hm : (n + 1) % 16 = 0
    · rw [outsAt0_A VI c ⟨n + 1, h⟩ hm (by dsimp only; omega), out_A, pay1_apply, block_terms VI c ⟨n + 1, h⟩ r q h0 h1]
      simp [hm]
    · rw [outsAt0_B VI c ⟨n + 1, h⟩ hm (by dsimp only; omega), out_B, pay2_apply, block_terms VI c ⟨n + 1, h⟩ r q h0 h1]
      have e0 : n / 112 = (n + 1) / 112 := by omega
      have e1 : n / 16 % 7 = (n + 1) / 16 % 7 := by omega
      have e2 : (n + 1) % 16 = n % 16 + 1 := by omega
      show (outsAt0 VI c n _ : FVec Ideal S2048x2048 .f32) (ix2 r q) + _ = _
      rw [ih (Nat.lt_of_succ_lt h) r q (by omega) (by omega)]
      simp only [e0, e1, e2]
      rw [Nat.succ_mul (n % 16 + 1) 1024, Finset.sum_range_add]

/-- The whole contraction. -/
def result (c : Dev nD) : FVec Ideal S4096x14336 .f32 :=
  fun i => ∑ k : Fin 16384, lhs VI c (ix2 (i 0) k) * rhs VI c (ix2 k (i 1))

/-- After the last point of a run the output block holds its block of the contraction. -/
theorem last_apply (c : Dev nD) (t : Fin cfg2.N) (h15 : t.val % 16 = 15) (r q : Fin 2048) (h0 : t.val / 112 * 2048 + r.val < 4096) (h1 : t.val / 16 % 7 * 2048 + q.val < 14336) :
    (outsAt0 VI c t.val t.isLt : FVec Ideal S2048x2048 .f32) (ix2 r q) = result VI c (ix2 ⟨_, h0⟩ ⟨_, h1⟩) := by
  rw [outsAt_apply VI c t.val t.isLt r q h0 h1, h15]
  unfold result
  rw [show (15 + 1) * 1024 = 16384 from by decide, ← Fin.sum_univ_eq_sum_range]
  refine Finset.sum_congr rfl fun k _ => ?_
  unfold term
  rw [dif_pos k.isLt]
  rfl

/-- What a flushing point writes back is its block of the contraction. -/
theorem flushed_eq (c : Dev nD) (t : Fin cfg2.N) (hf : (cfg2.win 2).flush t = true) :
    (dat VI c).flushed 2 t = ((cfg2.win 2).blk t).view.read (Elt Ideal) (result VI c) := by
  have h15 := (flush2_2 t).mp hf
  have hN : t.val < 224 := lt_of_lt_of_eq t.isLt (show cfg2.N = 224 from N_2)
  show (cfg2.win 2).cut (grid2.coords t) ((dat VI c).after 2 t) = _
  rw [after0_2]
  funext y
  rw [View.read_apply]
  have h0 : t.val / 112 * 2048 + (y 0).val < 4096 := by have : (y 0).val < 2048 := (y 0).isLt; omega
  have h1 : t.val / 16 % 7 * 2048 + (y 1).val < 14336 := by have : (y 1).val < 2048 := (y 1).isLt; omega
  have hy : (y : S2048x2048.Idx) = ix2 (y 0) (y 1) := eq_ix2 y
  have hemb : ((cfg2.win 2).blk t).view.emb y = ix2 ⟨_, h0⟩ ⟨_, h1⟩ := by
    refine funext fun a => Fin.ext ?_
    match a with
    | ⟨0, _⟩ => show win2_2.index t 0 * 2048 + 1 * (y 0).val = _; rw [(idx2 t).1]; simp [ix2]
    | ⟨1, _⟩ => show win2_2.index t 1 * 2048 + 1 * (y 1).val = _; rw [(idx2 t).2]; simp [ix2]
  rw [hemb]
  exact (congrArg (outsAt0 VI c t.val t.isLt : FVec Ideal S2048x2048 .f32) hy).trans ((last_apply VI c t h15 (y 0) (y 1) h0 h1).trans (cast_eq rfl _).symm)

/-- The result array is the whole contraction. -/
theorem final_o (c : Dev nD) : (dat VI c).arrAt 2 cfg2.N = result VI c :=
  (dat VI c).arrAt_eq_of_cover 2 (result VI c) (flushed_eq VI c) fun i => by
    have h0 : (i 0 : Nat) < 4096 := (i 0).isLt
    have h1 : (i 1 : Nat) < 14336 := (i 1).isLt
    have ht : (i 0 : Nat) / 2048 * 112 + (i 1 : Nat) / 2048 * 16 + 15 < cfg2.N := by rw [show cfg2.N = 224 from N_2]; omega
    refine ⟨⟨_, ht⟩, (flush2_2 _).mpr (by dsimp only; omega), ?_⟩
    show i ∈ ((View.whole main_v6).slice (win2_2.rect ⟨_, ht⟩)).set
    rw [View.set_slice_whole, Rect.mem_set_unit]
    intro a
    match a with
    | ⟨0, _⟩ => show win2_2.index ⟨_, ht⟩ 0 * 2048 ≤ (i 0 : Nat) ∧ (i 0 : Nat) < win2_2.index ⟨_, ht⟩ 0 * 2048 + 2048
                rw [(idx2 ⟨_, ht⟩).1]; dsimp only; omega
    | ⟨1, _⟩ => show win2_2.index ⟨_, ht⟩ 1 * 2048 ≤ (i 1 : Nat) ∧ (i 1 : Nat) < win2_2.index ⟨_, ht⟩ 1 * 2048 + 2048
                rw [(idx2 ⟨_, ht⟩).2]; dsimp only; omega

end Cert.KernelIdeal.Gen.Dw

end
-- ==== Proof.DecodeArray.lean ====
/- The array the decode call leaves: row `4 j + f` of the weights is the ternary value of field `f` of packed row `j`. -/
module

public import proofs.«01_k».proof.Proof.DecodeRegion
public import Idealize.ShloMosaic.Lib.Pipeline.Value
public import Idealize.ShloMosaic.Lib.Pointwise
public import Idealize.ShloMosaic.Lib.BitcastPair

@[expose] public section

set_option maxRecDepth 16384

noncomputable section

namespace Cert.KernelIdeal.Gen.Decode

open Idealize.ShloMosaic Idealize.ShloMosaic.TcCoe Idealize.SL.Sem
open Idealize.ShloMosaic.Pipeline (Dat)

/-- The ternary value of field `f` of a packed byte: 0, 1, -1 for the codes 0, 1, 2. -/
def tern (b : BitVec 8) (f : ℕ) : BitVec 8 :=
  match (b.toNat / 4 ^ f) % 4 with
  | 1 => 1#8
  | 2 => 255#8
  | _ => 0#8

/-- The word the body builds of a packed byte. -/
def word (b : BitVec 8) : BitVec 32 :=
  let v1 := b.setWidth 32
  let v10 := v1 ||| v1 <<< 6 ||| v1 <<< 12 ||| v1 <<< 18
  let lo := v10 &&& 16843009#32
  let hi := (v10.sshiftRight 1) &&& 16843009#32
  let neg := hi &&& (lo ^^^ 4294967295#32)
  (lo &&& (hi ^^^ 4294967295#32)) ||| (neg <<< 8 - neg)

/-- Byte `f` of the word is the ternary value of field `f`. -/
theorem word_byte : ∀ (b : BitVec 8) (f : Fin 4) (q : Fin 8), (word b).getLsbD (8 * f.val + q.val) = (tern b f.val).getLsbD q.val := by
  decide +kernel

/-- A byte of a column of words, at rank two. -/
theorem bitcast_32_8 (x : IVec S256x2048 32) (h : S256x2048.Bitcasts 32 S1024x2048 8) (p : Fin 1024) (l : Fin 2048) (q : ℕ) (hq : q < 8)
    (a : Fin 256) (ha : a.val = p.val / 4) :
    (bitcast S1024x2048 8 x h (ix2 p l)).getLsbD q = (x (ix2 a l)).getLsbD (8 * (p.val % 4) + q) := by
  rw [bitcast_getLsbD x h _ q hq (by decide)]
  have hr : S1024x2048.row (ix2 p l) = p.val := rfl
  rw [show (S1024x2048.row (ix2 p l) * 8 + q) % 32 = 8 * (p.val % 4) + q by rw [hr]; omega]
  congr 2
  funext c
  match c with
  | ⟨0, _⟩ => exact Fin.ext ((h.srcIdx_row _ _ _ ⟨0, Nat.zero_lt_two⟩ rfl).trans (by rw [hr]; show _ = a.val; omega))
  | ⟨1, _⟩ => exact Fin.ext (h.srcIdx_other _ _ _ ⟨1, Nat.one_lt_two⟩ (by show ¬ 1 + 2 = 2; omega))

theorem pay1_apply (x : Vec Ideal S256x2048 .i8) (p : Fin 1024) (l : Fin 2048) (a : Fin 256) (ha : a.val = p.val / 4) :
    (k0_pay1 x : IVec S1024x2048 8) (ix2 p l) = tern ((x : IVec S256x2048 8) (ix2 a l)) (p.val % 4) := by
  apply BitVec.eq_of_getLsbD_eq
  intro q hq
  rw [← word_byte _ ⟨p.val % 4, Nat.mod_lt _ (by decide)⟩ ⟨q, hq⟩]
  unfold k0_pay1
  refine (bitcast_32_8 _ _ p l q hq a ha).trans ?_
  congr 1

theorem hz : (![0, 0] : Fin 2 → Nat) = fun _ => 0 := funext fun a => by fin_cases a <;> rfl

theorem out_eq (x : Vec Ideal S256x2048 .i8) : out0_1 x = k0_pay1 x := by
  unfold out0_1
  rw [View.canon_unit_zero hz, View.ld_unit_zero (S := S256x2048) hz]

theorem idx0 : ∀ t : Fin grid0.N, win0_0.index t 0 = t.val / 7 ∧ win0_0.index t 1 = t.val % 7 := by decide +kernel
theorem idx1 : ∀ t : Fin grid0.N, win0_1.index t 0 = t.val / 7 ∧ win0_1.index t 1 = t.val % 7 := by decide +kernel

variable (VI : (c : Dev nD) → (b : Ref sig .tc) → Buf (Elt Ideal) ((c : Thread nD τ).loc b))

/-- The packed weights as the call finds them. -/
abbrev wp (c : Dev nD) : IVec S1024x14336 8 := VI c main_arg2

/-- The decoded weights. -/
def wDec (P : IVec S1024x14336 8) : IVec S4096x14336 8 := fun i =>
  tern (P (ix2 ⟨(i 0).val / 4, by have : (i 0).val < 4096 := (i 0).isLt; omega⟩ (i 1))) ((i 0).val % 4)

theorem iblk_apply (c : Dev nD) (t : Fin cfg0.N) (a : Fin 256) (l : Fin 2048) (h0 : t.val / 7 * 256 + a.val < 1024) (h1 : t.val % 7 * 2048 + l.val < 14336) :
    (iblk VI c 0 t : IVec S256x2048 8) (ix2 a l) = wp VI c (ix2 ⟨_, h0⟩ ⟨_, h1⟩) := by
  unfold iblk
  rw [View.read_apply]
  refine congrArg (wp VI c) (funext fun d => Fin.ext ?_)
  match d with
  | ⟨0, _⟩ => show win0_0.index t 0 * 256 + 1 * a.val = _; rw [(idx0 t).1]; simp [ix2]
  | ⟨1, _⟩ => show win0_0.index t 1 * 2048 + 1 * l.val = _; rw [(idx0 t).2]; simp [ix2]

theorem flushed_eq (c : Dev nD) (t : Fin cfg0.N) (hf : (cfg0.win 1).flush t = true) :
    (dat VI c).flushed 1 t = ((cfg0.win 1).blk t).view.read (Elt Ideal) (wDec (wp VI c)) := by
  have hN : t.val < 28 := lt_of_lt_of_eq t.isLt (show cfg0.N = 28 from N_0)
  show (cfg0.win 1).cut (grid0.coords t) ((dat VI c).after 1 t) = _
  rw [after0_1, out_eq]
  funext y
  rw [View.read_apply]
  have y0 : (y 0).val < 1024 := (y 0).isLt
  have y1 : (y 1).val < 2048 := (y 1).isLt
  have h0 : t.val / 7 * 1024 + (y 0).val < 4096 := by omega
  have h1 : t.val % 7 * 2048 + (y 1).val < 14336 := by omega
  have hy : (y : S1024x2048.Idx) = ix2 (y 0) (y 1) := eq_ix2 y
  have hemb : ((cfg0.win 1).blk t).view.emb y = ix2 ⟨_, h0⟩ ⟨_, h1⟩ := by
    refine funext fun a => Fin.ext ?_
    match a with
    | ⟨0, _⟩ => show win0_1.index t 0 * 1024 + 1 * (y 0).val = _; rw [(idx1 t).1]; simp [ix2]
    | ⟨1, _⟩ => show win0_1.index t 1 * 2048 + 1 * (y 1).val = _; rw [(idx1 t).2]; simp [ix2]
  rw [hemb]
  refine (congrArg (k0_pay1 (iblk VI c 0 t) : IVec S1024x2048 8) hy).trans
    ((pay1_apply (iblk VI c 0 t) (y 0) (y 1) ⟨(y 0).val / 4, by omega⟩ rfl).trans ?_)
  rw [iblk_apply VI c t _ _ (by dsimp only; omega) h1]
  refine Eq.trans ?_ (cast_eq rfl _).symm
  have e0 : t.val / 7 * 256 + (y 0).val / 4 = (t.val / 7 * 1024 + (y 0).val) / 4 := by omega
  have e1 : (y 0).val % 4 = (t.val / 7 * 1024 + (y 0).val) % 4 := by omega
  show tern (wp VI c (ix2 ⟨t.val / 7 * 256 + (y 0).val / 4, _⟩ ⟨_, h1⟩)) ((y 0).val % 4)
    = tern (wp VI c (ix2 ⟨(t.val / 7 * 1024 + (y 0).val) / 4, _⟩ ⟨_, h1⟩)) ((t.val / 7 * 1024 + (y 0).val) % 4)
  simp only [e0, ← e1]

theorem final_o (c : Dev nD) : (dat VI c).arrAt 1 cfg0.N = wDec (wp VI c) :=
  (dat VI c).arrAt_eq_of_cover 1 (wDec (wp VI c)) (flushed_eq VI c) fun i => by
    have h0 : (i 0 : Nat) < 4096 := (i 0).isLt
    have h1 : (i 1 : Nat) < 14336 := (i 1).isLt
    have ht : (i 0 : Nat) / 1024 * 7 + (i 1 : Nat) / 2048 < cfg0.N := by rw [show cfg0.N = 28 from N_0]; omega
    refine ⟨⟨_, ht⟩, flush0_1 _, ?_⟩
    show i ∈ ((View.whole main_v3).slice (win0_1.rect ⟨_, ht⟩)).set
    rw [View.set_slice_whole, Rect.mem_set_unit]
    intro a
    match a with
    | ⟨0, _⟩ => show win0_1.index ⟨_, ht⟩ 0 * 1024 ≤ (i 0 : Nat) ∧ (i 0 : Nat) < win0_1.index ⟨_, ht⟩ 0 * 1024 + 1024
                rw [(idx1 ⟨_, ht⟩).1]; dsimp only; omega
    | ⟨1, _⟩ => show win0_1.index ⟨_, ht⟩ 1 * 2048 ≤ (i 1 : Nat) ∧ (i 1 : Nat) < win0_1.index ⟨_, ht⟩ 1 * 2048 + 2048
                rw [(idx1 ⟨_, ht⟩).2]; dsimp only; omega

end Cert.KernelIdeal.Gen.Decode

end
-- ==== Proof.WholeValue.lean ====
/- The four results of the whole program at the ideal instance, each as one function of the five arguments. -/
module

public import proofs.«01_k».proof.Proof.WholeFrame
public import proofs.«01_k».proof.Proof.QuantArrays
public import proofs.«01_k».proof.Proof.DwArray
public import proofs.«01_k».proof.Proof.DecodeArray
public import Idealize.ShloMosaic.Lib.StableHlo.ReadAt

@[expose] public section

set_option maxRecDepth 16384

noncomputable section

namespace Cert.KernelIdeal.Gen

open Idealize.ShloMosaic Idealize.ShloMosaic.TcCoe Idealize.SL.Sem Cert.Quant
open Idealize.ShloMosaic.Pipeline (Dat afterRegion_arr)

/-! ## The results as functions of the arguments -/

/-- The gradient by token and feature: the argument with its two leading axes merged. -/
def gradOf (DY : FVec Ideal S8x2048x14336 .bf16) : Grad := fun t j => shapeCast S16384x14336 DY shapeCasts_S8x2048x14336_S16384x14336 (ix2 t j)
/-- The activations by token and input. -/
def actOf (X : IVec S8x2048x4096 8) (t : Fin 16384) (i : Fin 4096) : BitVec 8 := shapeCast S16384x4096 X shapeCasts_S8x2048x4096_S16384x4096 (ix2 t i)
/-- The activations' scale by token. -/
def actScaleOf (XS : FVec Ideal S8x2048 .f32) (t : Fin 16384) : EReal := shapeCast S1x16384 XS shapeCasts_S8x2048_S1x16384 (ix2 0 t)
/-- The layer's scale. -/
def gammaOf (G : FVec Ideal S_ .f32) : EReal := shapeCast S1x1 G shapeCasts_S_S1x1 (ix2 0 0)
/-- The ternary weight of input `i` and feature `j`, as an eight-bit integer. -/
def weightOf (P : IVec S1024x14336 8) (i : Fin 4096) (j : Fin 14336) : BitVec 8 :=
  Decode.tern (P (ix2 ⟨i.val / 4, by omega⟩ j)) (i.val % 4)

/-- The input gradient. -/
def resDx (X : IVec S8x2048x4096 8) (P : IVec S1024x14336 8) (G : FVec Ideal S_ .f32) (DY : FVec Ideal S8x2048x14336 .bf16) :
    FVec Ideal S16384x4096 .bf16 :=
  fun i => gate (actOf X (i 0) (i 1)) (∑ j : Fin 14336, deqAt (gradOf DY) (i 0) j * ofI8 (weightOf P (i 1) j)) (gammaOf G)
/-- The weight gradient. -/
def resDw (X : IVec S8x2048x4096 8) (XS : FVec Ideal S8x2048 .f32) (DY : FVec Ideal S8x2048x14336 .bf16) :
    FVec Ideal S4096x14336 .f32 :=
  fun i => ∑ t : Fin 16384, ofI8 (actOf X t (i 0)) * actScaleOf XS t * deqAt (gradOf DY) t (i 1)
/-- The codes. -/
def resCodes (DY : FVec Ideal S8x2048x14336 .bf16) : FVec Ideal S16384x14336 .fp8e5m2 := fun i => codeAt (gradOf DY) (i 0) (i 1)
/-- The scales. -/
def resScales (DY : FVec Ideal S8x2048x14336 .bf16) : FVec Ideal S16384x112 .f32 := fun i => scaleAt (gradOf DY) (i 0) (i 1)

/-! ## The arrays each call finds -/

variable (m : (ℓ : Loc nD τ sig) → Buf (Elt Ideal) ℓ) (c : Dev nD)

abbrev aX : IVec S8x2048x4096 8 := m ((c.tc : Thread nD τ).loc main_arg0)
abbrev aXS : FVec Ideal S8x2048 .f32 := m ((c.tc : Thread nD τ).loc main_arg1)
abbrev aP : IVec S1024x14336 8 := m ((c.tc : Thread nD τ).loc main_arg2)
abbrev aG : FVec Ideal S_ .f32 := m ((c.tc : Thread nD τ).loc main_arg3)
abbrev aDY : FVec Ideal S8x2048x14336 .bf16 := m ((c.tc : Thread nD τ).loc main_arg4)

theorem W3_v0 : W3 m c (Proc.devRef .tc main_v0) = shapeCast S16384x14336 (aDY m c) shapeCasts_S8x2048x14336_S16384x14336 := by
  rw [W3_keeps m c main_v0 (by decide), W2_keeps m c main_v0 (by decide)]
  unfold_abbrev_sides
  after_results
  rfl
theorem W3_v1 : W3 m c (Proc.devRef .tc main_v1) = shapeCast S16384x4096 (aX m c) shapeCasts_S8x2048x4096_S16384x4096 := by
  rw [W3_keeps m c main_v1 (by decide), W2_keeps m c main_v1 (by decide)]
  unfold_abbrev_sides
  after_results
  rfl
theorem W3_v2 : W3 m c (Proc.devRef .tc main_v2) = shapeCast S1x16384 (aXS m c) shapeCasts_S8x2048_S1x16384 := by
  rw [W3_keeps m c main_v2 (by decide), W2_keeps m c main_v2 (by decide)]
  unfold_abbrev_sides
  after_results
  rfl
theorem W3_v3 : W3 m c (Proc.devRef .tc main_v3) = Decode.wDec (aP m c) := by
  rw [W3_keeps m c main_v3 (by decide)]
  refine (afterRegion_arr (dat0 m c) (W1 m c) winFacts0.arr_inj 1).trans ?_
  refine (Decode.final_o (fun c b => W1 m c (Proc.devRef .tc b)) c).trans ?_
  exact congrArg Decode.wDec (W1_keeps m c main_arg2 (by decide))
theorem W3_v4 : W3 m c (Proc.devRef .tc main_v4) = shapeCast S1x1 (aG m c) shapeCasts_S_S1x1 := by
  have h : W2 m c (Proc.devRef .tc main_arg3) = aG m c := by
    rw [W2_keeps m c main_arg3 (by decide), W1_keeps m c main_arg3 (by decide)]
  refine Eq.trans ?_ (congrArg (fun z : FVec Ideal S_ .f32 => shapeCast S1x1 z shapeCasts_S_S1x1) h)
  show StableHlo.after hostOps1 (W2 m c) _ = _
  unfold hostOps1
  after_results
  rfl

/-- What the quantiser's call finds, and what the weight gradient's call finds. -/
abbrev foundQ : (c : Dev nD) → (b : Ref sig .tc) → Buf (Elt Ideal) ((c : Thread nD τ).loc b) := fun c b => W3 m c (Proc.devRef .tc b)
abbrev foundDw : (c : Dev nD) → (b : Ref sig .tc) → Buf (Elt Ideal) ((c : Thread nD τ).loc b) := fun c b => W4 m c (Proc.devRef .tc b)

theorem grad_eq : grad (foundQ m) c = gradOf (aDY m c) :=
  funext fun t => funext fun j => congrFun (W3_v0 m c) (ix2 t j)
theorem x_eq : xArr (foundQ m) c = shapeCast S16384x4096 (aX m c) shapeCasts_S8x2048x4096_S16384x4096 := W3_v1 m c
theorem xs_eq : xsArr (foundQ m) c = shapeCast S1x16384 (aXS m c) shapeCasts_S8x2048_S1x16384 := W3_v2 m c
theorem w_eq : wArr (foundQ m) c = Decode.wDec (aP m c) := W3_v3 m c
theorem g_eq : gArr (foundQ m) c = shapeCast S1x1 (aG m c) shapeCasts_S_S1x1 := W3_v4 m c

/-! ## The results -/

variable (hS : ∀ t n, Small (Cert.Quant.blk (gradOf (aDY m c)) t n))
include hS

theorem hS' : ∀ t n, Small (Cert.Quant.blk (grad (foundQ m) c) t n) := by rw [grad_eq]; exact hS

omit hS in
theorem codesArr_eq : codesArr (foundQ m) c = resCodes (aDY m c) := by
  unfold codesArr; rw [grad_eq]; rfl
omit hS in
theorem scalesArr_eq : scalesArr (foundQ m) c = resScales (aDY m c) := by
  unfold scalesArr; rw [grad_eq]; rfl
omit hS in
theorem deqArr_eq : deqArr (foundQ m) c = (fun i => deqAt (gradOf (aDY m c)) (i 0) (i 1) : FVec Ideal S16384x14336 .bf16) := by
  unfold deqArr; rw [grad_eq]
omit hS in
theorem xdtArr_eq : xdtArr (foundQ m) c = (fun i => ofI8 (actOf (aX m c) (i 1) (i 0)) * actScaleOf (aXS m c) (i 1) : FVec Ideal S4096x16384 .bf16) := by
  unfold xdtArr; rw [x_eq, xs_eq]; rfl
omit hS in
theorem dxArr_eq : dxArr (foundQ m) c = resDx (aX m c) (aP m c) (aG m c) (aDY m c) := by
  unfold dxArr; rw [x_eq, w_eq, g_eq, grad_eq]; rfl

theorem W5_codes : W5 m c (Proc.devRef .tc main_v5_1) = resCodes (aDY m c) :=
  ((W5_keeps m c main_v5_1 (by decide)).trans (afterRegion_arr (dat1 m c) (W3 m c) winFacts1.arr_inj 6)).trans
    ((codes_final (foundQ m) c (hS' m c hS)).trans (codesArr_eq m c))
theorem W5_scales : W5 m c (Proc.devRef .tc main_v5_2) = resScales (aDY m c) :=
  ((W5_keeps m c main_v5_2 (by decide)).trans (afterRegion_arr (dat1 m c) (W3 m c) winFacts1.arr_inj 7)).trans
    ((scales_final (foundQ m) c (hS' m c hS)).trans (scalesArr_eq m c))
theorem W5_dx : W5 m c (Proc.devRef .tc main_v5_0) = resDx (aX m c) (aP m c) (aG m c) (aDY m c) :=
  ((W5_keeps m c main_v5_0 (by decide)).trans (afterRegion_arr (dat1 m c) (W3 m c) winFacts1.arr_inj 5)).trans
    ((dx_final (foundQ m) c (hS' m c hS)).trans (dxArr_eq m c))

theorem W4_deq : Dw.rhs (foundDw m) c = deqArr (foundQ m) c :=
  (afterRegion_arr (dat1 m c) (W3 m c) winFacts1.arr_inj 8).trans (deq_final (foundQ m) c (hS' m c hS))
omit hS in
theorem W4_xdt : Dw.lhs (foundDw m) c = xdtArr (foundQ m) c :=
  (afterRegion_arr (dat1 m c) (W3 m c) winFacts1.arr_inj 9).trans (xdt_final (foundQ m) c)
theorem W5_dw : W5 m c (Proc.devRef .tc main_v6) = resDw (aX m c) (aXS m c) (aDY m c) := by
  refine ((afterRegion_arr (dat2 m c) (W4 m c) winFacts2.arr_inj 2).trans (Dw.final_o (foundDw m) c)).trans ?_
  unfold Dw.result
  rw [W4_deq m c hS, W4_xdt m c, deqArr_eq, xdtArr_eq]; rfl

end Cert.KernelIdeal.Gen
-- ==== Proof.ReferenceRun.lean ====
/- The reference's run: each result array after the run, named by the program's data and read block by block. -/
module

public import proofs.«01_k».proof.Proof.Gen.ReferenceIdeal.Frame
public import Idealize.ShloMosaic.Lib.Pipeline.Value

@[expose] public section

noncomputable section

namespace Cert.ReferenceIdeal.Value

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 5's array: the body's result for that window (`Gen.out0_5`: its stores
    as pieces over the input windows' blocks), read through the window's block. -/
theorem flushed5 (c : Dev nD) (t : Fin cfg0.N) :
    (dats m 0 c).flushed 5 t = (cfg0.win 5).cut (grid0.coords t) (out0_5 (iblk m c 0 t) (iblk m c 1 t) (iblk m c 2 t) (iblk m c 3 t) (iblk m c 4 t)) := by
  show (cfg0.win 5).cut (grid0.coords t) ((dats m 0 c).after 5 t) = _
  rw [after0_5]

/-- The index map sends distinct grid points to distinct block indices (decided over the 1 point). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S16384x4096.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- WHAT POINT `t` WRITES BACK to output window 6's array: the body's result for that window (`Gen.out0_6`: its stores
    as pieces over the input windows' blocks), read through the window's block. -/
theorem flushed6 (c : Dev nD) (t : Fin cfg0.N) :
    (dats m 0 c).flushed 6 t = (cfg0.win 6).cut (grid0.coords t) (out0_6 (iblk m c 0 t) (iblk m c 1 t) (iblk m c 2 t) (iblk m c 3 t) (iblk m c 4 t)) := by
  show (cfg0.win 6).cut (grid0.coords t) ((dats m 0 c).after 6 t) = _
  rw [after0_6]

/-- The index map sends distinct grid points to distinct block indices (decided over the 1 point). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S4096x14336.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- WHAT POINT `t` WRITES BACK to output window 7's array: the body's result for that window (`Gen.out0_7`: its stores
    as pieces over the input windows' blocks), read through the window's block. -/
theorem flushed7 (c : Dev nD) (t : Fin cfg0.N) :
    (dats m 0 c).flushed 7 t = (cfg0.win 7).cut (grid0.coords t) (out0_7 (iblk m c 0 t) (iblk m c 1 t) (iblk m c 2 t) (iblk m c 3 t) (iblk m c 4 t)) := by
  show (cfg0.win 7).cut (grid0.coords t) ((dats m 0 c).after 7 t) = _
  rw [after0_7]

/-- The index map sends distinct grid points to distinct block indices (decided over the 1 point). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S16384x14336.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the body's result for that window (`Gen.out0_8`: its stores
    as pieces over the input windows' blocks), read through the window's block. -/
theorem flushed8 (c : Dev nD) (t : Fin cfg0.N) :
    (dats m 0 c).flushed 8 t = (cfg0.win 8).cut (grid0.coords t) (out0_8 (iblk m c 0 t) (iblk m c 1 t) (iblk m c 2 t) (iblk m c 3 t) (iblk m c 4 t)) := by
  show (cfg0.win 8).cut (grid0.coords t) ((dats m 0 c).after 8 t) = _
  rw [after0_8]

/-- The index map sends distinct grid points to distinct block indices (decided over the 1 point). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S16384x112.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v34_0) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v34_1) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v34_2) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v34_3) = (dats m 0 c).arrAt 8 cfg0.N :=
  (h c).1 8

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v34_0) = (dats m 0 c).arrAt 5 cfg0.N
      ∧ r.2.mem ((c : Thread nD τ).loc main_v34_1) = (dats m 0 c).arrAt 6 cfg0.N
      ∧ r.2.mem ((c : Thread nD τ).loc main_v34_2) = (dats m 0 c).arrAt 7 cfg0.N
      ∧ r.2.mem ((c : Thread nD τ).loc main_v34_3) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      post6 m r h c,
      post7 m r h c,
      post8 m r h c,
      kept_main_arg0 m r h c,
      kept_main_arg1 m r h c,
      kept_main_arg2 m r h c,
      kept_main_arg3 m r h c,
      kept_main_arg4 m r h c⟩)
    (run_main m ρ)

end Cert.ReferenceIdeal.Value
-- ==== Proof.ReferencePay.lean ====
/- The reference's body at an entry, at the ideal instance: its codes, scales and dequantised gradient are the
   quantiser's, and its two products are the input gradient and the weight gradient. -/
module

public import proofs.«01_k».proof.Proof.ReferenceRun
public import proofs.«01_k».proof.Proof.QuantDx

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Cert.Quant

/-- A gradient array by token and feature. -/
def gradR (x : FVec Ideal S16384x14336 .bf16) : Grad := fun t j => x (ix2 t j)

variable (x : FVec Ideal S16384x14336 .bf16)

/-- Value `k` of a token's block `n`. -/
theorem pay3_apply (t : Fin 16384) (n : Fin 112) (k : Fin 128) :
    (k0_pay3 x : FVec Ideal S16384x112x128 .f32) (ix3 t n k) = blk (gradR x) t n.val k := by
  have hk : k.val < 128 := k.isLt
  have hn : n.val < 112 := n.isLt
  unfold blk gradR
  pointwise [k0_pay3]
  refine congrArg (fun z => x (ix2 t z)) (Fin.ext ?_)
  show n.val * 128 + k.val = (128 * n.val + k.val) % 14336
  omega

/-- The exponent of each block from its largest magnitude, as the body computes it. -/
def expOf (M : FVec Ideal S16384x112 .f32) : FVec Ideal S16384x112 .f32 :=
  let y := mulf M (broadcast S16384x112 (Scalar.ofBits .f32 0x37924925#32 : Ideal .f32))
  select (cmpf .oge y (broadcast S16384x112 (Scalar.ofBits .f32 0x00800000#32 : Ideal .f32)))
    (addf (floor (divf (log y) (log (broadcast S16384x112 (Scalar.ofBits .f32 0x40000000#32 : Ideal .f32)))))
      (broadcast S16384x112 (Scalar.ofBits .f32 0x3F800000#32 : Ideal .f32)))
    (broadcast S16384x112 (Scalar.ofBits .f32 0x00000000#32 : Ideal .f32))

theorem expOf_apply (M : FVec Ideal S16384x112 .f32) (t : Fin 16384) (n : Fin 112) :
    expOf M (ix2 t n) = refExp (M (ix2 t n) * Ideal.ofBits .f32 0x37924925#32) := by
  show Scalar.select (BitVec.ofBool (decide (Ideal.ofBits .f32 0x00800000#32 ≤ M (ix2 t n) * Ideal.ofBits .f32 0x37924925#32))) _ _ = _
  unfold refExp
  by_cases h : Ideal.ofBits .f32 0x00800000#32 ≤ M (ix2 t n) * Ideal.ofBits .f32 0x37924925#32
  · rw [decide_eq_true h, if_pos h]; rfl
  · rw [decide_eq_false h, if_neg h]; rfl

/-- The largest magnitude of each block. -/
def maxOf (v : FVec Ideal S16384x112x128 .f32) : FVec Ideal S16384x112 .f32 :=
  multiReduction .maximumf [2] S16384x112 (absf v) 0xFF800000#32 reduces_S16384x112x128_S16384x112 (.inl rfl) rfl

theorem maxOf_apply (v : FVec Ideal S16384x112x128 .f32) (t : Fin 16384) (n : Fin 112) :
    maxOf v (ix2 t n) = rowMax (fun k => v (ix3 t n k)) := by
  unfold rowMax maxOf
  refine Eq.trans (b := Finset.univ.fold max (Ideal.ofBits .f32 0xFF800000#32) fun k : Fin 128 => (absf v : FVec Ideal S16384x112x128 .f32) (ix3 t n k)) ?_
    (congrArg (fun g : Fin 128 → EReal => Finset.univ.fold max (Ideal.ofBits .f32 0xFF800000#32) g) (funext fun k => rfl))
  generalize (absf v : FVec Ideal S16384x112x128 .f32) = u
  pointwise

theorem pay4_apply (t : Fin 16384) (n : Fin 112) :
    (k0_pay4 x : FVec Ideal S16384x112 .f32) (ix2 t n) = rowExp (blk (gradR x) t n.val) := by
  have e : (k0_pay4 x : FVec Ideal S16384x112 .f32) = expOf (maxOf (k0_pay3 x)) := rfl
  rw [e, expOf_apply, maxOf_apply, funext fun k => pay3_apply x t n k]
  rfl

theorem exp2_apply {s : Shape} (v : FVec Ideal s .f32) (i : s.Idx) : (exp2 v : FVec Ideal s .f32) i = Ideal.exp2 (v i) := rfl

theorem pay5_apply (t : Fin 16384) (n : Fin 112) :
    (k0_pay5 x : FVec Ideal S16384x112 .f32) (ix2 t n) = scaleAt (gradR x) t n := by
  have e : (k0_pay5 x : FVec Ideal S16384x112 .f32) = exp2 (k0_pay4 x) := rfl
  rw [e, exp2_apply, pay4_apply]
  rfl

/-- A block's value spread over the block's elements. -/
theorem spread_apply (v : FVec Ideal S16384x112 .f32) (t : Fin 16384) (n : Fin 112) (k : Fin 128) :
    (broadcastTo S16384x112x128 (shapeCast S16384x112x1 v shapeCasts_S16384x112_S16384x112x1) broadcasts_S16384x112x1_S16384x112x128
      : FVec Ideal S16384x112x128 .f32) (ix3 t n k) = v (ix2 t n) := by
  pointwise

/-- The codes from the values and the exponents. -/
def codesOf (v : FVec Ideal S16384x112x128 .f32) (E : FVec Ideal S16384x112 .f32) : FVec Ideal S16384x112x128 .fp8e5m2 :=
  truncf .fp8e5m2 (minimumf (broadcast S16384x112x128 (Scalar.ofBits .f32 0x47600000#32 : Ideal .f32))
    (maximumf (broadcast S16384x112x128 (Scalar.ofBits .f32 0xC7600000#32 : Ideal .f32))
      (mulf v (broadcastTo S16384x112x128 (shapeCast S16384x112x1
        (exp2 (subf (broadcast S16384x112 (Scalar.ofBits .f32 0x00000000#32 : Ideal .f32)) E)) shapeCasts_S16384x112_S16384x112x1)
        broadcasts_S16384x112x1_S16384x112x128)))) bitsLt_fp8e5m2_f32

theorem codesOf_apply (v : FVec Ideal S16384x112x128 .f32) (E : FVec Ideal S16384x112 .f32) (t : Fin 16384) (n : Fin 112) (k : Fin 128) :
    codesOf v E (ix3 t n k) = min (Ideal.ofBits .f32 0x47600000#32) (max (Ideal.ofBits .f32 0xC7600000#32)
      (v (ix3 t n k) * Ideal.exp2 (Ideal.ofBits .f32 0x00000000#32 - E (ix2 t n)))) :=
  congrArg (fun z : EReal => min (Ideal.ofBits .f32 0x47600000#32) (max (Ideal.ofBits .f32 0xC7600000#32) (v (ix3 t n k) * z)))
    (spread_apply (exp2 (subf (broadcast S16384x112 (Scalar.ofBits .f32 0x00000000#32 : Ideal .f32)) E)) t n k)

theorem pay6_apply (t : Fin 16384) (n : Fin 112) (k : Fin 128) :
    (k0_pay6 x : FVec Ideal S16384x112x128 .fp8e5m2) (ix3 t n k) = code (blk (gradR x) t n.val) k := by
  have e : (k0_pay6 x : FVec Ideal S16384x112x128 .fp8e5m2) = codesOf (k0_pay3 x) (k0_pay4 x) := rfl
  rw [e, codesOf_apply, pay4_apply, pay3_apply]
  rfl

theorem pay7_apply (t : Fin 16384) (j : Fin 14336) :
    (k0_pay7 x : FVec Ideal S16384x14336 .fp8e5m2) (ix2 t j) = codeAt (gradR x) t j := by
  unfold codeAt
  refine Eq.trans ?_ (pay6_apply x t ⟨j.val / 128, by omega⟩ ⟨j.val % 128, by omega⟩)
  pointwise [k0_pay7]

theorem pay8_apply (t : Fin 16384) (j : Fin 14336) :
    (k0_pay8 x : FVec Ideal S16384x14336 .bf16) (ix2 t j) = deqAt (gradR x) t j := by
  unfold deqAt deq
  refine Eq.trans ?_ (congrArg₂ (fun a b : EReal => a * b) (pay6_apply x t ⟨j.val / 128, by omega⟩ ⟨j.val % 128, by omega⟩)
    (pay5_apply x t ⟨j.val / 128, by omega⟩))
  pointwise [k0_pay8]

theorem pay1_apply (d : FVec Ideal S16384x14336 .bf16) (w : Vec Ideal S4096x14336 .bf16) (g : Vec Ideal S1x1 .f32) (a : Vec Ideal S16384x4096 .i8)
    (t : Fin 16384) (i : Fin 4096) :
    (k0_pay1 d w g a : FVec Ideal S16384x4096 .bf16) (ix2 t i)
      = gate ((a : IVec S16384x4096 8) (ix2 t i)) (∑ j : Fin 14336, d (ix2 t j) * (w : FVec Ideal S4096x14336 .bf16) (ix2 i j))
          ((g : FVec Ideal S1x1 .f32) (ix2 0 0)) := by
  unfold gate
  pointwise [k0_pay1]

theorem pay2_apply (d : FVec Ideal S16384x14336 .bf16) (a : Vec Ideal S16384x4096 .i8) (s : Vec Ideal S16384x1 .f32)
    (i : Fin 4096) (j : Fin 14336) :
    (k0_pay2 d a s : FVec Ideal S4096x14336 .f32) (ix2 i j)
      = ∑ t : Fin 16384, ofI8 ((a : IVec S16384x4096 8) (ix2 t i)) * (s : FVec Ideal S16384x1 .f32) (ix2 t 0) * d (ix2 t j) := by
  pointwise [k0_pay2]
  rfl

end Cert.ReferenceIdeal.Value
-- ==== Proof.ReferenceHost.lean ====
/- What the reference's body finds: its five windows' arrays, from the arguments. -/
module

public import proofs.«01_k».proof.Proof.ReferenceRun
public import proofs.«01_k».proof.Proof.WholeValue
public import Idealize.ShloMosaic.Lib.StableHlo.ReadAt

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Cert.Quant

variable (m : (ℓ : Loc nD τ sig) → Buf (Elt Ideal) ℓ) (c : Dev nD)

abbrev aX : IVec S8x2048x4096 8 := m ((c : Thread nD τ).loc main_arg0)
abbrev aXS : FVec Ideal S8x2048 .f32 := m ((c : Thread nD τ).loc main_arg1)
abbrev aP : IVec S1024x14336 8 := m ((c : Thread nD τ).loc main_arg2)
abbrev aG : FVec Ideal S_ .f32 := m ((c : Thread nD τ).loc main_arg3)
abbrev aDY : FVec Ideal S8x2048x14336 .bf16 := m ((c : Thread nD τ).loc main_arg4)

theorem V_v30 : V m c main_v30 = shapeCast S16384x4096 (aX m c) shapeCasts_S8x2048x4096_S16384x4096 := by
  unfold_abbrev_sides
  after_reads_simp
  rfl
theorem V_v31 : V m c main_v31 = shapeCast S16384x1 (aXS m c) shapeCasts_S8x2048_S16384x1 := by
  unfold_abbrev_sides
  after_reads_simp
  rfl
theorem V_v32 : V m c main_v32 = shapeCast S1x1 (aG m c) shapeCasts_S_S1x1 := by
  unfold_abbrev_sides
  after_reads_simp
  rfl
theorem V_v33 : V m c main_v33 = shapeCast S16384x14336 (aDY m c) shapeCasts_S8x2048x14336_S16384x14336 := by
  unfold_abbrev_sides
  after_reads_simp
  rfl

/-- The value of field `f` of a packed byte, as the reference reads it. -/
def fieldOf (p : BitVec 8) (f : BitVec 32) : BitVec 32 := IntOp.andi (IntOp.shrsi ArithUnit.host (p.setWidth 32) f) 3#32

/-- The weight of a field's value. -/
def ternOf (v : BitVec 32) : BitVec 32 :=
  Scalar.select (IntOp.cmpi .eq v 1#32) 1#32 (Scalar.select (IntOp.cmpi .eq v 2#32) 4294967295#32 0#32)

/-- Both decodings of a byte agree. -/
theorem ternOf_eq : ∀ (p : BitVec 8) (f : Fin 4),
    (ternOf (if f.val < 1 then fieldOf p 0#32 else if f.val - 1 < 1 then fieldOf p 2#32 else if f.val - 1 - 1 < 1 then fieldOf p 4#32 else fieldOf p 6#32)).toInt
      = (Cert.KernelIdeal.Gen.Decode.tern p f.val).toInt := by
  decide +kernel

/-- The host operations up to the four fields' concatenation, and what they leave. -/
abbrev atFields : Valuation τ sig (Elt Ideal) :=
  StableHlo.upto [hostOps0, hostOps0_1, hostOps0_2, hostOps0_3, hostOps0_4].flatten (fun b => m (c, b)) 29

theorem field0 (a : Fin 1024) (b : Fin 1) (j : Fin 14336) :
    (atFields m c (Proc.tc.devRef main_v17) : IVec S1024x1x14336 32) (ix3 a b j) = fieldOf (aP m c (ix2 a j)) 0#32 := by
  unfold atFields
  after_reads_at
  rfl
theorem field1 (a : Fin 1024) (b : Fin 1) (j : Fin 14336) :
    (atFields m c (Proc.tc.devRef main_v18) : IVec S1024x1x14336 32) (ix3 a b j) = fieldOf (aP m c (ix2 a j)) 2#32 := by
  unfold atFields
  after_reads_at
  rfl
theorem field2 (a : Fin 1024) (b : Fin 1) (j : Fin 14336) :
    (atFields m c (Proc.tc.devRef main_v19) : IVec S1024x1x14336 32) (ix3 a b j) = fieldOf (aP m c (ix2 a j)) 4#32 := by
  unfold atFields
  after_reads_at
  rfl
theorem field3 (a : Fin 1024) (b : Fin 1) (j : Fin 14336) :
    (atFields m c (Proc.tc.devRef main_v20) : IVec S1024x1x14336 32) (ix3 a b j) = fieldOf (aP m c (ix2 a j)) 6#32 := by
  unfold atFields
  after_reads_at
  rfl

/-- The decoded weights. -/
theorem V_v29 (i : Fin 4096) (j : Fin 14336) :
    (V m c main_v29 : FVec Ideal S4096x14336 .bf16) (ix2 i j) = ofI8 (Cert.KernelIdeal.Gen.weightOf (aP m c) i j) := by
  unfold V
  after_reads_at
  have h0 := field0 m c
  have h1 := field1 m c
  have h2 := field2 m c
  have h3 := field3 m c
  unfold atFields at h0 h1 h2 h3
  simp only [h0, h1, h2, h3, dite_eq_ite]
  exact congrArg (fun z : ℤ => ((z : ℝ) : EReal)) (ternOf_eq (aP m c (ix2 ⟨i.val / 4, by omega⟩ j)) ⟨i.val % 4, by omega⟩)

end Cert.ReferenceIdeal.Value
-- ==== Proof.ReferenceValue.lean ====
/- The reference's four result arrays as functions of the arrays its body finds. It runs at one grid point, where every
   window's block is its whole array. -/
module

public import proofs.«01_k».proof.Proof.ReferencePay
public import proofs.«01_k».proof.Proof.ReferenceHost

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Idealize.ShloMosaic.Pipeline (Dat)
open Cert.Quant

theorem hz : (![0, 0] : Fin 2 → Nat) = fun _ => 0 := funext fun a => by fin_cases a <;> rfl

/-- A block at block index zero, of the array's own sizes, lies at its own indices. -/
theorem at_zero {i k d : ℕ} (h : i = 0) : i * d + 1 * k = k := by rw [h]; omega

/-- At block index zero every index of the array lies in the block. -/
theorem in_zero {i k d : ℕ} (h : i = 0) (hk : k < d) : i * d ≤ k ∧ k < i * d + d := by rw [h]; omega

/-- Each window's block index is zero. -/
theorem ri0 : ∀ t : Fin grid0.N, win0_0.index t 0 = 0 ∧ win0_0.index t 1 = 0 := by decide +kernel
theorem ri1 : ∀ t : Fin grid0.N, win0_1.index t 0 = 0 ∧ win0_1.index t 1 = 0 := by decide +kernel
theorem ri2 : ∀ t : Fin grid0.N, win0_2.index t 0 = 0 ∧ win0_2.index t 1 = 0 := by decide +kernel
theorem ri3 : ∀ t : Fin grid0.N, win0_3.index t 0 = 0 ∧ win0_3.index t 1 = 0 := by decide +kernel
theorem ri4 : ∀ t : Fin grid0.N, win0_4.index t 0 = 0 ∧ win0_4.index t 1 = 0 := by decide +kernel
theorem ri5 : ∀ t : Fin grid0.N, win0_5.index t 0 = 0 ∧ win0_5.index t 1 = 0 := by decide +kernel
theorem ri6 : ∀ t : Fin grid0.N, win0_6.index t 0 = 0 ∧ win0_6.index t 1 = 0 := by decide +kernel
theorem ri7 : ∀ t : Fin grid0.N, win0_7.index t 0 = 0 ∧ win0_7.index t 1 = 0 := by decide +kernel
theorem ri8 : ∀ t : Fin grid0.N, win0_8.index t 0 = 0 ∧ win0_8.index t 1 = 0 := by decide +kernel

variable (m : (ℓ : Loc nD τ sig) → Buf (Elt Ideal) ℓ) (c : Dev nD)

/-! ## The input windows' blocks are their arrays -/

theorem iblk0 (t : Fin cfg0.N) : iblk m c 0 t = V m c main_v30 := by
  funext y
  refine congrArg (V m c main_v30) (funext fun a => Fin.ext ?_)
  match a with
  | ⟨0, _⟩ => exact at_zero (ri0 t).1
  | ⟨1, _⟩ => exact at_zero (ri0 t).2
theorem iblk1 (t : Fin cfg0.N) : iblk m c 1 t = V m c main_v31 := by
  funext y
  refine congrArg (V m c main_v31) (funext fun a => Fin.ext ?_)
  match a with
  | ⟨0, _⟩ => exact at_zero (ri1 t).1
  | ⟨1, _⟩ => exact at_zero (ri1 t).2
theorem iblk2 (t : Fin cfg0.N) : iblk m c 2 t = V m c main_v29 := by
  funext y
  refine congrArg (V m c main_v29) (funext fun a => Fin.ext ?_)
  match a with
  | ⟨0, _⟩ => exact at_zero (ri2 t).1
  | ⟨1, _⟩ => exact at_zero (ri2 t).2
theorem iblk3 (t : Fin cfg0.N) : iblk m c 3 t = V m c main_v32 := by
  funext y
  refine congrArg (V m c main_v32) (funext fun a => Fin.ext ?_)
  match a with
  | ⟨0, _⟩ => exact at_zero (ri3 t).1
  | ⟨1, _⟩ => exact at_zero (ri3 t).2
theorem iblk4 (t : Fin cfg0.N) : iblk m c 4 t = V m c main_v33 := by
  funext y
  refine congrArg (V m c main_v33) (funext fun a => Fin.ext ?_)
  match a with
  | ⟨0, _⟩ => exact at_zero (ri4 t).1
  | ⟨1, _⟩ => exact at_zero (ri4 t).2

/-! ## What the body leaves in each output window -/

section
variable (x0 : Vec Ideal S16384x4096 .i8) (x1 : Vec Ideal S16384x1 .f32) (x2 : Vec Ideal S4096x14336 .bf16) (x3 : Vec Ideal S1x1 .f32)
  (x4 : Vec Ideal S16384x14336 .bf16)

theorem out5_eq : out0_5 x0 x1 x2 x3 x4 = k0_pay1 (k0_pay8 x4) x2 x3 x0 := by
  unfold out0_5 k0_pay9
  rw [View.canon_unit_zero hz, View.ld_unit_zero hz _ x4, View.ld_unit_zero hz _ x2, View.ld_unit_zero hz _ x3, View.ld_unit_zero hz _ x0]
theorem out6_eq : out0_6 x0 x1 x2 x3 x4 = k0_pay2 (k0_pay8 x4) x0 x1 := by
  unfold out0_6 k0_pay9
  rw [View.canon_unit_zero hz, View.ld_unit_zero hz _ x4, View.ld_unit_zero hz _ x0, View.ld_unit_zero hz _ x1]
theorem out7_eq : out0_7 x0 x1 x2 x3 x4 = k0_pay7 x4 := by
  unfold out0_7
  rw [View.canon_unit_zero hz, View.ld_unit_zero hz _ x4]
theorem out8_eq : out0_8 x0 x1 x2 x3 x4 = k0_pay5 x4 := by
  unfold out0_8
  rw [View.canon_unit_zero hz, View.ld_unit_zero hz _ x4]
end

/-! ## The arrays -/

theorem final5 : (dats m 0 c).arrAt 5 cfg0.N = k0_pay1 (k0_pay8 (V m c main_v33)) (V m c main_v29) (V m c main_v32) (V m c main_v30) :=
  (dats m 0 c).arrAt_eq_of_cover 5 _ (fun t _ => by
    rw [flushed5, iblk0, iblk1, iblk2, iblk3, iblk4, out5_eq]
    funext y
    rw [View.read_apply]
    have hemb : ((cfg0.win 5).blk t).view.emb y = (y : S16384x4096.Idx) := by
      refine funext fun a => Fin.ext ?_
      match a with
      | ⟨0, _⟩ => exact at_zero (ri5 t).1
      | ⟨1, _⟩ => exact at_zero (ri5 t).2
    rw [hemb]
    exact (cast_eq rfl _).symm) fun i => by
    have ht : 0 < cfg0.N := by rw [show cfg0.N = 1 from N_0]; omega
    refine ⟨⟨0, ht⟩, by rfl, ?_⟩
    show i ∈ ((View.whole main_v34_0).slice (win0_5.rect ⟨0, ht⟩)).set
    rw [View.set_slice_whole, Rect.mem_set_unit]
    intro a
    match a with
    | ⟨0, _⟩ => exact in_zero (ri5 ⟨0, ht⟩).1 (i 0).isLt
    | ⟨1, _⟩ => exact in_zero (ri5 ⟨0, ht⟩).2 (i 1).isLt

theorem final6 : (dats m 0 c).arrAt 6 cfg0.N = k0_pay2 (k0_pay8 (V m c main_v33)) (V m c main_v30) (V m c main_v31) :=
  (dats m 0 c).arrAt_eq_of_cover 6 _ (fun t _ => by
    rw [flushed6, iblk0, iblk1, iblk2, iblk3, iblk4, out6_eq]
    funext y
    rw [View.read_apply]
    have hemb : ((cfg0.win 6).blk t).view.emb y = (y : S4096x14336.Idx) := by
      refine funext fun a => Fin.ext ?_
      match a with
      | ⟨0, _⟩ => exact at_zero (ri6 t).1
      | ⟨1, _⟩ => exact at_zero (ri6 t).2
    rw [hemb]
    exact (cast_eq rfl _).symm) fun i => by
    have ht : 0 < cfg0.N := by rw [show cfg0.N = 1 from N_0]; omega
    refine ⟨⟨0, ht⟩, by rfl, ?_⟩
    show i ∈ ((View.whole main_v34_1).slice (win0_6.rect ⟨0, ht⟩)).set
    rw [View.set_slice_whole, Rect.mem_set_unit]
    intro a
    match a with
    | ⟨0, _⟩ => exact in_zero (ri6 ⟨0, ht⟩).1 (i 0).isLt
    | ⟨1, _⟩ => exact in_zero (ri6 ⟨0, ht⟩).2 (i 1).isLt

theorem final7 : (dats m 0 c).arrAt 7 cfg0.N = k0_pay7 (V m c main_v33) :=
  (dats m 0 c).arrAt_eq_of_cover 7 _ (fun t _ => by
    rw [flushed7, iblk0, iblk1, iblk2, iblk3, iblk4, out7_eq]
    funext y
    rw [View.read_apply]
    have hemb : ((cfg0.win 7).blk t).view.emb y = (y : S16384x14336.Idx) := by
      refine funext fun a => Fin.ext ?_
      match a with
      | ⟨0, _⟩ => exact at_zero (ri7 t).1
      | ⟨1, _⟩ => exact at_zero (ri7 t).2
    rw [hemb]
    exact (cast_eq rfl _).symm) fun i => by
    have ht : 0 < cfg0.N := by rw [show cfg0.N = 1 from N_0]; omega
    refine ⟨⟨0, ht⟩, by rfl, ?_⟩
    show i ∈ ((View.whole main_v34_2).slice (win0_7.rect ⟨0, ht⟩)).set
    rw [View.set_slice_whole, Rect.mem_set_unit]
    intro a
    match a with
    | ⟨0, _⟩ => exact in_zero (ri7 ⟨0, ht⟩).1 (i 0).isLt
    | ⟨1, _⟩ => exact in_zero (ri7 ⟨0, ht⟩).2 (i 1).isLt

theorem final8 : (dats m 0 c).arrAt 8 cfg0.N = k0_pay5 (V m c main_v33) :=
  (dats m 0 c).arrAt_eq_of_cover 8 _ (fun t _ => by
    rw [flushed8, iblk0, iblk1, iblk2, iblk3, iblk4, out8_eq]
    funext y
    rw [View.read_apply]
    have hemb : ((cfg0.win 8).blk t).view.emb y = (y : S16384x112.Idx) := by
      refine funext fun a => Fin.ext ?_
      match a with
      | ⟨0, _⟩ => exact at_zero (ri8 t).1
      | ⟨1, _⟩ => exact at_zero (ri8 t).2
    rw [hemb]
    exact (cast_eq rfl _).symm) fun i => by
    have ht : 0 < cfg0.N := by rw [show cfg0.N = 1 from N_0]; omega
    refine ⟨⟨0, ht⟩, by rfl, ?_⟩
    show i ∈ ((View.whole main_v34_3).slice (win0_8.rect ⟨0, ht⟩)).set
    rw [View.set_slice_whole, Rect.mem_set_unit]
    intro a
    match a with
    | ⟨0, _⟩ => exact in_zero (ri8 ⟨0, ht⟩).1 (i 0).isLt
    | ⟨1, _⟩ => exact in_zero (ri8 ⟨0, ht⟩).2 (i 1).isLt

/-! ## The results, as the functions of the arguments that the kernel's are -/

open Cert.KernelIdeal.Gen (gradOf actOf actScaleOf gammaOf weightOf resDx resDw resCodes resScales)

theorem grad_eq : gradR (V m c main_v33) = gradOf (aDY m c) :=
  funext fun t => funext fun j => congrFun (V_v33 m c) (ix2 t j)

/-- A token's scale is the same element of the argument in the two programs' layouts. -/
theorem scale_eq (XS : FVec Ideal S8x2048 .f32) (t : Fin 16384) :
    (shapeCast S16384x1 XS shapeCasts_S8x2048_S16384x1 : FVec Ideal S16384x1 .f32) (ix2 t 0) = actScaleOf XS t := by
  unfold actScaleOf
  pointwise

theorem codes_eq : (dats m 0 c).arrAt 7 cfg0.N = resCodes (aDY m c) := by
  refine (final7 m c).trans ?_
  funext i
  refine (congrArg (k0_pay7 (V m c main_v33) : FVec Ideal S16384x14336 .fp8e5m2) (eq_ix2 i)).trans ((pay7_apply _ (i 0) (i 1)).trans ?_)
  exact congrArg (fun D => codeAt D (i 0) (i 1)) (grad_eq m c)
theorem scales_eq : (dats m 0 c).arrAt 8 cfg0.N = resScales (aDY m c) := by
  refine (final8 m c).trans ?_
  funext i
  refine (congrArg (k0_pay5 (V m c main_v33) : FVec Ideal S16384x112 .f32) (eq_ix2 i)).trans ((pay5_apply _ (i 0) (i 1)).trans ?_)
  exact congrArg (fun D => scaleAt D (i 0) (i 1)) (grad_eq m c)
/-- The body's input gradient, from what its operands are at an entry. -/
theorem dx_of (x4 : FVec Ideal S16384x14336 .bf16) (w : Vec Ideal S4096x14336 .bf16) (g : Vec Ideal S1x1 .f32) (x : Vec Ideal S16384x4096 .i8)
    (D : Grad) (W : Fin 4096 → Fin 14336 → BitVec 8) (γ : EReal) (X : Fin 16384 → Fin 4096 → BitVec 8) (h4 : gradR x4 = D)
    (hw : ∀ i j, (w : FVec Ideal S4096x14336 .bf16) (ix2 i j) = ofI8 (W i j)) (hg : (g : FVec Ideal S1x1 .f32) (ix2 0 0) = γ)
    (hx : ∀ t i, (x : IVec S16384x4096 8) (ix2 t i) = X t i) (t : Fin 16384) (i : Fin 4096) :
    (k0_pay1 (k0_pay8 x4) w g x : FVec Ideal S16384x4096 .bf16) (ix2 t i) = gate (X t i) (∑ j : Fin 14336, deqAt D t j * ofI8 (W i j)) γ := by
  rw [pay1_apply, hx, hg]
  refine congrArg (fun s => gate (X t i) s γ) (Finset.sum_congr rfl fun j _ => ?_)
  rw [pay8_apply, hw, h4]
theorem dx_eq : (dats m 0 c).arrAt 5 cfg0.N = resDx (aX m c) (aP m c) (aG m c) (aDY m c) :=
  (final5 m c).trans (funext fun i =>
    (congrArg (k0_pay1 (k0_pay8 (V m c main_v33)) (V m c main_v29) (V m c main_v32) (V m c main_v30) : FVec Ideal S16384x4096 .bf16) (eq_ix2 i)).trans
      (dx_of (V m c main_v33) (V m c main_v29) (V m c main_v32) (V m c main_v30) (gradOf (aDY m c)) (weightOf (aP m c)) (gammaOf (aG m c))
        (actOf (aX m c)) (grad_eq m c) (V_v29 m c) (congrFun (V_v32 m c) (ix2 0 0)) (fun t i => congrFun (V_v30 m c) (ix2 t i)) (i 0) (i 1)))
theorem dw_eq : (dats m 0 c).arrAt 6 cfg0.N = resDw (aX m c) (aXS m c) (aDY m c) := by
  refine (final6 m c).trans ?_
  funext i
  refine (congrArg (k0_pay2 (k0_pay8 (V m c main_v33)) (V m c main_v30) (V m c main_v31) : FVec Ideal S4096x14336 .f32) (eq_ix2 i)).trans
    ((pay2_apply _ _ _ (i 0) (i 1)).trans ?_)
  rw [V_v30, V_v31]
  refine Finset.sum_congr rfl fun t _ => ?_
  exact congrArg₂ (fun a b : EReal => a * b)
    (congrArg (fun s : EReal => ofI8 (actOf (aX m c) t (i 0)) * s) (scale_eq (aXS m c) t))
    ((pay8_apply _ t (i 1)).trans (congrArg (fun D => deqAt D t (i 1)) (grad_eq m c)))

end Cert.ReferenceIdeal.Value
-- ==== Proof.Finite.lean ====
/- The precondition: when every element of the gradient is at most the largest finite value in magnitude, the blocks'
   largest magnitudes are finite, and small once divided by the largest code. -/
module

public import proofs.«01_k».proof.Proof.WholeValue
public import proofs.«01_k».proof.Proof.Gen.Pre_finite
public import Idealize.ShloMosaic.Lib.ReduceAll

@[expose] public section

set_option maxRecDepth 16384

noncomputable section

namespace Cert.Quant

open Idealize.ShloMosaic Cert.KernelIdeal Cert.KernelIdeal.Gen

/-- The largest finite value of the gradient's format. -/
theorem top_bf16 : ∃ y : ℝ, 0 ≤ y ∧ y < (2 : ℝ) ^ (128 : ℤ) ∧ Ideal.ofBits .bf16 0x7F7F#16 = (y : EReal) := by
  unfold Ideal.ofBits Ideal.ieee
  have h1 : ((0x7F7F#16 : BitVec 16).extractLsb' 7 8).toNat = 254 := by decide
  have h2 : ((0x7F7F#16 : BitVec 16).extractLsb' 0 7).toNat = 127 := by decide
  have h3 : ((0x7F7F#16 : BitVec 16).extractLsb' (8 + 7) 1 == 1#1) = false := by decide
  simp only [h1, h2, h3]
  rw [if_neg (by omega), if_neg (by omega)]
  refine ⟨_, ?_, ?_, rfl⟩
  · norm_num
  · norm_num

/-- A block whose values are at most the largest finite value in magnitude. -/
theorem small_of_le (f : Fin 128 → EReal) (h : ∀ k, max (f k) (-f k) ≤ Ideal.ofBits .bf16 0x7F7F#16) : Small f := by
  obtain ⟨b, hb0, hb1, hb⟩ := top_bf16
  obtain ⟨q, hq0, hq1, hq⟩ := factor_nonneg_lt
  obtain ⟨r0, r1⟩ := rowMax_le f (Ideal.ofBits .bf16 0x7F7F#16) (by rw [hb]; exact EReal.coe_nonneg.mpr hb0) h
  rw [hb] at r1
  obtain ⟨r, hr⟩ : ∃ r : ℝ, rowMax f = (r : EReal) :=
    ⟨(rowMax f).toReal, (EReal.coe_toReal (ne_of_lt (lt_of_le_of_lt r1 (EReal.coe_lt_top b))) (ne_of_gt (lt_of_lt_of_le EReal.bot_lt_zero r0))).symm⟩
  rw [hr] at r0 r1
  have h0 : 0 ≤ r := EReal.coe_nonneg.mp r0
  have h1 : r ≤ b := EReal.coe_le_coe_iff.mp r1
  refine ⟨r * q, mul_nonneg h0 hq0, ?_, by rw [hr, hq, EReal.coe_mul]⟩
  calc r * q ≤ (2 : ℝ) ^ (128 : ℤ) * (2 : ℝ) ^ (-15 : ℤ) := mul_le_mul (h1.trans hb1.le) hq1.le hq0 (by positivity)
    _ < (2 : ℝ) ^ (120 : ℤ) := by norm_num

/-- Under the precondition every block of the gradient is small. -/
theorem small_of_finite (X : IVec S8x2048x4096 8) (XS : FVec Ideal S8x2048 .f32) (P : IVec S1024x14336 8) (G : FVec Ideal S_ .f32)
    (DY : FVec Ideal S8x2048x14336 .bf16)
    (h : letI := Cert.Pre_finite.Gen.facts; ∀ i, Cert.Pre_finite.fn (F := Ideal) X XS P G DY i = 1#1) (t : Fin 16384) (n : ℕ) :
    Small (Cert.Quant.blk (gradOf DY) t n) := by
  letI := Cert.Pre_finite.Gen.facts
  refine small_of_le _ fun k => ?_
  have e := fun i => Host.reduce_andi_all _ _ _ _ _ (h (fun a => a.elim0)) i
  obtain ⟨i, hi⟩ : ∃ i, Cert.Quant.blk (gradOf DY) t n k = DY i := ⟨_, rfl⟩
  have d : BitVec.ofBool (decide (max (DY i) (-DY i) ≤ Ideal.ofBits .bf16 0x7F7F#16)) = 1#1 := e i
  rw [hi]
  by_contra hc
  rw [decide_eq_false hc] at d
  exact absurd d (by decide)

end Cert.Quant
-- ==== Proof.lean ====
/- The whole kernel — decoding, quantisation with the input gradient, weight gradient — against the plain reference:
   both frames, the reference's frame, no rewrite to preserve, and the equality of all four results over the extended
   reals for every finite gradient. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.KernelFrame
public import proofs.«01_k».proof.Proof.WholeValue
public import proofs.«01_k».proof.Proof.ReferenceValue
public import proofs.«01_k».proof.Proof.Finite
public import Idealize.ShloMosaic.Adequacy
public import Idealize.ShloMosaic.Init

@[expose] public section

set_option maxRecDepth 16384

noncomputable section

namespace Cert.Proof

open Idealize.ShloMosaic Idealize.SL.Sem Idealize.ShloMosaic.TcCoe
open Cert.KernelIdeal.Gen (aX aXS aP aG aDY resDx resDw resCodes resScales W5_dx W5_dw W5_codes W5_scales W5_arg)
open Idealize.ShloMosaic.Pipeline (devRef_mem_ucRefs)

/-- The kernel's run: its four results as functions of the arguments, the arguments as launched. -/
theorem kernel_run (m : (ℓ : Loc Cert.KernelIdeal.nD Cert.KernelIdeal.τ Cert.KernelIdeal.sig) → Buf (Elt Ideal) ℓ)
    (g : Dev Cert.KernelIdeal.nD → PrngReg)
    (hS : ∀ c t n, Cert.Quant.Small (Cert.Quant.blk (Cert.KernelIdeal.Gen.gradOf (aDY m c)) t n)) :
    θ_run (Cert.KernelIdeal.defs (F := Ideal)) (onTc (τ := Cert.KernelIdeal.τ) (Cert.KernelIdeal.main (F := Ideal))) ⟨m, fun _ => 0, g⟩ (fun r =>
      ∀ c : Dev Cert.KernelIdeal.nD,
      r.2.mem ((c.tc : Thread Cert.KernelIdeal.nD Cert.KernelIdeal.τ).loc Cert.KernelIdeal.main_v5_0) = resDx (aX m c) (aP m c) (aG m c) (aDY m c)
      ∧ r.2.mem ((c.tc : Thread Cert.KernelIdeal.nD Cert.KernelIdeal.τ).loc Cert.KernelIdeal.main_v6) = resDw (aX m c) (aXS m c) (aDY m c)
      ∧ r.2.mem ((c.tc : Thread Cert.KernelIdeal.nD Cert.KernelIdeal.τ).loc Cert.KernelIdeal.main_v5_1) = resCodes (aDY m c)
      ∧ r.2.mem ((c.tc : Thread Cert.KernelIdeal.nD Cert.KernelIdeal.τ).loc Cert.KernelIdeal.main_v5_2) = resScales (aDY m c)) :=
  (θ_run _ _ _).mono (fun _ h c =>
    ⟨(h.1 c _ (devRef_mem_ucRefs (b := Cert.KernelIdeal.main_v5_0) rfl)).trans (W5_dx m c (hS c)),
     (h.1 c _ (devRef_mem_ucRefs (b := Cert.KernelIdeal.main_v6) rfl)).trans (W5_dw m c (hS c)),
     (h.1 c _ (devRef_mem_ucRefs (b := Cert.KernelIdeal.main_v5_1) rfl)).trans (W5_codes m c (hS c)),
     (h.1 c _ (devRef_mem_ucRefs (b := Cert.KernelIdeal.main_v5_2) rfl)).trans (W5_scales m c (hS c))⟩)
    (Cert.KernelIdeal.Gen.wrun m g)

theorem claim : Cert.Claim := ⟨Cert.Kernel.Gen.facts, Cert.KernelIdeal.Gen.facts, Cert.ReferenceIdeal.Gen.facts, Cert.Pre_finite.Gen.facts,
  fun m ρ _ => Cert.Kernel.Gen.wframe m ρ,
  fun m ρ _ => Cert.KernelIdeal.Gen.wframe m ρ,
  fun m ρ _ => Cert.KernelIdeal.Gen.wframe m ρ,
  fun m ρ _ => Cert.ReferenceIdeal.Gen.frame m ρ,
  fun m ρ _ => Cert.ReferenceIdeal.Gen.frame m ρ,
  trivial,
  fun m g m' g' hpre hargs => by
    have hS : ∀ c t n, Cert.Quant.Small (Cert.Quant.blk (Cert.KernelIdeal.Gen.gradOf (aDY m c)) t n) := fun c t n =>
      Cert.Quant.small_of_finite (aX m c) (aXS m c) (aP m c) (aG m c) (aDY m c) (fun i => congrFun (hpre c) i) t n
    refine ⟨fun c => resDx (aX m c) (aP m c) (aG m c) (aDY m c), fun c => resDw (aX m c) (aXS m c) (aDY m c),
      fun c => resCodes (aDY m c), fun c => resScales (aDY m c), ?_, ?_⟩
    · refine (θ_run _ _ _).mono (fun r h c => ?_) (θ_run_and (kernel_run m g hS) (Cert.KernelIdeal.Gen.wframe m g))
      obtain ⟨h, k, -⟩ := h
      exact ⟨(h c).1, (h c).2.1, (h c).2.2.1, (h c).2.2.2, k c⟩
    · refine (θ_run _ _ _).mono (fun r h c => ?_) (Cert.ReferenceIdeal.Value.run_blocks m' g')
      obtain ⟨e0, e1, e2, e3, e4⟩ := hargs c
      obtain ⟨h0, h1, h2, h3, hk⟩ := h c
      have a0 : Cert.ReferenceIdeal.Value.aX m' c = aX m c := e0
      have a1 : Cert.ReferenceIdeal.Value.aXS m' c = aXS m c := e1
      have a2 : Cert.ReferenceIdeal.Value.aP m' c = aP m c := e2
      have a3 : Cert.ReferenceIdeal.Value.aG m' c = aG m c := e3
      have a4 : Cert.ReferenceIdeal.Value.aDY m' c = aDY m c := e4
      refine ⟨h0.trans ((Cert.ReferenceIdeal.Value.dx_eq m' c).trans ?_), h1.trans ((Cert.ReferenceIdeal.Value.dw_eq m' c).trans ?_),
        h2.trans ((Cert.ReferenceIdeal.Value.codes_eq m' c).trans ?_), h3.trans ((Cert.ReferenceIdeal.Value.scales_eq m' c).trans ?_), hk⟩
      · rw [a0, a2, a3, a4]
      · rw [a0, a1, a4]
      · rw [a4]
      · rw [a4]⟩

end Cert.Proof

end
